-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6)
      ∧ r.2.mem ((c.tc : Thread Cert.First.nD Cert.First.τ).loc Cert.First.main_arg7) = m ((c.tc : Thread Cert.First.nD Cert.First.τ).loc Cert.First.main_arg7)
      ∧ r.2.mem ((c.tc : Thread Cert.First.nD Cert.First.τ).loc Cert.First.main_arg8) = m ((c.tc : Thread Cert.First.nD Cert.First.τ).loc Cert.First.main_arg8)
      ∧ r.2.mem ((c.tc : Thread Cert.First.nD Cert.First.τ).loc Cert.First.main_arg9) = m ((c.tc : Thread Cert.First.nD Cert.First.τ).loc Cert.First.main_arg9)
      ∧ r.2.mem ((c.tc : Thread Cert.First.nD Cert.First.τ).loc Cert.First.main_arg10) = m ((c.tc : Thread Cert.First.nD Cert.First.τ).loc Cert.First.main_arg10)
      ∧ r.2.mem ((c.tc : Thread Cert.First.nD Cert.First.τ).loc Cert.First.main_arg11) = m ((c.tc : Thread Cert.First.nD Cert.First.τ).loc Cert.First.main_arg11)
      ∧ r.2.mem ((c.tc : Thread Cert.First.nD Cert.First.τ).loc Cert.First.main_arg12) = m ((c.tc : Thread Cert.First.nD Cert.First.τ).loc Cert.First.main_arg12)
      ∧ r.2.mem ((c.tc : Thread Cert.First.nD Cert.First.τ).loc Cert.First.main_arg13) = m ((c.tc : Thread Cert.First.nD Cert.First.τ).loc Cert.First.main_arg13)
      ∧ r.2.mem ((c.tc : Thread Cert.First.nD Cert.First.τ).loc Cert.First.main_arg14) = m ((c.tc : Thread Cert.First.nD Cert.First.τ).loc Cert.First.main_arg14)
      ∧ r.2.mem ((c.tc : Thread Cert.First.nD Cert.First.τ).loc Cert.First.main_arg15) = m ((c.tc : Thread Cert.First.nD Cert.First.τ).loc Cert.First.main_arg15)
      ∧ r.2.mem ((c.tc : Thread Cert.First.nD Cert.First.τ).loc Cert.First.main_arg16) = m ((c.tc : Thread Cert.First.nD Cert.First.τ).loc Cert.First.main_arg16)
      ∧ r.2.mem ((c.tc : Thread Cert.First.nD Cert.First.τ).loc Cert.First.main_arg17) = m ((c.tc : Thread Cert.First.nD Cert.First.τ).loc Cert.First.main_arg17)
      ∧ r.2.mem ((c.tc : Thread Cert.First.nD Cert.First.τ).loc Cert.First.main_arg18) = m ((c.tc : Thread Cert.First.nD Cert.First.τ).loc Cert.First.main_arg18)
      ∧ r.2.mem ((c.tc : Thread Cert.First.nD Cert.First.τ).loc Cert.First.main_arg19) = m ((c.tc : Thread Cert.First.nD Cert.First.τ).loc Cert.First.main_arg19)
      ∧ r.2.mem ((c.tc : Thread Cert.First.nD Cert.First.τ).loc Cert.First.main_arg20) = m ((c.tc : Thread Cert.First.nD Cert.First.τ).loc Cert.First.main_arg20))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
      ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8)
      ∧ r.2.mem ((c.tc : Thread Cert.FirstIdeal.nD Cert.FirstIdeal.τ).loc Cert.FirstIdeal.main_arg9) = m ((c.tc : Thread Cert.FirstIdeal.nD Cert.FirstIdeal.τ).loc Cert.FirstIdeal.main_arg9)
      ∧ r.2.mem ((c.tc : Thread Cert.FirstIdeal.nD Cert.FirstIdeal.τ).loc Cert.FirstIdeal.main_arg10) = m ((c.tc : Thread Cert.FirstIdeal.nD Cert.FirstIdeal.τ).loc Cert.FirstIdeal.main_arg10)
      ∧ r.2.mem ((c.tc : Thread Cert.FirstIdeal.nD Cert.FirstIdeal.τ).loc Cert.FirstIdeal.main_arg11) = m ((c.tc : Thread Cert.FirstIdeal.nD Cert.FirstIdeal.τ).loc Cert.FirstIdeal.main_arg11)
      ∧ r.2.mem ((c.tc : Thread Cert.FirstIdeal.nD Cert.FirstIdeal.τ).loc Cert.FirstIdeal.main_arg12) = m ((c.tc : Thread Cert.FirstIdeal.nD Cert.FirstIdeal.τ).loc Cert.FirstIdeal.main_arg12)
      ∧ r.2.mem ((c.tc : Thread Cert.FirstIdeal.nD Cert.FirstIdeal.τ).loc Cert.FirstIdeal.main_arg13) = m ((c.tc : Thread Cert.FirstIdeal.nD Cert.FirstIdeal.τ).loc Cert.FirstIdeal.main_arg13)
      ∧ r.2.mem ((c.tc : Thread Cert.FirstIdeal.nD Cert.FirstIdeal.τ).loc Cert.FirstIdeal.main_arg14) = m ((c.tc : Thread Cert.FirstIdeal.nD Cert.FirstIdeal.τ).loc Cert.FirstIdeal.main_arg14)
      ∧ r.2.mem ((c.tc : Thread Cert.FirstIdeal.nD Cert.FirstIdeal.τ).loc Cert.FirstIdeal.main_arg15) = m ((c.tc : Thread Cert.FirstIdeal.nD Cert.FirstIdeal.τ).loc Cert.FirstIdeal.main_arg15)
      ∧ r.2.mem ((c.tc : Thread Cert.FirstIdeal.nD Cert.FirstIdeal.τ).loc Cert.FirstIdeal.main_arg16) = m ((c.tc : Thread Cert.FirstIdeal.nD Cert.FirstIdeal.τ).loc Cert.FirstIdeal.main_arg16)
      ∧ r.2.mem ((c.tc : Thread Cert.FirstIdeal.nD Cert.FirstIdeal.τ).loc Cert.FirstIdeal.main_arg17) = m ((c.tc : Thread Cert.FirstIdeal.nD Cert.FirstIdeal.τ).loc Cert.FirstIdeal.main_arg17)
      ∧ r.2.mem ((c.tc : Thread Cert.FirstIdeal.nD Cert.FirstIdeal.τ).loc Cert.FirstIdeal.main_arg18) = m ((c.tc : Thread Cert.FirstIdeal.nD Cert.FirstIdeal.τ).loc Cert.FirstIdeal.main_arg18)
      ∧ r.2.mem ((c.tc : Thread Cert.FirstIdeal.nD Cert.FirstIdeal.τ).loc Cert.FirstIdeal.main_arg19) = m ((c.tc : Thread Cert.FirstIdeal.nD Cert.FirstIdeal.τ).loc Cert.FirstIdeal.main_arg19)
      ∧ r.2.mem ((c.tc : Thread Cert.FirstIdeal.nD Cert.FirstIdeal.τ).loc Cert.FirstIdeal.main_arg20) = m ((c.tc : Thread Cert.FirstIdeal.nD Cert.FirstIdeal.τ).loc Cert.FirstIdeal.main_arg20))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4)
      ∧ r.2.mem ((c.tc : Thread Cert.FirstRefIdeal.nD Cert.FirstRefIdeal.τ).loc Cert.FirstRefIdeal.main_arg5) = m ((c.tc : Thread Cert.FirstRefIdeal.nD Cert.FirstRefIdeal.τ).loc Cert.FirstRefIdeal.main_arg5)
      ∧ r.2.mem ((c.tc : Thread Cert.FirstRefIdeal.nD Cert.FirstRefIdeal.τ).loc Cert.FirstRefIdeal.main_arg6) = m ((c.tc : Thread Cert.FirstRefIdeal.nD Cert.FirstRefIdeal.τ).loc Cert.FirstRefIdeal.main_arg6)
      ∧ r.2.mem ((c.tc : Thread Cert.FirstRefIdeal.nD Cert.FirstRefIdeal.τ).loc Cert.FirstRefIdeal.main_arg7) = m ((c.tc : Thread Cert.FirstRefIdeal.nD Cert.FirstRefIdeal.τ).loc Cert.FirstRefIdeal.main_arg7)
      ∧ r.2.mem ((c.tc : Thread Cert.FirstRefIdeal.nD Cert.FirstRefIdeal.τ).loc Cert.FirstRefIdeal.main_arg8) = m ((c.tc : Thread Cert.FirstRefIdeal.nD Cert.FirstRefIdeal.τ).loc Cert.FirstRefIdeal.main_arg8)
      ∧ r.2.mem ((c.tc : Thread Cert.FirstRefIdeal.nD Cert.FirstRefIdeal.τ).loc Cert.FirstRefIdeal.main_arg9) = m ((c.tc : Thread Cert.FirstRefIdeal.nD Cert.FirstRefIdeal.τ).loc Cert.FirstRefIdeal.main_arg9)
      ∧ r.2.mem ((c.tc : Thread Cert.FirstRefIdeal.nD Cert.FirstRefIdeal.τ).loc Cert.FirstRefIdeal.main_arg10) = m ((c.tc : Thread Cert.FirstRefIdeal.nD Cert.FirstRefIdeal.τ).loc Cert.FirstRefIdeal.main_arg10)
      ∧ r.2.mem ((c.tc : Thread Cert.FirstRefIdeal.nD Cert.FirstRefIdeal.τ).loc Cert.FirstRefIdeal.main_arg11) = m ((c.tc : Thread Cert.FirstRefIdeal.nD Cert.FirstRefIdeal.τ).loc Cert.FirstRefIdeal.main_arg11)
      ∧ r.2.mem ((c.tc : Thread Cert.FirstRefIdeal.nD Cert.FirstRefIdeal.τ).loc Cert.FirstRefIdeal.main_arg12) = m ((c.tc : Thread Cert.FirstRefIdeal.nD Cert.FirstRefIdeal.τ).loc Cert.FirstRefIdeal.main_arg12)
      ∧ r.2.mem ((c.tc : Thread Cert.FirstRefIdeal.nD Cert.FirstRefIdeal.τ).loc Cert.FirstRefIdeal.main_arg13) = m ((c.tc : Thread Cert.FirstRefIdeal.nD Cert.FirstRefIdeal.τ).loc Cert.FirstRefIdeal.main_arg13)
      ∧ r.2.mem ((c.tc : Thread Cert.FirstRefIdeal.nD Cert.FirstRefIdeal.τ).loc Cert.FirstRefIdeal.main_arg14) = m ((c.tc : Thread Cert.FirstRefIdeal.nD Cert.FirstRefIdeal.τ).loc Cert.FirstRefIdeal.main_arg14)
      ∧ r.2.mem ((c.tc : Thread Cert.FirstRefIdeal.nD Cert.FirstRefIdeal.τ).loc Cert.FirstRefIdeal.main_arg15) = m ((c.tc : Thread Cert.FirstRefIdeal.nD Cert.FirstRefIdeal.τ).loc Cert.FirstRefIdeal.main_arg15)
      ∧ r.2.mem ((c.tc : Thread Cert.FirstRefIdeal.nD Cert.FirstRefIdeal.τ).loc Cert.FirstRefIdeal.main_arg16) = m ((c.tc : Thread Cert.FirstRefIdeal.nD Cert.FirstRefIdeal.τ).loc Cert.FirstRefIdeal.main_arg16)
      ∧ r.2.mem ((c.tc : Thread Cert.FirstRefIdeal.nD Cert.FirstRefIdeal.τ).loc Cert.FirstRefIdeal.main_arg17) = m ((c.tc : Thread Cert.FirstRefIdeal.nD Cert.FirstRefIdeal.τ).loc Cert.FirstRefIdeal.main_arg17)
      ∧ r.2.mem ((c.tc : Thread Cert.FirstRefIdeal.nD Cert.FirstRefIdeal.τ).loc Cert.FirstRefIdeal.main_arg18) = m ((c.tc : Thread Cert.FirstRefIdeal.nD Cert.FirstRefIdeal.τ).loc Cert.FirstRefIdeal.main_arg18)
      ∧ r.2.mem ((c.tc : Thread Cert.FirstRefIdeal.nD Cert.FirstRefIdeal.τ).loc Cert.FirstRefIdeal.main_arg19) = m ((c.tc : Thread Cert.FirstRefIdeal.nD Cert.FirstRefIdeal.τ).loc Cert.FirstRefIdeal.main_arg19)
      ∧ r.2.mem ((c.tc : Thread Cert.FirstRefIdeal.nD Cert.FirstRefIdeal.τ).loc Cert.FirstRefIdeal.main_arg20) = m ((c.tc : Thread Cert.FirstRefIdeal.nD Cert.FirstRefIdeal.τ).loc Cert.FirstRefIdeal.main_arg20))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)) →
    ∃ (v0 : (c : Dev Cert.PostIdeal.nD) → Buf (Elt Ideal) ((c.tc : Thread Cert.PostIdeal.nD Cert.PostIdeal.τ).loc Cert.PostIdeal.main_v15)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v15) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v45) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)
      ∧ m' ((c.tc : Thread Cert.FirstRefIdeal.nD Cert.FirstRefIdeal.τ).loc Cert.FirstRefIdeal.main_arg5) = m ((c.tc : Thread Cert.FirstIdeal.nD Cert.FirstIdeal.τ).loc Cert.FirstIdeal.main_arg5)
      ∧ m' ((c.tc : Thread Cert.FirstRefIdeal.nD Cert.FirstRefIdeal.τ).loc Cert.FirstRefIdeal.main_arg6) = m ((c.tc : Thread Cert.FirstIdeal.nD Cert.FirstIdeal.τ).loc Cert.FirstIdeal.main_arg6)
      ∧ m' ((c.tc : Thread Cert.FirstRefIdeal.nD Cert.FirstRefIdeal.τ).loc Cert.FirstRefIdeal.main_arg7) = m ((c.tc : Thread Cert.FirstIdeal.nD Cert.FirstIdeal.τ).loc Cert.FirstIdeal.main_arg7)
      ∧ m' ((c.tc : Thread Cert.FirstRefIdeal.nD Cert.FirstRefIdeal.τ).loc Cert.FirstRefIdeal.main_arg8) = m ((c.tc : Thread Cert.FirstIdeal.nD Cert.FirstIdeal.τ).loc Cert.FirstIdeal.main_arg8)
      ∧ m' ((c.tc : Thread Cert.FirstRefIdeal.nD Cert.FirstRefIdeal.τ).loc Cert.FirstRefIdeal.main_arg9) = m ((c.tc : Thread Cert.FirstIdeal.nD Cert.FirstIdeal.τ).loc Cert.FirstIdeal.main_arg9)
      ∧ m' ((c.tc : Thread Cert.FirstRefIdeal.nD Cert.FirstRefIdeal.τ).loc Cert.FirstRefIdeal.main_arg10) = m ((c.tc : Thread Cert.FirstIdeal.nD Cert.FirstIdeal.τ).loc Cert.FirstIdeal.main_arg10)
      ∧ m' ((c.tc : Thread Cert.FirstRefIdeal.nD Cert.FirstRefIdeal.τ).loc Cert.FirstRefIdeal.main_arg11) = m ((c.tc : Thread Cert.FirstIdeal.nD Cert.FirstIdeal.τ).loc Cert.FirstIdeal.main_arg11)
      ∧ m' ((c.tc : Thread Cert.FirstRefIdeal.nD Cert.FirstRefIdeal.τ).loc Cert.FirstRefIdeal.main_arg12) = m ((c.tc : Thread Cert.FirstIdeal.nD Cert.FirstIdeal.τ).loc Cert.FirstIdeal.main_arg12)
      ∧ m' ((c.tc : Thread Cert.FirstRefIdeal.nD Cert.FirstRefIdeal.τ).loc Cert.FirstRefIdeal.main_arg13) = m ((c.tc : Thread Cert.FirstIdeal.nD Cert.FirstIdeal.τ).loc Cert.FirstIdeal.main_arg13)
      ∧ m' ((c.tc : Thread Cert.FirstRefIdeal.nD Cert.FirstRefIdeal.τ).loc Cert.FirstRefIdeal.main_arg14) = m ((c.tc : Thread Cert.FirstIdeal.nD Cert.FirstIdeal.τ).loc Cert.FirstIdeal.main_arg14)
      ∧ m' ((c.tc : Thread Cert.FirstRefIdeal.nD Cert.FirstRefIdeal.τ).loc Cert.FirstRefIdeal.main_arg15) = m ((c.tc : Thread Cert.FirstIdeal.nD Cert.FirstIdeal.τ).loc Cert.FirstIdeal.main_arg15)
      ∧ m' ((c.tc : Thread Cert.FirstRefIdeal.nD Cert.FirstRefIdeal.τ).loc Cert.FirstRefIdeal.main_arg16) = m ((c.tc : Thread Cert.FirstIdeal.nD Cert.FirstIdeal.τ).loc Cert.FirstIdeal.main_arg16)
      ∧ m' ((c.tc : Thread Cert.FirstRefIdeal.nD Cert.FirstRefIdeal.τ).loc Cert.FirstRefIdeal.main_arg17) = m ((c.tc : Thread Cert.FirstIdeal.nD Cert.FirstIdeal.τ).loc Cert.FirstIdeal.main_arg17)
      ∧ m' ((c.tc : Thread Cert.FirstRefIdeal.nD Cert.FirstRefIdeal.τ).loc Cert.FirstRefIdeal.main_arg18) = m ((c.tc : Thread Cert.FirstIdeal.nD Cert.FirstIdeal.τ).loc Cert.FirstIdeal.main_arg18)
      ∧ m' ((c.tc : Thread Cert.FirstRefIdeal.nD Cert.FirstRefIdeal.τ).loc Cert.FirstRefIdeal.main_arg19) = m ((c.tc : Thread Cert.FirstIdeal.nD Cert.FirstIdeal.τ).loc Cert.FirstIdeal.main_arg19)
      ∧ m' ((c.tc : Thread Cert.FirstRefIdeal.nD Cert.FirstRefIdeal.τ).loc Cert.FirstRefIdeal.main_arg20) = m ((c.tc : Thread Cert.FirstIdeal.nD Cert.FirstIdeal.τ).loc Cert.FirstIdeal.main_arg20)) →
    ∃ (v0 : (c : Dev Cert.FirstIdeal.nD) → Buf (Elt Ideal) ((c.tc : Thread Cert.FirstIdeal.nD Cert.FirstIdeal.τ).loc Cert.FirstIdeal.main_v106_0)) (v1 : (c : Dev Cert.FirstIdeal.nD) → Buf (Elt Ideal) ((c.tc : Thread Cert.FirstIdeal.nD Cert.FirstIdeal.τ).loc Cert.FirstIdeal.main_v106_1)) (v2 : (c : Dev Cert.FirstIdeal.nD) → Buf (Elt Ideal) ((c.tc : Thread Cert.FirstIdeal.nD Cert.FirstIdeal.τ).loc Cert.FirstIdeal.main_v106_2)) (v3 : (c : Dev Cert.FirstIdeal.nD) → Buf (Elt Ideal) ((c.tc : Thread Cert.FirstIdeal.nD Cert.FirstIdeal.τ).loc Cert.FirstIdeal.main_v106_3)) (v4 : (c : Dev Cert.FirstIdeal.nD) → Buf (Elt Ideal) ((c.tc : Thread Cert.FirstIdeal.nD Cert.FirstIdeal.τ).loc Cert.FirstIdeal.main_v106_6)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v106_0) = v0 c
          ∧ r.2.mem ((c.tc : Thread Cert.FirstIdeal.nD Cert.FirstIdeal.τ).loc Cert.FirstIdeal.main_v106_1) = v1 c
          ∧ r.2.mem ((c.tc : Thread Cert.FirstIdeal.nD Cert.FirstIdeal.τ).loc Cert.FirstIdeal.main_v106_2) = v2 c
          ∧ r.2.mem ((c.tc : Thread Cert.FirstIdeal.nD Cert.FirstIdeal.τ).loc Cert.FirstIdeal.main_v106_3) = v3 c
          ∧ r.2.mem ((c.tc : Thread Cert.FirstIdeal.nD Cert.FirstIdeal.τ).loc Cert.FirstIdeal.main_v106_6) = v4 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
          ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
          ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8)
          ∧ r.2.mem ((c.tc : Thread Cert.FirstIdeal.nD Cert.FirstIdeal.τ).loc Cert.FirstIdeal.main_arg9) = m ((c.tc : Thread Cert.FirstIdeal.nD Cert.FirstIdeal.τ).loc Cert.FirstIdeal.main_arg9)
          ∧ r.2.mem ((c.tc : Thread Cert.FirstIdeal.nD Cert.FirstIdeal.τ).loc Cert.FirstIdeal.main_arg10) = m ((c.tc : Thread Cert.FirstIdeal.nD Cert.FirstIdeal.τ).loc Cert.FirstIdeal.main_arg10)
          ∧ r.2.mem ((c.tc : Thread Cert.FirstIdeal.nD Cert.FirstIdeal.τ).loc Cert.FirstIdeal.main_arg11) = m ((c.tc : Thread Cert.FirstIdeal.nD Cert.FirstIdeal.τ).loc Cert.FirstIdeal.main_arg11)
          ∧ r.2.mem ((c.tc : Thread Cert.FirstIdeal.nD Cert.FirstIdeal.τ).loc Cert.FirstIdeal.main_arg12) = m ((c.tc : Thread Cert.FirstIdeal.nD Cert.FirstIdeal.τ).loc Cert.FirstIdeal.main_arg12)
          ∧ r.2.mem ((c.tc : Thread Cert.FirstIdeal.nD Cert.FirstIdeal.τ).loc Cert.FirstIdeal.main_arg13) = m ((c.tc : Thread Cert.FirstIdeal.nD Cert.FirstIdeal.τ).loc Cert.FirstIdeal.main_arg13)
          ∧ r.2.mem ((c.tc : Thread Cert.FirstIdeal.nD Cert.FirstIdeal.τ).loc Cert.FirstIdeal.main_arg14) = m ((c.tc : Thread Cert.FirstIdeal.nD Cert.FirstIdeal.τ).loc Cert.FirstIdeal.main_arg14)
          ∧ r.2.mem ((c.tc : Thread Cert.FirstIdeal.nD Cert.FirstIdeal.τ).loc Cert.FirstIdeal.main_arg15) = m ((c.tc : Thread Cert.FirstIdeal.nD Cert.FirstIdeal.τ).loc Cert.FirstIdeal.main_arg15)
          ∧ r.2.mem ((c.tc : Thread Cert.FirstIdeal.nD Cert.FirstIdeal.τ).loc Cert.FirstIdeal.main_arg16) = m ((c.tc : Thread Cert.FirstIdeal.nD Cert.FirstIdeal.τ).loc Cert.FirstIdeal.main_arg16)
          ∧ r.2.mem ((c.tc : Thread Cert.FirstIdeal.nD Cert.FirstIdeal.τ).loc Cert.FirstIdeal.main_arg17) = m ((c.tc : Thread Cert.FirstIdeal.nD Cert.FirstIdeal.τ).loc Cert.FirstIdeal.main_arg17)
          ∧ r.2.mem ((c.tc : Thread Cert.FirstIdeal.nD Cert.FirstIdeal.τ).loc Cert.FirstIdeal.main_arg18) = m ((c.tc : Thread Cert.FirstIdeal.nD Cert.FirstIdeal.τ).loc Cert.FirstIdeal.main_arg18)
          ∧ r.2.mem ((c.tc : Thread Cert.FirstIdeal.nD Cert.FirstIdeal.τ).loc Cert.FirstIdeal.main_arg19) = m ((c.tc : Thread Cert.FirstIdeal.nD Cert.FirstIdeal.τ).loc Cert.FirstIdeal.main_arg19)
          ∧ r.2.mem ((c.tc : Thread Cert.FirstIdeal.nD Cert.FirstIdeal.τ).loc Cert.FirstIdeal.main_arg20) = m ((c.tc : Thread Cert.FirstIdeal.nD Cert.FirstIdeal.τ).loc Cert.FirstIdeal.main_arg20))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v24) = v0 c
          ∧ r.2.mem ((c.tc : Thread Cert.FirstRefIdeal.nD Cert.FirstRefIdeal.τ).loc Cert.FirstRefIdeal.main_v98) = v1 c
          ∧ r.2.mem ((c.tc : Thread Cert.FirstRefIdeal.nD Cert.FirstRefIdeal.τ).loc Cert.FirstRefIdeal.main_v106) = v2 c
          ∧ r.2.mem ((c.tc : Thread Cert.FirstRefIdeal.nD Cert.FirstRefIdeal.τ).loc Cert.FirstRefIdeal.main_v101) = v3 c
          ∧ r.2.mem ((c.tc : Thread Cert.FirstRefIdeal.nD Cert.FirstRefIdeal.τ).loc Cert.FirstRefIdeal.main_v104) = v4 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4)
          ∧ r.2.mem ((c.tc : Thread Cert.FirstRefIdeal.nD Cert.FirstRefIdeal.τ).loc Cert.FirstRefIdeal.main_arg5) = m' ((c.tc : Thread Cert.FirstRefIdeal.nD Cert.FirstRefIdeal.τ).loc Cert.FirstRefIdeal.main_arg5)
          ∧ r.2.mem ((c.tc : Thread Cert.FirstRefIdeal.nD Cert.FirstRefIdeal.τ).loc Cert.FirstRefIdeal.main_arg6) = m' ((c.tc : Thread Cert.FirstRefIdeal.nD Cert.FirstRefIdeal.τ).loc Cert.FirstRefIdeal.main_arg6)
          ∧ r.2.mem ((c.tc : Thread Cert.FirstRefIdeal.nD Cert.FirstRefIdeal.τ).loc Cert.FirstRefIdeal.main_arg7) = m' ((c.tc : Thread Cert.FirstRefIdeal.nD Cert.FirstRefIdeal.τ).loc Cert.FirstRefIdeal.main_arg7)
          ∧ r.2.mem ((c.tc : Thread Cert.FirstRefIdeal.nD Cert.FirstRefIdeal.τ).loc Cert.FirstRefIdeal.main_arg8) = m' ((c.tc : Thread Cert.FirstRefIdeal.nD Cert.FirstRefIdeal.τ).loc Cert.FirstRefIdeal.main_arg8)
          ∧ r.2.mem ((c.tc : Thread Cert.FirstRefIdeal.nD Cert.FirstRefIdeal.τ).loc Cert.FirstRefIdeal.main_arg9) = m' ((c.tc : Thread Cert.FirstRefIdeal.nD Cert.FirstRefIdeal.τ).loc Cert.FirstRefIdeal.main_arg9)
          ∧ r.2.mem ((c.tc : Thread Cert.FirstRefIdeal.nD Cert.FirstRefIdeal.τ).loc Cert.FirstRefIdeal.main_arg10) = m' ((c.tc : Thread Cert.FirstRefIdeal.nD Cert.FirstRefIdeal.τ).loc Cert.FirstRefIdeal.main_arg10)
          ∧ r.2.mem ((c.tc : Thread Cert.FirstRefIdeal.nD Cert.FirstRefIdeal.τ).loc Cert.FirstRefIdeal.main_arg11) = m' ((c.tc : Thread Cert.FirstRefIdeal.nD Cert.FirstRefIdeal.τ).loc Cert.FirstRefIdeal.main_arg11)
          ∧ r.2.mem ((c.tc : Thread Cert.FirstRefIdeal.nD Cert.FirstRefIdeal.τ).loc Cert.FirstRefIdeal.main_arg12) = m' ((c.tc : Thread Cert.FirstRefIdeal.nD Cert.FirstRefIdeal.τ).loc Cert.FirstRefIdeal.main_arg12)
          ∧ r.2.mem ((c.tc : Thread Cert.FirstRefIdeal.nD Cert.FirstRefIdeal.τ).loc Cert.FirstRefIdeal.main_arg13) = m' ((c.tc : Thread Cert.FirstRefIdeal.nD Cert.FirstRefIdeal.τ).loc Cert.FirstRefIdeal.main_arg13)
          ∧ r.2.mem ((c.tc : Thread Cert.FirstRefIdeal.nD Cert.FirstRefIdeal.τ).loc Cert.FirstRefIdeal.main_arg14) = m' ((c.tc : Thread Cert.FirstRefIdeal.nD Cert.FirstRefIdeal.τ).loc Cert.FirstRefIdeal.main_arg14)
          ∧ r.2.mem ((c.tc : Thread Cert.FirstRefIdeal.nD Cert.FirstRefIdeal.τ).loc Cert.FirstRefIdeal.main_arg15) = m' ((c.tc : Thread Cert.FirstRefIdeal.nD Cert.FirstRefIdeal.τ).loc Cert.FirstRefIdeal.main_arg15)
          ∧ r.2.mem ((c.tc : Thread Cert.FirstRefIdeal.nD Cert.FirstRefIdeal.τ).loc Cert.FirstRefIdeal.main_arg16) = m' ((c.tc : Thread Cert.FirstRefIdeal.nD Cert.FirstRefIdeal.τ).loc Cert.FirstRefIdeal.main_arg16)
          ∧ r.2.mem ((c.tc : Thread Cert.FirstRefIdeal.nD Cert.FirstRefIdeal.τ).loc Cert.FirstRefIdeal.main_arg17) = m' ((c.tc : Thread Cert.FirstRefIdeal.nD Cert.FirstRefIdeal.τ).loc Cert.FirstRefIdeal.main_arg17)
          ∧ r.2.mem ((c.tc : Thread Cert.FirstRefIdeal.nD Cert.FirstRefIdeal.τ).loc Cert.FirstRefIdeal.main_arg18) = m' ((c.tc : Thread Cert.FirstRefIdeal.nD Cert.FirstRefIdeal.τ).loc Cert.FirstRefIdeal.main_arg18)
          ∧ r.2.mem ((c.tc : Thread Cert.FirstRefIdeal.nD Cert.FirstRefIdeal.τ).loc Cert.FirstRefIdeal.main_arg19) = m' ((c.tc : Thread Cert.FirstRefIdeal.nD Cert.FirstRefIdeal.τ).loc Cert.FirstRefIdeal.main_arg19)
          ∧ r.2.mem ((c.tc : Thread Cert.FirstRefIdeal.nD Cert.FirstRefIdeal.τ).loc Cert.FirstRefIdeal.main_arg20) = m' ((c.tc : Thread Cert.FirstRefIdeal.nD Cert.FirstRefIdeal.τ).loc Cert.FirstRefIdeal.main_arg20))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostRefIdeal : Cert.PostRefIdeal.Facts) (hFirst : Cert.First.Facts) (hFirstIdeal : Cert.FirstIdeal.Facts) (hFirstRefIdeal : Cert.FirstRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Post (hPost := hPost)
    ∧ quiescent_PostIdeal (hPostIdeal := hPostIdeal)
    ∧ quiescent_PostRefIdeal (hPostRefIdeal := hPostRefIdeal)
    ∧ quiescent_First (hFirst := hFirst)
    ∧ quiescent_FirstIdeal (hFirstIdeal := hFirstIdeal)
    ∧ quiescent_FirstRefIdeal (hFirstRefIdeal := hFirstRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Post_PostIdeal
    ∧ algebraic_PostIdeal_PostRefIdeal (hPostIdeal := hPostIdeal) (hPostRefIdeal := hPostRefIdeal)
    ∧ preserves_First_FirstIdeal
    ∧ algebraic_FirstIdeal_FirstRefIdeal (hFirstIdeal := hFirstIdeal) (hFirstRefIdeal := hFirstRefIdeal)
-- ==== Pre_finite.lean ====
abbrev S4x8x128x8192 : Shape := ⟨4, ![4, 8, 128, 8192]⟩
abbrev S4x8x8192x128 : Shape := ⟨4, ![4, 8, 8192, 128]⟩
abbrev S4x8x16x64x512 : Shape := ⟨5, ![4, 8, 16, 64, 512]⟩
abbrev S_ : Shape := ⟨0, ![]⟩

class Facts : Prop where
  bitsLt_bf16_f32 : FTy.bits .bf16 < FTy.bits .f32
  bcast_S_S4x8x128x8192 : S_.BroadcastsInDim S4x8x128x8192 (![] : Fin 0 → Fin S4x8x128x8192.rank)
  reducesTo_S4x8x128x8192_S_d0_1_2_3 : S4x8x128x8192.ReducesTo [0, 1, 2, 3] S_
  h_S_ : 0 < S_.numel
  bcast_S_S4x8x8192x128 : S_.BroadcastsInDim S4x8x8192x128 (![] : Fin 0 → Fin S4x8x8192x128.rank)
  reducesTo_S4x8x8192x128_S_d0_1_2_3 : S4x8x8192x128.ReducesTo [0, 1, 2, 3] S_

variable [Facts]

def fn {F : FTy → Type} [FloatOps F] (main_arg0 : FVec F S4x8x128x8192 .bf16) (main_arg1 : FVec F S4x8x8192x128 .bf16) (main_arg2 : FVec F S4x8x16x64x512 .bf16) : IVec S_ 1 :=
  let main_v0 : FVec F S4x8x128x8192 .f32 := (extf .f32 · bitsLt_bf16_f32) main_arg0
  let main_v1 : FVec F S4x8x128x8192 .f32 := Host.absf main_v0
  let main_cst : FVec F S_ .f32 := constant S_ .f32 0x7F800000#32
  let main_v2 : FVec F S4x8x128x8192 .f32 := broadcastInDim S4x8x128x8192 ![] bcast_S_S4x8x128x8192 main_cst
  let main_v3 : IVec S4x8x128x8192 1 := cmpf .olt main_v1 main_v2
  let main_c : IVec S_ 1 := constantI S_ 1 1#1
  let main_v4 : IVec S_ 1 := (fun x v => Host.reduce IntOp.andi x v reducesTo_S4x8x128x8192_S_d0_1_2_3 h_S_) main_v3 main_c
  let main_v5 : FVec F S4x8x8192x128 .f32 := (extf .f32 · bitsLt_bf16_f32) main_arg1
  let main_v6 : FVec F S4x8x8192x128 .f32 := Host.absf main_v5
  let main_cst_0 : FVec F S_ .f32 := constant S_ .f32 0x7F800000#32
  let main_v7 : FVec F S4x8x8192x128 .f32 := broadcastInDim S4x8x8192x128 ![] bcast_S_S4x8x8192x128 main_cst_0
  let main_v8 : IVec S4x8x8192x128 1 := cmpf .olt main_v6 main_v7
  let main_c_1 : IVec S_ 1 := constantI S_ 1 1#1
  let main_v9 : IVec S_ 1 := (fun x v => Host.reduce IntOp.andi x v reducesTo_S4x8x8192x128_S_d0_1_2_3 h_S_) main_v8 main_c_1
  let main_v10 : IVec S_ 1 := andi main_v4 main_v9
  main_v10
-- ==== Kernel.lean ====
abbrev S4x8x128x8192 : Shape := ⟨4, ![4, 8, 128, 8192]⟩
abbrev S4x8x8192x128 : Shape := ⟨4, ![4, 8, 8192, 128]⟩
abbrev S4x8x16x64x512 : Shape := ⟨5, ![4, 8, 16, 64, 512]⟩
abbrev S4x8192x512 : Shape := ⟨3, ![4, 8192, 512]⟩
abbrev S1x8x128x512 : Shape := ⟨4, ![1, 8, 128, 512]⟩
abbrev S1x8x8192x128 : Shape := ⟨4, ![1, 8, 8192, 128]⟩
abbrev S1x8x16x64x512 : Shape := ⟨5, ![1, 8, 16, 64, 512]⟩
abbrev S1x512x512 : Shape := ⟨3, ![1, 512, 512]⟩
abbrev S8x512 : Shape := ⟨2, ![8, 512]⟩
abbrev S512x512 : Shape := ⟨2, ![512, 512]⟩
abbrev S1x1x512x128 : Shape := ⟨4, ![1, 1, 512, 128]⟩
abbrev S512x128 : Shape := ⟨2, ![512, 128]⟩
abbrev S1x1x128x512 : Shape := ⟨4, ![1, 1, 128, 512]⟩
abbrev S128x512 : Shape := ⟨2, ![128, 512]⟩
abbrev S1x1x1x64x512 : Shape := ⟨5, ![1, 1, 1, 64, 512]⟩
abbrev S64x512 : Shape := ⟨2, ![64, 512]⟩
abbrev S512 : Shape := ⟨1, ![512]⟩
abbrev S1x512 : Shape := ⟨2, ![1, 512]⟩
abbrev S1x8x512 : Shape := ⟨3, ![1, 8, 512]⟩
abbrev S1 : Shape := ⟨1, ![1]⟩
abbrev S1x1x1 : Shape := ⟨3, ![1, 1, 1]⟩

abbrev nBuf : Space → Nat
  | .hbm => 4
  | .vmem => 11
  | .smem => 0
  | _ => 0

abbrev bufTy : (tb : Table) → Fin (tcTables nBuf tb) → BufTy
  | .hbm, ⟨0, _⟩ => ⟨S4x8x128x8192, .bf16⟩
  | .hbm, ⟨1, _⟩ => ⟨S4x8x8192x128, .bf16⟩
  | .hbm, ⟨2, _⟩ => ⟨S4x8x16x64x512, .bf16⟩
  | .hbm, ⟨3, _⟩ => ⟨S4x8192x512, .bf16⟩
  | .local _ .vmem, ⟨0, _⟩ => ⟨S1x8x128x512, .bf16⟩
  | .local _ .vmem, ⟨1, _⟩ => ⟨S1x8x128x512, .bf16⟩
  | .local _ .vmem, ⟨2, _⟩ => ⟨S1x8x8192x128, .bf16⟩
  | .local _ .vmem, ⟨3, _⟩ => ⟨S1x8x8192x128, .bf16⟩
  | .local _ .vmem, ⟨4, _⟩ => ⟨S1x8x16x64x512, .bf16⟩
  | .local _ .vmem, ⟨5, _⟩ => ⟨S1x8x16x64x512, .bf16⟩
  | .local _ .vmem, ⟨6, _⟩ => ⟨S1x512x512, .bf16⟩
  | .local _ .vmem, ⟨7, _⟩ => ⟨S1x512x512, .bf16⟩
  | .local _ .vmem, ⟨8, _⟩ => ⟨S8x512, .f32⟩
  | .local _ .vmem, ⟨9, _⟩ => ⟨S8x512, .f32⟩
  | .local _ .vmem, ⟨10, _⟩ => ⟨S512x512, .f32⟩
  | _, _ => ⟨S4x8x128x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 4 → Nat :=
  let c0 : Index := 0#32
  let c0_0 : Index := 0#32
  let arg1 : BitVec 32 := BitVec.ofNat 32 (i 1).val
  let c512_i32 : BitVec 32 := 512#32
  let v0 : BitVec 32 := Scalar.muli arg1 c512_i32
  let v1 : BitVec 32 := v0
  let v2 : Index := Scalar.indexCast v1
  let c0_1 : Index := 0#32
  ![0, 0, v2.toNat, 0]
def k0_mult2 (i : grid0.Coords) : BitVec 32 :=
  let arg1 : BitVec 32 := BitVec.ofNat 32 (i 1).val
  let c512_i32_6 : BitVec 32 := 512#32
  let v8 : BitVec 32 := Scalar.muli arg1 c512_i32_6
  v8
def k0_off2 (i : grid0.Coords) : Fin 4 → Nat :=
  let c0_7 : Index := 0#32
  let c1 : Index := 1#32
  let arg1 : BitVec 32 := BitVec.ofNat 32 (i 1).val
  let c512_i32_6 : BitVec 32 := 512#32
  let v8 : BitVec 32 := Scalar.muli arg1 c512_i32_6
  let v9 : BitVec 32 := v8
  let v10 : Index := Scalar.indexCast v9
  let c0_8 : Index := 0#32
  ![0, 1, v10.toNat, 0]
def k0_mult3 (i : grid0.Coords) : BitVec 32 :=
  let arg1 : BitVec 32 := BitVec.ofNat 32 (i 1).val
  let c512_i32_14 : BitVec 32 := 512#32
  let v16 : BitVec 32 := Scalar.muli arg1 c512_i32_14
  v16
def k0_off3 (i : grid0.Coords) : Fin 4 → Nat :=
  let c0_15 : Index := 0#32
  let c2 : Index := 2#32
  let arg1 : BitVec 32 := BitVec.ofNat 32 (i 1).val
  let c512_i32_14 : BitVec 32 := 512#32
  let v16 : BitVec 32 := Scalar.muli arg1 c512_i32_14
  let v17 : BitVec 32 := v16
  let v18 : Index := Scalar.indexCast v17
  let c0_16 : Index := 0#32
  ![0, 2, v18.toNat, 0]
def k0_off4 (i : grid0.Coords) : Fin 5 → Nat :=
  let c0_34 : Index := 0#32
  let c0_35 : Index := 0#32
  let arg1 : BitVec 32 := BitVec.ofNat 32 (i 1).val
  let v78 : Index := Scalar.indexCast arg1
  let c0_36 : Index := 0#32
  let c0_37 : Index := 0#32
  ![0, 0, v78.toNat, 0, 0]
def k0_mult4 (i : grid0.Coords) : BitVec 32 :=
  let arg1 : BitVec 32 := BitVec.ofNat 32 (i 1).val
  let c512_i32_44 : BitVec 32 := 512#32
  let v91 : BitVec 32 := Scalar.muli arg1 c512_i32_44
  v91
def k0_off5 (i : grid0.Coords) : Fin 4 → Nat :=
  let c0_45 : Index := 0#32
  let c3 : Index := 3#32
  let arg1 : BitVec 32 := BitVec.ofNat 32 (i 1).val
  let c512_i32_44 : BitVec 32 := 512#32
  let v91 : BitVec 32 := Scalar.muli arg1 c512_i32_44
  let v92 : BitVec 32 := v91
  let v93 : Index := Scalar.indexCast v92
  let c0_46 : Index := 0#32
  ![0, 3, v93.toNat, 0]
def k0_off6 (i : grid0.Coords) : Fin 5 → Nat :=
  let c0_67 : Index := 0#32
  let c1_68 : Index := 1#32
  let arg1 : BitVec 32 := BitVec.ofNat 32 (i 1).val
  let v153 : Index := Scalar.indexCast arg1
  let c0_69 : Index := 0#32
  let c0_70 : Index := 0#32
  ![0, 1, v153.toNat, 0, 0]
def k0_mult5 (i : grid0.Coords) : BitVec 32 :=
  let arg1 : BitVec 32 := BitVec.ofNat 32 (i 1).val
  let c512_i32_76 : BitVec 32 := 512#32
  let v166 : BitVec 32 := Scalar.muli arg1 c512_i32_76
  v166
def k0_off7 (i : grid0.Coords) : Fin 4 → Nat :=
  let c0_77 : Index := 0#32
  let c4 : Index := 4#32
  let arg1 : BitVec 32 := BitVec.ofNat 32 (i 1).val
  let c512_i32_76 : BitVec 32 := 512#32
  let v166 : BitVec 32 := Scalar.muli arg1 c512_i32_76
  let v167 : BitVec 32 := v166
  let v168 : Index := Scalar.indexCast v167
  let c0_78 : Index := 0#32
  ![0, 4, v168.toNat, 0]
def k0_off8 (i : grid0.Coords) : Fin 5 → Nat :=
  let c0_99 : Index := 0#32
  let c2_100 : Index := 2#32
  let arg1 : BitVec 32 := BitVec.ofNat 32 (i 1).val
  let v228 : Index := Scalar.indexCast arg1
  let c0_101 : Index := 0#32
  let c0_102 : Index := 0#32
  ![0, 2, v228.toNat, 0, 0]
def k0_mult6 (i : grid0.Coords) : BitVec 32 :=
  let arg1 : BitVec 32 := BitVec.ofNat 32 (i 1).val
  let c512_i32_108 : BitVec 32 := 512#32
  let v241 : BitVec 32 := Scalar.muli arg1 c512_i32_108
  v241
def k0_off9 (i : grid0.Coords) : Fin 4 → Nat :=
  let c0_109 : Index := 0#32
  let c5 : Index := 5#32
  let arg1 : BitVec 32 := BitVec.ofNat 32 (i 1).val
  let c512_i32_108 : BitVec 32 := 512#32
  let v241 : BitVec 32 := Scalar.muli arg1 c512_i32_108
  let v242 : BitVec 32 := v241
  let v243 : Index := Scalar.indexCast v242
  let c0_110 : Index := 0#32
  ![0, 5, v243.toNat, 0]
def k0_off10 (i : grid0.Coords) : Fin 5 → Nat :=
  let c0_131 : Index := 0#32
  let c3_132 : Index := 3#32
  let arg1 : BitVec 32 := BitVec.ofNat 32 (i 1).val
  let v303 : Index := Scalar.indexCast arg1
  let c0_133 : Index := 0#32
  let c0_134 : Index := 0#32
  ![0, 3, v303.toNat, 0, 0]
def k0_mult7 (i : grid0.Coords) : BitVec 32 :=
  let arg1 : BitVec 32 := BitVec.ofNat 32 (i 1).val
  let c512_i32_140 : BitVec 32 := 512#32
  let v316 : BitVec 32 := Scalar.muli arg1 c512_i32_140
  v316
def k0_off11 (i : grid0.Coords) : Fin 4 → Nat :=
  let c0_141 : Index := 0#32
  let c6 : Index := 6#32
  let arg1 : BitVec 32 := BitVec.ofNat 32 (i 1).val
  let c512_i32_140 : BitVec 32 := 512#32
  let v316 : BitVec 32 := Scalar.muli arg1 c512_i32_140
  let v317 : BitVec 32 := v316
  let v318 : Index := Scalar.indexCast v317
  let c0_142 : Index := 0#32
  ![0, 6, v318.toNat, 0]
def k0_off12 (i : grid0.Coords) : Fin 5 → Nat :=
  let c0_163 : Index := 0#32
  let c4_164 : Index := 4#32
  let arg1 : BitVec 32 := BitVec.ofNat 32 (i 1).val
  let v378 : Index := Scalar.indexCast arg1
  let c0_165 : Index := 0#32
  let c0_166 : Index := 0#32
  ![0, 4, v378.toNat, 0, 0]
def k0_mult8 (i : grid0.Coords) : BitVec 32 :=
  let arg1 : BitVec 32 := BitVec.ofNat 32 (i 1).val
  let c512_i32_172 : BitVec 32 := 512#32
  let v391 : BitVec 32 := Scalar.muli arg1 c512_i32_172
  v391
def k0_off13 (i : grid0.Coords) : Fin 4 → Nat :=
  let c0_173 : Index := 0#32
  let c7 : Index := 7#32
  let arg1 : BitVec 32 := BitVec.ofNat 32 (i 1).val
  let c512_i32_172 : BitVec 32 := 512#32
  let v391 : BitVec 32 := Scalar.muli arg1 c512_i32_172
  let v392 : BitVec 32 := v391
  let v393 : Index := Scalar.indexCast v392
  let c0_174 : Index := 0#32
  ![0, 7, v393.toNat, 0]
def k0_off14 (i : grid0.Coords) : Fin 5 → Nat :=
  let c0_195 : Index := 0#32
  let c5_196 : Index := 5#32
  let arg1 : BitVec 32 := BitVec.ofNat 32 (i 1).val
  let v453 : Index := Scalar.indexCast arg1
  let c0_197 : Index := 0#32
  let c0_198 : Index := 0#32
  ![0, 5, v453.toNat, 0, 0]
def k0_off15 (i : grid0.Coords) : Fin 5 → Nat :=
  let c0_219 : Index := 0#32
  let c6_220 : Index := 6#32
  let arg1 : BitVec 32 := BitVec.ofNat 32 (i 1).val
  let v520 : Index := Scalar.indexCast arg1
  let c0_221 : Index := 0#32
  let c0_222 : Index := 0#32
  ![0, 6, v520.toNat, 0, 0]
def k0_off16 (i : grid0.Coords) : Fin 5 → Nat :=
  let c0_243 : Index := 0#32
  let c7_244 : Index := 7#32
  let arg1 : BitVec 32 := BitVec.ofNat 32 (i 1).val
  let v587 : Index := Scalar.indexCast arg1
  let c0_245 : Index := 0#32
  let c0_246 : Index := 0#32
  ![0, 7, v587.toNat, 0, 0]
@[reducible] def k0_t1_loop (i : grid0.Coords) : Scf.Loop 32 :=
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_296 : BitVec 32 := 1#32
  ⟨c0_i32_294, v653, c1_i32_296⟩
def k0_mult9 (i : grid0.Coords) (k0_t1 : Fin (k0_t1_loop i).trips) : BitVec 32 :=
  let c0_i32_294 : BitVec 32 := 0#32
  let c1_i32_296 : BitVec 32 := 1#32
  let arg9 : BitVec 32 := Scf.iv c0_i32_294 c1_i32_296 k0_t1
  let c512_i32_298 : BitVec 32 := 512#32
  let v654 : BitVec 32 := Scalar.muli arg9 c512_i32_298
  v654
def k0_off17 (i : grid0.Coords) (k0_t1 : Fin (k0_t1_loop i).trips) : Fin 4 → Nat :=
  let c0_299 : Index := 0#32
  let c0_300 : Index := 0#32
  let c0_i32_294 : BitVec 32 := 0#32
  let c1_i32_296 : BitVec 32 := 1#32
  let arg9 : BitVec 32 := Scf.iv c0_i32_294 c1_i32_296 k0_t1
  let c512_i32_298 : BitVec 32 := 512#32
  let v654 : BitVec 32 := Scalar.muli arg9 c512_i32_298
  let v655 : BitVec 32 := v654
  let v656 : Index := Scalar.indexCast v655
  let c0_301 : Index := 0#32
  ![0, 0, v656.toNat, 0]
def k0_mult10 (i : grid0.Coords) (k0_t1 : Fin (k0_t1_loop i).trips) : BitVec 32 :=
  let c0_i32_294 : BitVec 32 := 0#32
  let c1_i32_296 : BitVec 32 := 1#32
  let arg9 : BitVec 32 := Scf.iv c0_i32_294 c1_i32_296 k0_t1
  let c512_i32_307 : BitVec 32 := 512#32
  let v662 : BitVec 32 := Scalar.muli arg9 c512_i32_307
  v662
def k0_off18 (i : grid0.Coords) (k0_t1 : Fin (k0_t1_loop i).trips) : Fin 4 → Nat :=
  let c0_308 : Index := 0#32
  let c1_309 : Index := 1#32
  let c0_i32_294 : BitVec 32 := 0#32
  let c1_i32_296 : BitVec 32 := 1#32
  let arg9 : BitVec 32 := Scf.iv c0_i32_294 c1_i32_296 k0_t1
  let c512_i32_307 : BitVec 32 := 512#32
  let v662 : BitVec 32 := Scalar.muli arg9 c512_i32_307
  let v663 : BitVec 32 := v662
  let v664 : Index := Scalar.indexCast v663
  let c0_310 : Index := 0#32
  ![0, 1, v664.toNat, 0]
def k0_mult11 (i : grid0.Coords) (k0_t1 : Fin (k0_t1_loop i).trips) : BitVec 32 :=
  let c0_i32_294 : BitVec 32 := 0#32
  let c1_i32_296 : BitVec 32 := 1#32
  let arg9 : BitVec 32 := Scf.iv c0_i32_294 c1_i32_296 k0_t1
  let c512_i32_316 : BitVec 32 := 512#32
  let v670 : BitVec 32 := Scalar.muli arg9 c512_i32_316
  v670
def k0_off19 (i : grid0.Coords) (k0_t1 : Fin (k0_t1_loop i).trips) : Fin 4 → Nat :=
  let c0_317 : Index := 0#32
  let c2_318 : Index := 2#32
  let c0_i32_294 : BitVec 32 := 0#32
  let c1_i32_296 : BitVec 32 := 1#32
  let arg9 : BitVec 32 := Scf.iv c0_i32_294 c1_i32_296 k0_t1
  let c512_i32_316 : BitVec 32 := 512#32
  let v670 : BitVec 32 := Scalar.muli arg9 c512_i32_316
  let v671 : BitVec 32 := v670
  let v672 : Index := Scalar.indexCast v671
  let c0_319 : Index := 0#32
  ![0, 2, v672.toNat, 0]
def k0_off20 (i : grid0.Coords) (k0_t1 : Fin (k0_t1_loop i).trips) : Fin 5 → Nat :=
  let c0_325 : Index := 0#32
  let c0_326 : Index := 0#32
  let c0_i32_294 : BitVec 32 := 0#32
  let c1_i32_296 : BitVec 32 := 1#32
  let arg9 : BitVec 32 := Scf.iv c0_i32_294 c1_i32_296 k0_t1
  let v679 : Index := Scalar.indexCast arg9
  let c0_327 : Index := 0#32
  let c0_328 : Index := 0#32
  ![0, 0, v679.toNat, 0, 0]
def k0_mult12 (i : grid0.Coords) (k0_t1 : Fin (k0_t1_loop i).trips) : BitVec 32 :=
  let c0_i32_294 : BitVec 32 := 0#32
  let c1_i32_296 : BitVec 32 := 1#32
  let arg9 : BitVec 32 := Scf.iv c0_i32_294 c1_i32_296 k0_t1
  let c512_i32_339 : BitVec 32 := 512#32
  let v696 : BitVec 32 := Scalar.muli arg9 c512_i32_339
  v696
def k0_off21 (i : grid0.Coords) (k0_t1 : Fin (k0_t1_loop i).trips) : Fin 4 → Nat :=
  let c0_340 : Index := 0#32
  let c3_341 : Index := 3#32
  let c0_i32_294 : BitVec 32 := 0#32
  let c1_i32_296 : BitVec 32 := 1#32
  let arg9 : BitVec 32 := Scf.iv c0_i32_294 c1_i32_296 k0_t1
  let c512_i32_339 : BitVec 32 := 512#32
  let v696 : BitVec 32 := Scalar.muli arg9 c512_i32_339
  let v697 : BitVec 32 := v696
  let v698 : Index := Scalar.indexCast v697
  let c0_342 : Index := 0#32
  ![0, 3, v698.toNat, 0]
def k0_off22 (i : grid0.Coords) (k0_t1 : Fin (k0_t1_loop i).trips) : Fin 5 → Nat :=
  let c0_348 : Index := 0#32
  let c1_349 : Index := 1#32
  let c0_i32_294 : BitVec 32 := 0#32
  let c1_i32_296 : BitVec 32 := 1#32
  let arg9 : BitVec 32 := Scf.iv c0_i32_294 c1_i32_296 k0_t1
  let v705 : Index := Scalar.indexCast arg9
  let c0_350 : Index := 0#32
  let c0_351 : Index := 0#32
  ![0, 1, v705.toNat, 0, 0]
def k0_mult13 (i : grid0.Coords) (k0_t1 : Fin (k0_t1_loop i).trips) : BitVec 32 :=
  let c0_i32_294 : BitVec 32 := 0#32
  let c1_i32_296 : BitVec 32 := 1#32
  let arg9 : BitVec 32 := Scf.iv c0_i32_294 c1_i32_296 k0_t1
  let c512_i32_362 : BitVec 32 := 512#32
  let v722 : BitVec 32 := Scalar.muli arg9 c512_i32_362
  v722
def k0_off23 (i : grid0.Coords) (k0_t1 : Fin (k0_t1_loop i).trips) : Fin 4 → Nat :=
  let c0_363 : Index := 0#32
  let c4_364 : Index := 4#32
  let c0_i32_294 : BitVec 32 := 0#32
  let c1_i32_296 : BitVec 32 := 1#32
  let arg9 : BitVec 32 := Scf.iv c0_i32_294 c1_i32_296 k0_t1
  let c512_i32_362 : BitVec 32 := 512#32
  let v722 : BitVec 32 := Scalar.muli arg9 c512_i32_362
  let v723 : BitVec 32 := v722
  let v724 : Index := Scalar.indexCast v723
  let c0_365 : Index := 0#32
  ![0, 4, v724.toNat, 0]
def k0_off24 (i : grid0.Coords) (k0_t1 : Fin (k0_t1_loop i).trips) : Fin 5 → Nat :=
  let c0_371 : Index := 0#32
  let c2_372 : Index := 2#32
  let c0_i32_294 : BitVec 32 := 0#32
  let c1_i32_296 : BitVec 32 := 1#32
  let arg9 : BitVec 32 := Scf.iv c0_i32_294 c1_i32_296 k0_t1
  let v731 : Index := Scalar.indexCast arg9
  let c0_373 : Index := 0#32
  let c0_374 : Index := 0#32
  ![0, 2, v731.toNat, 0, 0]
def k0_mult14 (i : grid0.Coords) (k0_t1 : Fin (k0_t1_loop i).trips) : BitVec 32 :=
  let c0_i32_294 : BitVec 32 := 0#32
  let c1_i32_296 : BitVec 32 := 1#32
  let arg9 : BitVec 32 := Scf.iv c0_i32_294 c1_i32_296 k0_t1
  let c512_i32_385 : BitVec 32 := 512#32
  let v748 : BitVec 32 := Scalar.muli arg9 c512_i32_385
  v748
def k0_off25 (i : grid0.Coords) (k0_t1 : Fin (k0_t1_loop i).trips) : Fin 4 → Nat :=
  let c0_386 : Index := 0#32
  let c5_387 : Index := 5#32
  let c0_i32_294 : BitVec 32 := 0#32
  let c1_i32_296 : BitVec 32 := 1#32
  let arg9 : BitVec 32 := Scf.iv c0_i32_294 c1_i32_296 k0_t1
  let c512_i32_385 : BitVec 32 := 512#32
  let v748 : BitVec 32 := Scalar.muli arg9 c512_i32_385
  let v749 : BitVec 32 := v748
  let v750 : Index := Scalar.indexCast v749
  let c0_388 : Index := 0#32
  ![0, 5, v750.toNat, 0]
def k0_off26 (i : grid0.Coords) (k0_t1 : Fin (k0_t1_loop i).trips) : Fin 5 → Nat :=
  let c0_394 : Index := 0#32
  let c3_395 : Index := 3#32
  let c0_i32_294 : BitVec 32 := 0#32
  let c1_i32_296 : BitVec 32 := 1#32
  let arg9 : BitVec 32 := Scf.iv c0_i32_294 c1_i32_296 k0_t1
  let v757 : Index := Scalar.indexCast arg9
  let c0_396 : Index := 0#32
  let c0_397 : Index := 0#32
  ![0, 3, v757.toNat, 0, 0]
def k0_mult15 (i : grid0.Coords) (k0_t1 : Fin (k0_t1_loop i).trips) : BitVec 32 :=
  let c0_i32_294 : BitVec 32 := 0#32
  let c1_i32_296 : BitVec 32 := 1#32
  let arg9 : BitVec 32 := Scf.iv c0_i32_294 c1_i32_296 k0_t1
  let c512_i32_408 : BitVec 32 := 512#32
  let v774 : BitVec 32 := Scalar.muli arg9 c512_i32_408
  v774
def k0_off27 (i : grid0.Coords) (k0_t1 : Fin (k0_t1_loop i).trips) : Fin 4 → Nat :=
  let c0_409 : Index := 0#32
  let c6_410 : Index := 6#32
  let c0_i32_294 : BitVec 32 := 0#32
  let c1_i32_296 : BitVec 32 := 1#32
  let arg9 : BitVec 32 := Scf.iv c0_i32_294 c1_i32_296 k0_t1
  let c512_i32_408 : BitVec 32 := 512#32
  let v774 : BitVec 32 := Scalar.muli arg9 c512_i32_408
  let v775 : BitVec 32 := v774
  let v776 : Index := Scalar.indexCast v775
  let c0_411 : Index := 0#32
  ![0, 6, v776.toNat, 0]
def k0_off28 (i : grid0.Coords) (k0_t1 : Fin (k0_t1_loop i).trips) : Fin 5 → Nat :=
  let c0_417 : Index := 0#32
  let c4_418 : Index := 4#32
  let c0_i32_294 : BitVec 32 := 0#32
  let c1_i32_296 : BitVec 32 := 1#32
  let arg9 : BitVec 32 := Scf.iv c0_i32_294 c1_i32_296 k0_t1
  let v783 : Index := Scalar.indexCast arg9
  let c0_419 : Index := 0#32
  let c0_420 : Index := 0#32
  ![0, 4, v783.toNat, 0, 0]
def k0_mult16 (i : grid0.Coords) (k0_t1 : Fin (k0_t1_loop i).trips) : BitVec 32 :=
  let c0_i32_294 : BitVec 32 := 0#32
  let c1_i32_296 : BitVec 32 := 1#32
  let arg9 : BitVec 32 := Scf.iv c0_i32_294 c1_i32_296 k0_t1
  let c512_i32_431 : BitVec 32 := 512#32
  let v800 : BitVec 32 := Scalar.muli arg9 c512_i32_431
  v800
def k0_off29 (i : grid0.Coords) (k0_t1 : Fin (k0_t1_loop i).trips) : Fin 4 → Nat :=
  let c0_432 : Index := 0#32
  let c7_433 : Index := 7#32
  let c0_i32_294 : BitVec 32 := 0#32
  let c1_i32_296 : BitVec 32 := 1#32
  let arg9 : BitVec 32 := Scf.iv c0_i32_294 c1_i32_296 k0_t1
  let c512_i32_431 : BitVec 32 := 512#32
  let v800 : BitVec 32 := Scalar.muli arg9 c512_i32_431
  let v801 : BitVec 32 := v800
  let v802 : Index := Scalar.indexCast v801
  let c0_434 : Index := 0#32
  ![0, 7, v802.toNat, 0]
def k0_off30 (i : grid0.Coords) (k0_t1 : Fin (k0_t1_loop i).trips) : Fin 5 → Nat :=
  let c0_440 : Index := 0#32
  let c5_441 : Index := 5#32
  let c0_i32_294 : BitVec 32 := 0#32
  let c1_i32_296 : BitVec 32 := 1#32
  let arg9 : BitVec 32 := Scf.iv c0_i32_294 c1_i32_296 k0_t1
  let v809 : Index := Scalar.indexCast arg9
  let c0_442 : Index := 0#32
  let c0_443 : Index := 0#32
  ![0, 5, v809.toNat, 0, 0]
def k0_off31 (i : grid0.Coords) (k0_t1 : Fin (k0_t1_loop i).trips) : Fin 5 → Nat :=
  let c0_454 : Index := 0#32
  let c6_455 : Index := 6#32
  let c0_i32_294 : BitVec 32 := 0#32
  let c1_i32_296 : BitVec 32 := 1#32
  let arg9 : BitVec 32 := Scf.iv c0_i32_294 c1_i32_296 k0_t1
  let v827 : Index := Scalar.indexCast arg9
  let c0_456 : Index := 0#32
  let c0_457 : Index := 0#32
  ![0, 6, v827.toNat, 0, 0]
def k0_off32 (i : grid0.Coords) (k0_t1 : Fin (k0_t1_loop i).trips) : Fin 5 → Nat :=
  let c0_468 : Index := 0#32
  let c7_469 : Index := 7#32
  let c0_i32_294 : BitVec 32 := 0#32
  let c1_i32_296 : BitVec 32 := 1#32
  let arg9 : BitVec 32 := Scf.iv c0_i32_294 c1_i32_296 k0_t1
  let v845 : Index := Scalar.indexCast arg9
  let c0_470 : Index := 0#32
  let c0_471 : Index := 0#32
  ![0, 7, v845.toNat, 0, 0]
@[reducible] def k0_t2_loop (i : grid0.Coords) : Scf.Loop 32 :=
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let v650 : BitVec 32 := Scalar.addi c0_i32_294 v649
  let c1_i32_297 : BitVec 32 := 1#32
  ⟨v653, v650, c1_i32_297⟩
def k0_mult17 (i : grid0.Coords) (k0_t2 : Fin (k0_t2_loop i).trips) : BitVec 32 :=
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let c512_i32_298 : BitVec 32 := 512#32
  let v654 : BitVec 32 := Scalar.muli arg9 c512_i32_298
  v654
def k0_off33 (i : grid0.Coords) (k0_t2 : Fin (k0_t2_loop i).trips) : Fin 4 → Nat :=
  let c0_299 : Index := 0#32
  let c0_300 : Index := 0#32
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let c512_i32_298 : BitVec 32 := 512#32
  let v654 : BitVec 32 := Scalar.muli arg9 c512_i32_298
  let v655 : BitVec 32 := v654
  let v656 : Index := Scalar.indexCast v655
  let c0_301 : Index := 0#32
  ![0, 0, v656.toNat, 0]
def k0_mult18 (i : grid0.Coords) (k0_t2 : Fin (k0_t2_loop i).trips) : BitVec 32 :=
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let c512_i32_307 : BitVec 32 := 512#32
  let v662 : BitVec 32 := Scalar.muli arg9 c512_i32_307
  v662
def k0_off34 (i : grid0.Coords) (k0_t2 : Fin (k0_t2_loop i).trips) : Fin 4 → Nat :=
  let c0_308 : Index := 0#32
  let c1_309 : Index := 1#32
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let c512_i32_307 : BitVec 32 := 512#32
  let v662 : BitVec 32 := Scalar.muli arg9 c512_i32_307
  let v663 : BitVec 32 := v662
  let v664 : Index := Scalar.indexCast v663
  let c0_310 : Index := 0#32
  ![0, 1, v664.toNat, 0]
def k0_mult19 (i : grid0.Coords) (k0_t2 : Fin (k0_t2_loop i).trips) : BitVec 32 :=
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let c512_i32_316 : BitVec 32 := 512#32
  let v670 : BitVec 32 := Scalar.muli arg9 c512_i32_316
  v670
def k0_off35 (i : grid0.Coords) (k0_t2 : Fin (k0_t2_loop i).trips) : Fin 4 → Nat :=
  let c0_317 : Index := 0#32
  let c2_318 : Index := 2#32
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let c512_i32_316 : BitVec 32 := 512#32
  let v670 : BitVec 32 := Scalar.muli arg9 c512_i32_316
  let v671 : BitVec 32 := v670
  let v672 : Index := Scalar.indexCast v671
  let c0_319 : Index := 0#32
  ![0, 2, v672.toNat, 0]
def k0_off36 (i : grid0.Coords) (k0_t2 : Fin (k0_t2_loop i).trips) : Fin 5 → Nat :=
  let c0_325 : Index := 0#32
  let c0_326 : Index := 0#32
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let v679 : Index := Scalar.indexCast arg9
  let c0_327 : Index := 0#32
  let c0_328 : Index := 0#32
  ![0, 0, v679.toNat, 0, 0]
def k0_mult20 (i : grid0.Coords) (k0_t2 : Fin (k0_t2_loop i).trips) : BitVec 32 :=
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let c512_i32_339 : BitVec 32 := 512#32
  let v696 : BitVec 32 := Scalar.muli arg9 c512_i32_339
  v696
def k0_off37 (i : grid0.Coords) (k0_t2 : Fin (k0_t2_loop i).trips) : Fin 4 → Nat :=
  let c0_340 : Index := 0#32
  let c3_341 : Index := 3#32
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let c512_i32_339 : BitVec 32 := 512#32
  let v696 : BitVec 32 := Scalar.muli arg9 c512_i32_339
  let v697 : BitVec 32 := v696
  let v698 : Index := Scalar.indexCast v697
  let c0_342 : Index := 0#32
  ![0, 3, v698.toNat, 0]
def k0_off38 (i : grid0.Coords) (k0_t2 : Fin (k0_t2_loop i).trips) : Fin 5 → Nat :=
  let c0_348 : Index := 0#32
  let c1_349 : Index := 1#32
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let v705 : Index := Scalar.indexCast arg9
  let c0_350 : Index := 0#32
  let c0_351 : Index := 0#32
  ![0, 1, v705.toNat, 0, 0]
def k0_mult21 (i : grid0.Coords) (k0_t2 : Fin (k0_t2_loop i).trips) : BitVec 32 :=
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let c512_i32_362 : BitVec 32 := 512#32
  let v722 : BitVec 32 := Scalar.muli arg9 c512_i32_362
  v722
def k0_off39 (i : grid0.Coords) (k0_t2 : Fin (k0_t2_loop i).trips) : Fin 4 → Nat :=
  let c0_363 : Index := 0#32
  let c4_364 : Index := 4#32
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let c512_i32_362 : BitVec 32 := 512#32
  let v722 : BitVec 32 := Scalar.muli arg9 c512_i32_362
  let v723 : BitVec 32 := v722
  let v724 : Index := Scalar.indexCast v723
  let c0_365 : Index := 0#32
  ![0, 4, v724.toNat, 0]
def k0_off40 (i : grid0.Coords) (k0_t2 : Fin (k0_t2_loop i).trips) : Fin 5 → Nat :=
  let c0_371 : Index := 0#32
  let c2_372 : Index := 2#32
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let v731 : Index := Scalar.indexCast arg9
  let c0_373 : Index := 0#32
  let c0_374 : Index := 0#32
  ![0, 2, v731.toNat, 0, 0]
def k0_mult22 (i : grid0.Coords) (k0_t2 : Fin (k0_t2_loop i).trips) : BitVec 32 :=
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let c512_i32_385 : BitVec 32 := 512#32
  let v748 : BitVec 32 := Scalar.muli arg9 c512_i32_385
  v748
def k0_off41 (i : grid0.Coords) (k0_t2 : Fin (k0_t2_loop i).trips) : Fin 4 → Nat :=
  let c0_386 : Index := 0#32
  let c5_387 : Index := 5#32
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let c512_i32_385 : BitVec 32 := 512#32
  let v748 : BitVec 32 := Scalar.muli arg9 c512_i32_385
  let v749 : BitVec 32 := v748
  let v750 : Index := Scalar.indexCast v749
  let c0_388 : Index := 0#32
  ![0, 5, v750.toNat, 0]
def k0_off42 (i : grid0.Coords) (k0_t2 : Fin (k0_t2_loop i).trips) : Fin 5 → Nat :=
  let c0_394 : Index := 0#32
  let c3_395 : Index := 3#32
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let v757 : Index := Scalar.indexCast arg9
  let c0_396 : Index := 0#32
  let c0_397 : Index := 0#32
  ![0, 3, v757.toNat, 0, 0]
def k0_mult23 (i : grid0.Coords) (k0_t2 : Fin (k0_t2_loop i).trips) : BitVec 32 :=
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let c512_i32_408 : BitVec 32 := 512#32
  let v774 : BitVec 32 := Scalar.muli arg9 c512_i32_408
  v774
def k0_off43 (i : grid0.Coords) (k0_t2 : Fin (k0_t2_loop i).trips) : Fin 4 → Nat :=
  let c0_409 : Index := 0#32
  let c6_410 : Index := 6#32
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let c512_i32_408 : BitVec 32 := 512#32
  let v774 : BitVec 32 := Scalar.muli arg9 c512_i32_408
  let v775 : BitVec 32 := v774
  let v776 : Index := Scalar.indexCast v775
  let c0_411 : Index := 0#32
  ![0, 6, v776.toNat, 0]
def k0_off44 (i : grid0.Coords) (k0_t2 : Fin (k0_t2_loop i).trips) : Fin 5 → Nat :=
  let c0_417 : Index := 0#32
  let c4_418 : Index := 4#32
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let v783 : Index := Scalar.indexCast arg9
  let c0_419 : Index := 0#32
  let c0_420 : Index := 0#32
  ![0, 4, v783.toNat, 0, 0]
def k0_mult24 (i : grid0.Coords) (k0_t2 : Fin (k0_t2_loop i).trips) : BitVec 32 :=
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let c512_i32_431 : BitVec 32 := 512#32
  let v800 : BitVec 32 := Scalar.muli arg9 c512_i32_431
  v800
def k0_off45 (i : grid0.Coords) (k0_t2 : Fin (k0_t2_loop i).trips) : Fin 4 → Nat :=
  let c0_432 : Index := 0#32
  let c7_433 : Index := 7#32
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let c512_i32_431 : BitVec 32 := 512#32
  let v800 : BitVec 32 := Scalar.muli arg9 c512_i32_431
  let v801 : BitVec 32 := v800
  let v802 : Index := Scalar.indexCast v801
  let c0_434 : Index := 0#32
  ![0, 7, v802.toNat, 0]
def k0_off46 (i : grid0.Coords) (k0_t2 : Fin (k0_t2_loop i).trips) : Fin 5 → Nat :=
  let c0_440 : Index := 0#32
  let c5_441 : Index := 5#32
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let v809 : Index := Scalar.indexCast arg9
  let c0_442 : Index := 0#32
  let c0_443 : Index := 0#32
  ![0, 5, v809.toNat, 0, 0]
def k0_off47 (i : grid0.Coords) (k0_t2 : Fin (k0_t2_loop i).trips) : Fin 5 → Nat :=
  let c0_454 : Index := 0#32
  let c6_455 : Index := 6#32
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let v827 : Index := Scalar.indexCast arg9
  let c0_456 : Index := 0#32
  let c0_457 : Index := 0#32
  ![0, 6, v827.toNat, 0, 0]
def k0_off48 (i : grid0.Coords) (k0_t2 : Fin (k0_t2_loop i).trips) : Fin 5 → Nat :=
  let c0_468 : Index := 0#32
  let c7_469 : Index := 7#32
  let c0_i32_294 : BitVec 32 := 0#32
  let arg1 : BitVec 32 := BitVec.ofNat 32 (i 1).val
  let v649 : BitVec 32 := Scalar.subi arg1 c0_i32_294
  let c1_i32_295 : BitVec 32 := 1#32
  let v651 : BitVec 32 := Scalar.divsi v649 c1_i32_295
  let v652 : BitVec 32 := Scalar.muli v651 c1_i32_295
  let v653 : BitVec 32 := Scalar.addi c0_i32_294 v652
  let c1_i32_297 : BitVec 32 := 1#32
  let arg9 : BitVec 32 := Scf.iv v653 c1_i32_297 k0_t2
  let v845 : Index := Scalar.indexCast arg9
  let c0_470 : Index := 0#32
  let c0_471 : Index := 0#32
  ![0, 7, v845.toNat, 0, 0]
@[reducible] def k0_t3_loop (i : grid0.Coords) : Scf.Loop 32 :=
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_305 : BitVec 32 := 1#32
  ⟨c0_i32_303, v665, c1_i32_305⟩
def k0_mult25 (i : grid0.Coords) (k0_t3 : Fin (k0_t3_loop i).trips) : BitVec 32 :=
  let c0_i32_303 : BitVec 32 := 0#32
  let c1_i32_305 : BitVec 32 := 1#32
  let arg9 : BitVec 32 := Scf.iv c0_i32_303 c1_i32_305 k0_t3
  let c512_i32_651 : BitVec 32 := 512#32
  let v1410 : BitVec 32 := Scalar.muli arg9 c512_i32_651
  v1410
def k0_off49 (i : grid0.Coords) (k0_t3 : Fin (k0_t3_loop i).trips) : Fin 4 → Nat :=
  let c0_652 : Index := 0#32
  let c0_653 : Index := 0#32
  let c0_i32_303 : BitVec 32 := 0#32
  let c1_i32_305 : BitVec 32 := 1#32
  let arg9 : BitVec 32 := Scf.iv c0_i32_303 c1_i32_305 k0_t3
  let c512_i32_651 : BitVec 32 := 512#32
  let v1410 : BitVec 32 := Scalar.muli arg9 c512_i32_651
  let v1411 : BitVec 32 := v1410
  let v1412 : Index := Scalar.indexCast v1411
  let c0_654 : Index := 0#32
  ![0, 0, v1412.toNat, 0]
def k0_mult26 (i : grid0.Coords) (k0_t3 : Fin (k0_t3_loop i).trips) : BitVec 32 :=
  let c0_i32_303 : BitVec 32 := 0#32
  let c1_i32_305 : BitVec 32 := 1#32
  let arg9 : BitVec 32 := Scf.iv c0_i32_303 c1_i32_305 k0_t3
  let c512_i32_660 : BitVec 32 := 512#32
  let v1418 : BitVec 32 := Scalar.muli arg9 c512_i32_660
  v1418
def k0_off50 (i : grid0.Coords) (k0_t3 : Fin (k0_t3_loop i).trips) : Fin 4 → Nat :=
  let c0_661 : Index := 0#32
  let c1_662 : Index := 1#32
  let c0_i32_303 : BitVec 32 := 0#32
  let c1_i32_305 : BitVec 32 := 1#32
  let arg9 : BitVec 32 := Scf.iv c0_i32_303 c1_i32_305 k0_t3
  let c512_i32_660 : BitVec 32 := 512#32
  let v1418 : BitVec 32 := Scalar.muli arg9 c512_i32_660
  let v1419 : BitVec 32 := v1418
  let v1420 : Index := Scalar.indexCast v1419
  let c0_663 : Index := 0#32
  ![0, 1, v1420.toNat, 0]
def k0_mult27 (i : grid0.Coords) (k0_t3 : Fin (k0_t3_loop i).trips) : BitVec 32 :=
  let c0_i32_303 : BitVec 32 := 0#32
  let c1_i32_305 : BitVec 32 := 1#32
  let arg9 : BitVec 32 := Scf.iv c0_i32_303 c1_i32_305 k0_t3
  let c512_i32_669 : BitVec 32 := 512#32
  let v1426 : BitVec 32 := Scalar.muli arg9 c512_i32_669
  v1426
def k0_off51 (i : grid0.Coords) (k0_t3 : Fin (k0_t3_loop i).trips) : Fin 4 → Nat :=
  let c0_670 : Index := 0#32
  let c2_671 : Index := 2#32
  let c0_i32_303 : BitVec 32 := 0#32
  let c1_i32_305 : BitVec 32 := 1#32
  let arg9 : BitVec 32 := Scf.iv c0_i32_303 c1_i32_305 k0_t3
  let c512_i32_669 : BitVec 32 := 512#32
  let v1426 : BitVec 32 := Scalar.muli arg9 c512_i32_669
  let v1427 : BitVec 32 := v1426
  let v1428 : Index := Scalar.indexCast v1427
  let c0_672 : Index := 0#32
  ![0, 2, v1428.toNat, 0]
def k0_off52 (i : grid0.Coords) (k0_t3 : Fin (k0_t3_loop i).trips) : Fin 5 → Nat :=
  let c0_683 : Index := 0#32
  let c0_684 : Index := 0#32
  let c0_i32_303 : BitVec 32 := 0#32
  let c1_i32_305 : BitVec 32 := 1#32
  let arg9 : BitVec 32 := Scf.iv c0_i32_303 c1_i32_305 k0_t3
  let v1446 : Index := Scalar.indexCast arg9
  let c0_685 : Index := 0#32
  let c0_686 : Index := 0#32
  ![0, 0, v1446.toNat, 0, 0]
def k0_mult28 (i : grid0.Coords) (k0_t3 : Fin (k0_t3_loop i).trips) : BitVec 32 :=
  let c0_i32_303 : BitVec 32 := 0#32
  let c1_i32_305 : BitVec 32 := 1#32
  let arg9 : BitVec 32 := Scf.iv c0_i32_303 c1_i32_305 k0_t3
  let c512_i32_697 : BitVec 32 := 512#32
  let v1466 : BitVec 32 := Scalar.muli arg9 c512_i32_697
  v1466
def k0_off53 (i : grid0.Coords) (k0_t3 : Fin (k0_t3_loop i).trips) : Fin 4 → Nat :=
  let c0_698 : Index := 0#32
  let c3_699 : Index := 3#32
  let c0_i32_303 : BitVec 32 := 0#32
  let c1_i32_305 : BitVec 32 := 1#32
  let arg9 : BitVec 32 := Scf.iv c0_i32_303 c1_i32_305 k0_t3
  let c512_i32_697 : BitVec 32 := 512#32
  let v1466 : BitVec 32 := Scalar.muli arg9 c512_i32_697
  let v1467 : BitVec 32 := v1466
  let v1468 : Index := Scalar.indexCast v1467
  let c0_700 : Index := 0#32
  ![0, 3, v1468.toNat, 0]
def k0_off54 (i : grid0.Coords) (k0_t3 : Fin (k0_t3_loop i).trips) : Fin 5 → Nat :=
  let c0_711 : Index := 0#32
  let c1_712 : Index := 1#32
  let c0_i32_303 : BitVec 32 := 0#32
  let c1_i32_305 : BitVec 32 := 1#32
  let arg9 : BitVec 32 := Scf.iv c0_i32_303 c1_i32_305 k0_t3
  let v1486 : Index := Scalar.indexCast arg9
  let c0_713 : Index := 0#32
  let c0_714 : Index := 0#32
  ![0, 1, v1486.toNat, 0, 0]
def k0_mult29 (i : grid0.Coords) (k0_t3 : Fin (k0_t3_loop i).trips) : BitVec 32 :=
  let c0_i32_303 : BitVec 32 := 0#32
  let c1_i32_305 : BitVec 32 := 1#32
  let arg9 : BitVec 32 := Scf.iv c0_i32_303 c1_i32_305 k0_t3
  let c512_i32_725 : BitVec 32 := 512#32
  let v1506 : BitVec 32 := Scalar.muli arg9 c512_i32_725
  v1506
def k0_off55 (i : grid0.Coords) (k0_t3 : Fin (k0_t3_loop i).trips) : Fin 4 → Nat :=
  let c0_726 : Index := 0#32
  let c4_727 : Index := 4#32
  let c0_i32_303 : BitVec 32 := 0#32
  let c1_i32_305 : BitVec 32 := 1#32
  let arg9 : BitVec 32 := Scf.iv c0_i32_303 c1_i32_305 k0_t3
  let c512_i32_725 : BitVec 32 := 512#32
  let v1506 : BitVec 32 := Scalar.muli arg9 c512_i32_725
  let v1507 : BitVec 32 := v1506
  let v1508 : Index := Scalar.indexCast v1507
  let c0_728 : Index := 0#32
  ![0, 4, v1508.toNat, 0]
def k0_off56 (i : grid0.Coords) (k0_t3 : Fin (k0_t3_loop i).trips) : Fin 5 → Nat :=
  let c0_739 : Index := 0#32
  let c2_740 : Index := 2#32
  let c0_i32_303 : BitVec 32 := 0#32
  let c1_i32_305 : BitVec 32 := 1#32
  let arg9 : BitVec 32 := Scf.iv c0_i32_303 c1_i32_305 k0_t3
  let v1526 : Index := Scalar.indexCast arg9
  let c0_741 : Index := 0#32
  let c0_742 : Index := 0#32
  ![0, 2, v1526.toNat, 0, 0]
def k0_mult30 (i : grid0.Coords) (k0_t3 : Fin (k0_t3_loop i).trips) : BitVec 32 :=
  let c0_i32_303 : BitVec 32 := 0#32
  let c1_i32_305 : BitVec 32 := 1#32
  let arg9 : BitVec 32 := Scf.iv c0_i32_303 c1_i32_305 k0_t3
  let c512_i32_753 : BitVec 32 := 512#32
  let v1546 : BitVec 32 := Scalar.muli arg9 c512_i32_753
  v1546
def k0_off57 (i : grid0.Coords) (k0_t3 : Fin (k0_t3_loop i).trips) : Fin 4 → Nat :=
  let c0_754 : Index := 0#32
  let c5_755 : Index := 5#32
  let c0_i32_303 : BitVec 32 := 0#32
  let c1_i32_305 : BitVec 32 := 1#32
  let arg9 : BitVec 32 := Scf.iv c0_i32_303 c1_i32_305 k0_t3
  let c512_i32_753 : BitVec 32 := 512#32
  let v1546 : BitVec 32 := Scalar.muli arg9 c512_i32_753
  let v1547 : BitVec 32 := v1546
  let v1548 : Index := Scalar.indexCast v1547
  let c0_756 : Index := 0#32
  ![0, 5, v1548.toNat, 0]
def k0_off58 (i : grid0.Coords) (k0_t3 : Fin (k0_t3_loop i).trips) : Fin 5 → Nat :=
  let c0_767 : Index := 0#32
  let c3_768 : Index := 3#32
  let c0_i32_303 : BitVec 32 := 0#32
  let c1_i32_305 : BitVec 32 := 1#32
  let arg9 : BitVec 32 := Scf.iv c0_i32_303 c1_i32_305 k0_t3
  let v1566 : Index := Scalar.indexCast arg9
  let c0_769 : Index := 0#32
  let c0_770 : Index := 0#32
  ![0, 3, v1566.toNat, 0, 0]
def k0_mult31 (i : grid0.Coords) (k0_t3 : Fin (k0_t3_loop i).trips) : BitVec 32 :=
  let c0_i32_303 : BitVec 32 := 0#32
  let c1_i32_305 : BitVec 32 := 1#32
  let arg9 : BitVec 32 := Scf.iv c0_i32_303 c1_i32_305 k0_t3
  let c512_i32_781 : BitVec 32 := 512#32
  let v1586 : BitVec 32 := Scalar.muli arg9 c512_i32_781
  v1586
def k0_off59 (i : grid0.Coords) (k0_t3 : Fin (k0_t3_loop i).trips) : Fin 4 → Nat :=
  let c0_782 : Index := 0#32
  let c6_783 : Index := 6#32
  let c0_i32_303 : BitVec 32 := 0#32
  let c1_i32_305 : BitVec 32 := 1#32
  let arg9 : BitVec 32 := Scf.iv c0_i32_303 c1_i32_305 k0_t3
  let c512_i32_781 : BitVec 32 := 512#32
  let v1586 : BitVec 32 := Scalar.muli arg9 c512_i32_781
  let v1587 : BitVec 32 := v1586
  let v1588 : Index := Scalar.indexCast v1587
  let c0_784 : Index := 0#32
  ![0, 6, v1588.toNat, 0]
def k0_off60 (i : grid0.Coords) (k0_t3 : Fin (k0_t3_loop i).trips) : Fin 5 → Nat :=
  let c0_795 : Index := 0#32
  let c4_796 : Index := 4#32
  let c0_i32_303 : BitVec 32 := 0#32
  let c1_i32_305 : BitVec 32 := 1#32
  let arg9 : BitVec 32 := Scf.iv c0_i32_303 c1_i32_305 k0_t3
  let v1606 : Index := Scalar.indexCast arg9
  let c0_797 : Index := 0#32
  let c0_798 : Index := 0#32
  ![0, 4, v1606.toNat, 0, 0]
def k0_mult32 (i : grid0.Coords) (k0_t3 : Fin (k0_t3_loop i).trips) : BitVec 32 :=
  let c0_i32_303 : BitVec 32 := 0#32
  let c1_i32_305 : BitVec 32 := 1#32
  let arg9 : BitVec 32 := Scf.iv c0_i32_303 c1_i32_305 k0_t3
  let c512_i32_809 : BitVec 32 := 512#32
  let v1626 : BitVec 32 := Scalar.muli arg9 c512_i32_809
  v1626
def k0_off61 (i : grid0.Coords) (k0_t3 : Fin (k0_t3_loop i).trips) : Fin 4 → Nat :=
  let c0_810 : Index := 0#32
  let c7_811 : Index := 7#32
  let c0_i32_303 : BitVec 32 := 0#32
  let c1_i32_305 : BitVec 32 := 1#32
  let arg9 : BitVec 32 := Scf.iv c0_i32_303 c1_i32_305 k0_t3
  let c512_i32_809 : BitVec 32 := 512#32
  let v1626 : BitVec 32 := Scalar.muli arg9 c512_i32_809
  let v1627 : BitVec 32 := v1626
  let v1628 : Index := Scalar.indexCast v1627
  let c0_812 : Index := 0#32
  ![0, 7, v1628.toNat, 0]
def k0_off62 (i : grid0.Coords) (k0_t3 : Fin (k0_t3_loop i).trips) : Fin 5 → Nat :=
  let c0_823 : Index := 0#32
  let c5_824 : Index := 5#32
  let c0_i32_303 : BitVec 32 := 0#32
  let c1_i32_305 : BitVec 32 := 1#32
  let arg9 : BitVec 32 := Scf.iv c0_i32_303 c1_i32_305 k0_t3
  let v1646 : Index := Scalar.indexCast arg9
  let c0_825 : Index := 0#32
  let c0_826 : Index := 0#32
  ![0, 5, v1646.toNat, 0, 0]
def k0_off63 (i : grid0.Coords) (k0_t3 : Fin (k0_t3_loop i).trips) : Fin 5 → Nat :=
  let c0_842 : Index := 0#32
  let c6_843 : Index := 6#32
  let c0_i32_303 : BitVec 32 := 0#32
  let c1_i32_305 : BitVec 32 := 1#32
  let arg9 : BitVec 32 := Scf.iv c0_i32_303 c1_i32_305 k0_t3
  let v1678 : Index := Scalar.indexCast arg9
  let c0_844 : Index := 0#32
  let c0_845 : Index := 0#32
  ![0, 6, v1678.toNat, 0, 0]
def k0_off64 (i : grid0.Coords) (k0_t3 : Fin (k0_t3_loop i).trips) : Fin 5 → Nat :=
  let c0_861 : Index := 0#32
  let c7_862 : Index := 7#32
  let c0_i32_303 : BitVec 32 := 0#32
  let c1_i32_305 : BitVec 32 := 1#32
  let arg9 : BitVec 32 := Scf.iv c0_i32_303 c1_i32_305 k0_t3
  let v1710 : Index := Scalar.indexCast arg9
  let c0_863 : Index := 0#32
  let c0_864 : Index := 0#32
  ![0, 7, v1710.toNat, 0, 0]
@[reducible] def k0_t4_loop (i : grid0.Coords) : Scf.Loop 32 :=
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let v662 : BitVec 32 := Scalar.addi c0_i32_303 v661
  let c1_i32_306 : BitVec 32 := 1#32
  ⟨v665, v662, c1_i32_306⟩
def k0_mult33 (i : grid0.Coords) (k0_t4 : Fin (k0_t4_loop i).trips) : BitVec 32 :=
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let c512_i32_651 : BitVec 32 := 512#32
  let v1410 : BitVec 32 := Scalar.muli arg9 c512_i32_651
  v1410
def k0_off65 (i : grid0.Coords) (k0_t4 : Fin (k0_t4_loop i).trips) : Fin 4 → Nat :=
  let c0_652 : Index := 0#32
  let c0_653 : Index := 0#32
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let c512_i32_651 : BitVec 32 := 512#32
  let v1410 : BitVec 32 := Scalar.muli arg9 c512_i32_651
  let v1411 : BitVec 32 := v1410
  let v1412 : Index := Scalar.indexCast v1411
  let c0_654 : Index := 0#32
  ![0, 0, v1412.toNat, 0]
def k0_mult34 (i : grid0.Coords) (k0_t4 : Fin (k0_t4_loop i).trips) : BitVec 32 :=
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let c512_i32_660 : BitVec 32 := 512#32
  let v1418 : BitVec 32 := Scalar.muli arg9 c512_i32_660
  v1418
def k0_off66 (i : grid0.Coords) (k0_t4 : Fin (k0_t4_loop i).trips) : Fin 4 → Nat :=
  let c0_661 : Index := 0#32
  let c1_662 : Index := 1#32
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let c512_i32_660 : BitVec 32 := 512#32
  let v1418 : BitVec 32 := Scalar.muli arg9 c512_i32_660
  let v1419 : BitVec 32 := v1418
  let v1420 : Index := Scalar.indexCast v1419
  let c0_663 : Index := 0#32
  ![0, 1, v1420.toNat, 0]
def k0_mult35 (i : grid0.Coords) (k0_t4 : Fin (k0_t4_loop i).trips) : BitVec 32 :=
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let c512_i32_669 : BitVec 32 := 512#32
  let v1426 : BitVec 32 := Scalar.muli arg9 c512_i32_669
  v1426
def k0_off67 (i : grid0.Coords) (k0_t4 : Fin (k0_t4_loop i).trips) : Fin 4 → Nat :=
  let c0_670 : Index := 0#32
  let c2_671 : Index := 2#32
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let c512_i32_669 : BitVec 32 := 512#32
  let v1426 : BitVec 32 := Scalar.muli arg9 c512_i32_669
  let v1427 : BitVec 32 := v1426
  let v1428 : Index := Scalar.indexCast v1427
  let c0_672 : Index := 0#32
  ![0, 2, v1428.toNat, 0]
def k0_off68 (i : grid0.Coords) (k0_t4 : Fin (k0_t4_loop i).trips) : Fin 5 → Nat :=
  let c0_683 : Index := 0#32
  let c0_684 : Index := 0#32
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let v1446 : Index := Scalar.indexCast arg9
  let c0_685 : Index := 0#32
  let c0_686 : Index := 0#32
  ![0, 0, v1446.toNat, 0, 0]
def k0_mult36 (i : grid0.Coords) (k0_t4 : Fin (k0_t4_loop i).trips) : BitVec 32 :=
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let c512_i32_697 : BitVec 32 := 512#32
  let v1466 : BitVec 32 := Scalar.muli arg9 c512_i32_697
  v1466
def k0_off69 (i : grid0.Coords) (k0_t4 : Fin (k0_t4_loop i).trips) : Fin 4 → Nat :=
  let c0_698 : Index := 0#32
  let c3_699 : Index := 3#32
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let c512_i32_697 : BitVec 32 := 512#32
  let v1466 : BitVec 32 := Scalar.muli arg9 c512_i32_697
  let v1467 : BitVec 32 := v1466
  let v1468 : Index := Scalar.indexCast v1467
  let c0_700 : Index := 0#32
  ![0, 3, v1468.toNat, 0]
def k0_off70 (i : grid0.Coords) (k0_t4 : Fin (k0_t4_loop i).trips) : Fin 5 → Nat :=
  let c0_711 : Index := 0#32
  let c1_712 : Index := 1#32
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let v1486 : Index := Scalar.indexCast arg9
  let c0_713 : Index := 0#32
  let c0_714 : Index := 0#32
  ![0, 1, v1486.toNat, 0, 0]
def k0_mult37 (i : grid0.Coords) (k0_t4 : Fin (k0_t4_loop i).trips) : BitVec 32 :=
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let c512_i32_725 : BitVec 32 := 512#32
  let v1506 : BitVec 32 := Scalar.muli arg9 c512_i32_725
  v1506
def k0_off71 (i : grid0.Coords) (k0_t4 : Fin (k0_t4_loop i).trips) : Fin 4 → Nat :=
  let c0_726 : Index := 0#32
  let c4_727 : Index := 4#32
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let c512_i32_725 : BitVec 32 := 512#32
  let v1506 : BitVec 32 := Scalar.muli arg9 c512_i32_725
  let v1507 : BitVec 32 := v1506
  let v1508 : Index := Scalar.indexCast v1507
  let c0_728 : Index := 0#32
  ![0, 4, v1508.toNat, 0]
def k0_off72 (i : grid0.Coords) (k0_t4 : Fin (k0_t4_loop i).trips) : Fin 5 → Nat :=
  let c0_739 : Index := 0#32
  let c2_740 : Index := 2#32
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let v1526 : Index := Scalar.indexCast arg9
  let c0_741 : Index := 0#32
  let c0_742 : Index := 0#32
  ![0, 2, v1526.toNat, 0, 0]
def k0_mult38 (i : grid0.Coords) (k0_t4 : Fin (k0_t4_loop i).trips) : BitVec 32 :=
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let c512_i32_753 : BitVec 32 := 512#32
  let v1546 : BitVec 32 := Scalar.muli arg9 c512_i32_753
  v1546
def k0_off73 (i : grid0.Coords) (k0_t4 : Fin (k0_t4_loop i).trips) : Fin 4 → Nat :=
  let c0_754 : Index := 0#32
  let c5_755 : Index := 5#32
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let c512_i32_753 : BitVec 32 := 512#32
  let v1546 : BitVec 32 := Scalar.muli arg9 c512_i32_753
  let v1547 : BitVec 32 := v1546
  let v1548 : Index := Scalar.indexCast v1547
  let c0_756 : Index := 0#32
  ![0, 5, v1548.toNat, 0]
def k0_off74 (i : grid0.Coords) (k0_t4 : Fin (k0_t4_loop i).trips) : Fin 5 → Nat :=
  let c0_767 : Index := 0#32
  let c3_768 : Index := 3#32
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let v1566 : Index := Scalar.indexCast arg9
  let c0_769 : Index := 0#32
  let c0_770 : Index := 0#32
  ![0, 3, v1566.toNat, 0, 0]
def k0_mult39 (i : grid0.Coords) (k0_t4 : Fin (k0_t4_loop i).trips) : BitVec 32 :=
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let c512_i32_781 : BitVec 32 := 512#32
  let v1586 : BitVec 32 := Scalar.muli arg9 c512_i32_781
  v1586
def k0_off75 (i : grid0.Coords) (k0_t4 : Fin (k0_t4_loop i).trips) : Fin 4 → Nat :=
  let c0_782 : Index := 0#32
  let c6_783 : Index := 6#32
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let c512_i32_781 : BitVec 32 := 512#32
  let v1586 : BitVec 32 := Scalar.muli arg9 c512_i32_781
  let v1587 : BitVec 32 := v1586
  let v1588 : Index := Scalar.indexCast v1587
  let c0_784 : Index := 0#32
  ![0, 6, v1588.toNat, 0]
def k0_off76 (i : grid0.Coords) (k0_t4 : Fin (k0_t4_loop i).trips) : Fin 5 → Nat :=
  let c0_795 : Index := 0#32
  let c4_796 : Index := 4#32
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let v1606 : Index := Scalar.indexCast arg9
  let c0_797 : Index := 0#32
  let c0_798 : Index := 0#32
  ![0, 4, v1606.toNat, 0, 0]
def k0_mult40 (i : grid0.Coords) (k0_t4 : Fin (k0_t4_loop i).trips) : BitVec 32 :=
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let c512_i32_809 : BitVec 32 := 512#32
  let v1626 : BitVec 32 := Scalar.muli arg9 c512_i32_809
  v1626
def k0_off77 (i : grid0.Coords) (k0_t4 : Fin (k0_t4_loop i).trips) : Fin 4 → Nat :=
  let c0_810 : Index := 0#32
  let c7_811 : Index := 7#32
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let c512_i32_809 : BitVec 32 := 512#32
  let v1626 : BitVec 32 := Scalar.muli arg9 c512_i32_809
  let v1627 : BitVec 32 := v1626
  let v1628 : Index := Scalar.indexCast v1627
  let c0_812 : Index := 0#32
  ![0, 7, v1628.toNat, 0]
def k0_off78 (i : grid0.Coords) (k0_t4 : Fin (k0_t4_loop i).trips) : Fin 5 → Nat :=
  let c0_823 : Index := 0#32
  let c5_824 : Index := 5#32
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let v1646 : Index := Scalar.indexCast arg9
  let c0_825 : Index := 0#32
  let c0_826 : Index := 0#32
  ![0, 5, v1646.toNat, 0, 0]
def k0_off79 (i : grid0.Coords) (k0_t4 : Fin (k0_t4_loop i).trips) : Fin 5 → Nat :=
  let c0_842 : Index := 0#32
  let c6_843 : Index := 6#32
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let v1678 : Index := Scalar.indexCast arg9
  let c0_844 : Index := 0#32
  let c0_845 : Index := 0#32
  ![0, 6, v1678.toNat, 0, 0]
def k0_off80 (i : grid0.Coords) (k0_t4 : Fin (k0_t4_loop i).trips) : Fin 5 → Nat :=
  let c0_861 : Index := 0#32
  let c7_862 : Index := 7#32
  let c0_i32_303 : BitVec 32 := 0#32
  let arg1 : BitVec 32 := BitVec.ofNat 32 (i 1).val
  let v661 : BitVec 32 := Scalar.subi arg1 c0_i32_303
  let c1_i32_304 : BitVec 32 := 1#32
  let v663 : BitVec 32 := Scalar.divsi v661 c1_i32_304
  let v664 : BitVec 32 := Scalar.muli v663 c1_i32_304
  let v665 : BitVec 32 := Scalar.addi c0_i32_303 v664
  let c1_i32_306 : BitVec 32 := 1#32
  let arg9 : BitVec 32 := Scf.iv v665 c1_i32_306 k0_t4
  let v1710 : Index := Scalar.indexCast arg9
  let c0_863 : Index := 0#32
  let c0_864 : Index := 0#32
  ![0, 7, v1710.toNat, 0, 0]
def k0_mult41 (i : grid0.Coords) : BitVec 32 :=
  let arg1 : BitVec 32 := BitVec.ofNat 32 (i 1).val
  let c512_i32_307 : BitVec 32 := 512#32
  let v666 : BitVec 32 := Scalar.muli arg1 c512_i32_307
  v666
def k0_off81 (i : grid0.Coords) : Fin 4 → Nat :=
  let c0_308 : Index := 0#32
  let c0_309 : Index := 0#32
  let arg1 : BitVec 32 := BitVec.ofNat 32 (i 1).val
  let c512_i32_307 : BitVec 32 := 512#32
  let v666 : BitVec 32 := Scalar.muli arg1 c512_i32_307
  let v667 : BitVec 32 := v666
  let v668 : Index := Scalar.indexCast v667
  let c0_310 : Index := 0#32
  ![0, 0, v668.toNat, 0]
def k0_mult42 (i : grid0.Coords) : BitVec 32 :=
  let arg1 : BitVec 32 := BitVec.ofNat 32 (i 1).val
  let c512_i32_316 : BitVec 32 := 512#32
  let v674 : BitVec 32 := Scalar.muli arg1 c512_i32_316
  v674
def k0_off82 (i : grid0.Coords) : Fin 4 → Nat :=
  let c0_317 : Index := 0#32
  let c1_318 : Index := 1#32
  let arg1 : BitVec 32 := BitVec.ofNat 32 (i 1).val
  let c512_i32_316 : BitVec 32 := 512#32
  let v674 : BitVec 32 := Scalar.muli arg1 c512_i32_316
  let v675 : BitVec 32 := v674
  let v676 : Index := Scalar.indexCast v675
  let c0_319 : Index := 0#32
  ![0, 1, v676.toNat, 0]
def k0_mult43 (i : grid0.Coords) : BitVec 32 :=
  let arg1 : BitVec 32 := BitVec.ofNat 32 (i 1).val
  let c512_i32_325 : BitVec 32 := 512#32
  let v682 : BitVec 32 := Scalar.muli arg1 c512_i32_325
  v682
def k0_off83 (i : grid0.Coords) : Fin 4 → Nat :=
  let c0_326 : Index := 0#32
  let c2_327 : Index := 2#32
  let arg1 : BitVec 32 := BitVec.ofNat 32 (i 1).val
  let c512_i32_325 : BitVec 32 := 512#32
  let v682 : BitVec 32 := Scalar.muli arg1 c512_i32_325
  let v683 : BitVec 32 := v682
  let v684 : Index := Scalar.indexCast v683
  let c0_328 : Index := 0#32
  ![0, 2, v684.toNat, 0]
def k0_off84 (i : grid0.Coords) : Fin 5 → Nat :=
  let c0_354 : Index := 0#32
  let c0_355 : Index := 0#32
  let arg1 : BitVec 32 := BitVec.ofNat 32 (i 1).val
  let v755 : Index := Scalar.indexCast arg1
  let c0_356 : Index := 0#32
  let c0_357 : Index := 0#32
  ![0, 0, v755.toNat, 0, 0]
def k0_mult44 (i : grid0.Coords) : BitVec 32 :=
  let arg1 : BitVec 32 := BitVec.ofNat 32 (i 1).val
  let c512_i32_368 : BitVec 32 := 512#32
  let v775 : BitVec 32 := Scalar.muli arg1 c512_i32_368
  v775
def k0_off85 (i : grid0.Coords) : Fin 4 → Nat :=
  let c0_369 : Index := 0#32
  let c3_370 : Index := 3#32
  let arg1 : BitVec 32 := BitVec.ofNat 32 (i 1).val
  let c512_i32_368 : BitVec 32 := 512#32
  let v775 : BitVec 32 := Scalar.muli arg1 c512_i32_368
  let v776 : BitVec 32 := v775
  let v777 : Index := Scalar.indexCast v776
  let c0_371 : Index := 0#32
  ![0, 3, v777.toNat, 0]
def k0_off86 (i : grid0.Coords) : Fin 5 → Nat :=
  let c0_397 : Index := 0#32
  let c1_398 : Index := 1#32
  let arg1 : BitVec 32 := BitVec.ofNat 32 (i 1).val
  let v848 : Index := Scalar.indexCast arg1
  let c0_399 : Index := 0#32
  let c0_400 : Index := 0#32
  ![0, 1, v848.toNat, 0, 0]
def k0_mult45 (i : grid0.Coords) : BitVec 32 :=
  let arg1 : BitVec 32 := BitVec.ofNat 32 (i 1).val
  let c512_i32_411 : BitVec 32 := 512#32
  let v868 : BitVec 32 := Scalar.muli arg1 c512_i32_411
  v868
def k0_off87 (i : grid0.Coords) : Fin 4 → Nat :=
  let c0_412 : Index := 0#32
  let c4_413 : Index := 4#32
  let arg1 : BitVec 32 := BitVec.ofNat 32 (i 1).val
  let c512_i32_411 : BitVec 32 := 512#32
  let v868 : BitVec 32 := Scalar.muli arg1 c512_i32_411
  let v869 : BitVec 32 := v868
  let v870 : Index := Scalar.indexCast v869
  let c0_414 : Index := 0#32
  ![0, 4, v870.toNat, 0]
def k0_off88 (i : grid0.Coords) : Fin 5 → Nat :=
  let c0_440 : Index := 0#32
  let c2_441 : Index := 2#32
  let arg1 : BitVec 32 := BitVec.ofNat 32 (i 1).val
  let v941 : Index := Scalar.indexCast arg1
  let c0_442 : Index := 0#32
  let c0_443 : Index := 0#32
  ![0, 2, v941.toNat, 0, 0]
def k0_mult46 (i : grid0.Coords) : BitVec 32 :=
  let arg1 : BitVec 32 := BitVec.ofNat 32 (i 1).val
  let c512_i32_454 : BitVec 32 := 512#32
  let v961 : BitVec 32 := Scalar.muli arg1 c512_i32_454
  v961
def k0_off89 (i : grid0.Coords) : Fin 4 → Nat :=
  let c0_455 : Index := 0#32
  let c5_456 : Index := 5#32
  let arg1 : BitVec 32 := BitVec.ofNat 32 (i 1).val
  let c512_i32_454 : BitVec 32 := 512#32
  let v961 : BitVec 32 := Scalar.muli arg1 c512_i32_454
  let v962 : BitVec 32 := v961
  let v963 : Index := Scalar.indexCast v962
  let c0_457 : Index := 0#32
  ![0, 5, v963.toNat, 0]
def k0_off90 (i : grid0.Coords) : Fin 5 → Nat :=
  let c0_483 : Index := 0#32
  let c3_484 : Index := 3#32
  let arg1 : BitVec 32 := BitVec.ofNat 32 (i 1).val
  let v1034 : Index := Scalar.indexCast arg1
  let c0_485 : Index := 0#32
  let c0_486 : Index := 0#32
  ![0, 3, v1034.toNat, 0, 0]
def k0_mult47 (i : grid0.Coords) : BitVec 32 :=
  let arg1 : BitVec 32 := BitVec.ofNat 32 (i 1).val
  let c512_i32_497 : BitVec 32 := 512#32
  let v1054 : BitVec 32 := Scalar.muli arg1 c512_i32_497
  v1054
def k0_off91 (i : grid0.Coords) : Fin 4 → Nat :=
  let c0_498 : Index := 0#32
  let c6_499 : Index := 6#32
  let arg1 : BitVec 32 := BitVec.ofNat 32 (i 1).val
  let c512_i32_497 : BitVec 32 := 512#32
  let v1054 : BitVec 32 := Scalar.muli arg1 c512_i32_497
  let v1055 : BitVec 32 := v1054
  let v1056 : Index := Scalar.indexCast v1055
  let c0_500 : Index := 0#32
  ![0, 6, v1056.toNat, 0]
def k0_off92 (i : grid0.Coords) : Fin 5 → Nat :=
  let c0_526 : Index := 0#32
  let c4_527 : Index := 4#32
  let arg1 : BitVec 32 := BitVec.ofNat 32 (i 1).val
  let v1127 : Index := Scalar.indexCast arg1
  let c0_528 : Index := 0#32
  let c0_529 : Index := 0#32
  ![0, 4, v1127.toNat, 0, 0]
def k0_mult48 (i : grid0.Coords) : BitVec 32 :=
  let arg1 : BitVec 32 := BitVec.ofNat 32 (i 1).val
  let c512_i32_540 : BitVec 32 := 512#32
  let v1147 : BitVec 32 := Scalar.muli arg1 c512_i32_540
  v1147
def k0_off93 (i : grid0.Coords) : Fin 4 → Nat :=
  let c0_541 : Index := 0#32
  let c7_542 : Index := 7#32
  let arg1 : BitVec 32 := BitVec.ofNat 32 (i 1).val
  let c512_i32_540 : BitVec 32 := 512#32
  let v1147 : BitVec 32 := Scalar.muli arg1 c512_i32_540
  let v1148 : BitVec 32 := v1147
  let v1149 : Index := Scalar.indexCast v1148
  let c0_543 : Index := 0#32
  ![0, 7, v1149.toNat, 0]
def k0_off94 (i : grid0.Coords) : Fin 5 → Nat :=
  let c0_569 : Index := 0#32
  let c5_570 : Index := 5#32
  let arg1 : BitVec 32 := BitVec.ofNat 32 (i 1).val
  let v1220 : Index := Scalar.indexCast arg1
  let c0_571 : Index := 0#32
  let c0_572 : Index := 0#32
  ![0, 5, v1220.toNat, 0, 0]
def k0_off95 (i : grid0.Coords) : Fin 5 → Nat :=
  let c0_603 : Index := 0#32
  let c6_604 : Index := 6#32
  let arg1 : BitVec 32 := BitVec.ofNat 32 (i 1).val
  let v1305 : Index := Scalar.indexCast arg1
  let c0_605 : Index := 0#32
  let c0_606 : Index := 0#32
  ![0, 6, v1305.toNat, 0, 0]
def k0_off96 (i : grid0.Coords) : Fin 5 → Nat :=
  let c0_637 : Index := 0#32
  let c7_638 : Index := 7#32
  let arg1 : BitVec 32 := BitVec.ofNat 32 (i 1).val
  let v1390 : Index := Scalar.indexCast arg1
  let c0_639 : Index := 0#32
  let c0_640 : Index := 0#32
  ![0, 7, v1390.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x16x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x8x128x8192 : Shape := ⟨4, ![4, 8, 128, 8192]⟩
abbrev S4x8x8192x128 : Shape := ⟨4, ![4, 8, 8192, 128]⟩
abbrev S4x8x16x64x512 : Shape := ⟨5, ![4, 8, 16, 64, 512]⟩
abbrev S4x8192x8x128 : Shape := ⟨4, ![4, 8192, 8, 128]⟩
abbrev S4x16x512x8x64 : Shape := ⟨5, ![4, 16, 512, 8, 64]⟩
abbrev S4x8192x8x64 : Shape := ⟨4, ![4, 8192, 8, 64]⟩
abbrev S4x8x8192x8192 : Shape := ⟨4, ![4, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩
abbrev S4x8192x512 : Shape := ⟨3, ![4, 8192, 512]⟩

abbrev nBuf : Space → Nat
  | .hbm => 63
  | .vmem => 0
  | .smem => 0
  | _ => 0

abbrev bufTy : (tb : Table) → Fin (tcTables nBuf tb) → BufTy
  | .hbm, ⟨0, _⟩ => ⟨S4x8x128x8192, .bf16⟩
  | .hbm, ⟨1, _⟩ => ⟨S4x8x8192x128, .bf16⟩
  | .hbm, ⟨2, _⟩ => ⟨S4x8x16x64x512, .bf16⟩
  | .hbm, ⟨3, _⟩ => ⟨S4x8x128x8192, .f32⟩
  | .hbm, ⟨4, _⟩ => ⟨S4x8192x8x128, .f32⟩
  | .hbm, ⟨5, _⟩ => ⟨S4x8x8192x128, .f32⟩
  | .hbm, ⟨6, _⟩ => ⟨S4x8192x8x128, .f32⟩
  | .hbm, ⟨7, _⟩ => ⟨S4x8x16x64x512, .f32⟩
  | .hbm, ⟨8, _⟩ => ⟨S4x16x512x8x64, .f32⟩
  | .hbm, ⟨9, _⟩ => ⟨S4x8192x8x64, .f32⟩
  | .hbm, ⟨10, _⟩ => ⟨S4x8x8192x8192, .f32⟩
  | .hbm, ⟨11, _⟩ => ⟨S_, .f32⟩
  | .hbm, ⟨12, _⟩ => ⟨S_, .f32⟩
  | .hbm, ⟨13, _⟩ => ⟨S4x8x8192x8192, .f32⟩
  | .hbm, ⟨14, _⟩ => ⟨S4x8x8192x8192, .f32⟩
  | .hbm, ⟨15, _⟩ => ⟨S8192, .i32⟩
  | .hbm, ⟨16, _⟩ => ⟨S_, .i32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S8192, .i32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S1x8192, .i32⟩
  | .hbm, ⟨35, _⟩ => ⟨S8192x1, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S1x1x8192x8192, .i1⟩
  | .hbm, ⟨40, _⟩ => ⟨S_, .f32⟩
  | .hbm, ⟨41, _⟩ => ⟨S_, .f32⟩
  | .hbm, ⟨42, _⟩ => ⟨S4x8x8192x8192, .i1⟩
  | .hbm, ⟨43, _⟩ => ⟨S4x8x8192x8192, .f32⟩
  | .hbm, ⟨44, _⟩ => ⟨S4x8x8192x8192, .f32⟩
  | .hbm, ⟨45, _⟩ => ⟨S_, .f32⟩
  | .hbm, ⟨46, _⟩ => ⟨S4x8x8192, .f32⟩
  | .hbm, ⟨47, _⟩ => ⟨S_, .f32⟩
  | .hbm, ⟨48, _⟩ => ⟨S4x8x8192, .f32⟩
  | .hbm, ⟨49, _⟩ => ⟨S4x8x8192, .f32⟩
  | .hbm, ⟨50, _⟩ => ⟨S4x8x8192x1, .f32⟩
  | .hbm, ⟨51, _⟩ => ⟨S4x8x8192x8192, .f32⟩
  | .hbm, ⟨52, _⟩ => ⟨S4x8x8192x8192, .f32⟩
  | .hbm, ⟨53, _⟩ => ⟨S4x8x8192x8192, .f32⟩
  | .hbm, ⟨54, _⟩ => ⟨S_, .f32⟩
  | .hbm, ⟨55, _⟩ => ⟨S4x8x8192, .f32⟩
  | .hbm, ⟨56, _⟩ => ⟨S4x8x8192x1, .f32⟩
  | .hbm, ⟨57, _⟩ => ⟨S4x8x8192x8192, .f32⟩
  | .hbm, ⟨58, _⟩ => ⟨S4x8x8192x8192, .f32⟩
  | .hbm, ⟨59, _⟩ => ⟨S4x8x64x8192, .f32⟩
  | .hbm, ⟨60, _⟩ => ⟨S4x8192x8x64, .f32⟩
  | .hbm, ⟨61, _⟩ => ⟨S4x8192x512, .f32⟩
  | .hbm, ⟨62, _⟩ => ⟨S4x8192x512, .bf16⟩
  | _, _ => ⟨S4x8x128x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v19 : Ref sig .tc := ⟨.hbm, 44, rfl⟩
abbrev main_cst_1 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_3 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩

abbrev nD : Nat := 1
abbrev τ : Topo := Topo.v7x

variable {F : FTy → Type} [FloatOps F]
-- ==== Post.lean ====
abbrev S4x8192x1024 : Shape := ⟨3, ![4, 8192, 1024]⟩
abbrev S4x8192x512 : Shape := ⟨3, ![4, 8192, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1024x512 : Shape := ⟨2, ![1024, 512]⟩
abbrev S512x1024 : Shape := ⟨2, ![512, 1024]⟩
abbrev S1024x1 : Shape := ⟨2, ![1024, 1]⟩
abbrev S1024x256 : Shape := ⟨2, ![1024, 256]⟩

abbrev nBuf : Space → Nat
  | .hbm => 25
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1x1024, .f32⟩
  | .hbm, ⟨9, _⟩ => ⟨S32768x1024, .f32⟩
  | .hbm, ⟨10, _⟩ => ⟨S32768x512, .bf16⟩
  | .hbm, ⟨11, _⟩ => ⟨S32768x512, .bf16⟩
  | .hbm, ⟨12, _⟩ => ⟨S1024x1024, .f32⟩
  | .hbm, ⟨13, _⟩ => ⟨S1024x1024, .bf16⟩
  | .hbm, ⟨14, _⟩ => ⟨S1024, .f32⟩
  | .hbm, ⟨15, _⟩ => ⟨S1x1024, .f32⟩
  | .hbm, ⟨16, _⟩ => ⟨S1024x2816, .f32⟩
  | .hbm, ⟨17, _⟩ => ⟨S1024x2816, .bf16⟩
  | .hbm, ⟨18, _⟩ => ⟨S1024x2816, .f32⟩
  | .hbm, ⟨19, _⟩ => ⟨S1024x2816, .bf16⟩
  | .hbm, ⟨20, _⟩ => ⟨S2816x1024, .f32⟩
  | .hbm, ⟨21, _⟩ => ⟨S2816x1024, .bf16⟩
  | .hbm, ⟨22, _⟩ => ⟨S1024, .f32⟩
  | .hbm, ⟨23, _⟩ => ⟨S1x1024, .f32⟩
  | .hbm, ⟨24, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PostRefIdeal.lean ====
abbrev S4x8192x1024 : Shape := ⟨3, ![4, 8192, 1024]⟩
abbrev S4x8192x512 : Shape := ⟨3, ![4, 8192, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2816 : Shape := ⟨2, ![1024, 2816]⟩
abbrev S2816x1024 : Shape := ⟨2, ![2816, 1024]⟩
abbrev S4x8192x2816 : Shape := ⟨3, ![4, 8192, 2816]⟩
abbrev S32768x1024 : Shape := ⟨2, ![32768, 1024]⟩

abbrev nBuf : Space → Nat
  | .hbm => 70
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1x1024, .f32⟩
  | .hbm, ⟨9, _⟩ => ⟨S4x8192x512, .f32⟩
  | .hbm, ⟨10, _⟩ => ⟨S4x8192x512, .f32⟩
  | .hbm, ⟨11, _⟩ => ⟨S4x8192x1024, .f32⟩
  | .hbm, ⟨12, _⟩ => ⟨S1024x1024, .f32⟩
  | .hbm, ⟨13, _⟩ => ⟨S4x8192x1024, .f32⟩
  | .hbm, ⟨14, _⟩ => ⟨S4x8192x1024, .f32⟩
  | .hbm, ⟨15, _⟩ => ⟨S1024, .f32⟩
  | .hbm, ⟨16, _⟩ => ⟨S4x8192x1024, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S4x8192x1, .f32⟩
  | .hbm, ⟨27, _⟩ => ⟨S4x8192x1024, .f32⟩
  | .hbm, ⟨28, _⟩ => ⟨S4x8192x1024, .f32⟩
  | .hbm, ⟨29, _⟩ => ⟨S1x1x1024, .f32⟩
  | .hbm, ⟨30, _⟩ => ⟨S4x8192x1024, .f32⟩
  | .hbm, ⟨31, _⟩ => ⟨S4x8192x1024, .f32⟩
  | .hbm, ⟨32, _⟩ => ⟨S1024x2816, .f32⟩
  | .hbm, ⟨33, _⟩ => ⟨S1024x2816, .f32⟩
  | .hbm, ⟨34, _⟩ => ⟨S2816x1024, .f32⟩
  | .hbm, ⟨35, _⟩ => ⟨S4x8192x2816, .f32⟩
  | .hbm, ⟨36, _⟩ => ⟨S4x8192x2816, .f32⟩
  | .hbm, ⟨37, _⟩ => ⟨S4x8192x2816, .f32⟩
  | .hbm, ⟨38, _⟩ => ⟨S_, .f32⟩
  | .hbm, ⟨39, _⟩ => ⟨S4x8192x2816, .f32⟩
  | .hbm, ⟨40, _⟩ => ⟨S4x8192x2816, .f32⟩
  | .hbm, ⟨41, _⟩ => ⟨S_, .f32⟩
  | .hbm, ⟨42, _⟩ => ⟨S4x8192x2816, .f32⟩
  | .hbm, ⟨43, _⟩ => ⟨S4x8192x2816, .f32⟩
  | .hbm, ⟨44, _⟩ => ⟨S4x8192x2816, .f32⟩
  | .hbm, ⟨45, _⟩ => ⟨S4x8192x2816, .f32⟩
  | .hbm, ⟨46, _⟩ => ⟨S4x8192x2816, .f32⟩
  | .hbm, ⟨47, _⟩ => ⟨S4x8192x1024, .f32⟩
  | .hbm, ⟨48, _⟩ => ⟨S_, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | .hbm, ⟨52, _⟩ => ⟨S1024, .f32⟩
  | .hbm, ⟨53, _⟩ => ⟨S4x8192x1024, .f32⟩
  | .hbm, ⟨54, _⟩ => ⟨S_, .f32⟩
  | .hbm, ⟨55, _⟩ => ⟨S4x8192, .f32⟩
  | .hbm, ⟨56, _⟩ => ⟨S4x8192x1, .f32⟩
  | .hbm, ⟨57, _⟩ => ⟨S_, .f32⟩
  | .hbm, ⟨58, _⟩ => ⟨S4x8192x1, .f32⟩
  | .hbm, ⟨59, _⟩ => ⟨S4x8192x1, .f32⟩
  | .hbm, ⟨60, _⟩ => ⟨S_, .f32⟩
  | .hbm, ⟨61, _⟩ => ⟨S4x8192x1, .f32⟩
  | .hbm, ⟨62, _⟩ => ⟨S4x8192x1, .f32⟩
  | .hbm, ⟨63, _⟩ => ⟨S4x8192x1, .f32⟩
  | .hbm, ⟨64, _⟩ => ⟨S4x8192x1024, .f32⟩
  | .hbm, ⟨65, _⟩ => ⟨S4x8192x1024, .f32⟩
  | .hbm, ⟨66, _⟩ => ⟨S1x1x1024, .f32⟩
  | .hbm, ⟨67, _⟩ => ⟨S4x8192x1024, .f32⟩
  | .hbm, ⟨68, _⟩ => ⟨S4x8192x1024, .f32⟩
  | .hbm, ⟨69, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_cst_4 : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== First.lean ====
abbrev S4x8192x1024 : Shape := ⟨3, ![4, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x1952 : Shape := ⟨3, ![1, 1024, 1952]⟩
abbrev S1x64 : Shape := ⟨2, ![1, 64]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x32 : Shape := ⟨2, ![1, 32]⟩
abbrev S16x8192 : Shape := ⟨2, ![16, 8192]⟩
abbrev S8192x128 : Shape := ⟨2, ![8192, 128]⟩
abbrev S1024x1952 : Shape := ⟨2, ![1024, 1952]⟩
abbrev S1024x512 : Shape := ⟨2, ![1024, 512]⟩
abbrev S1024x256 : Shape := ⟨2, ![1024, 256]⟩
abbrev S1024x1792 : Shape := ⟨2, ![1024, 1792]⟩
abbrev S1792x1024 : Shape := ⟨2, ![1792, 1024]⟩
abbrev S_ : Shape := ⟨0, ![]⟩
abbrev S1024x128 : Shape := ⟨2, ![1024, 128]⟩
abbrev S1024x32 : Shape := ⟨2, ![1024, 32]⟩
abbrev S1 : Shape := ⟨1, ![1]⟩
abbrev S64 : Shape := ⟨1, ![64]⟩
abbrev S64x1 : Shape := ⟨2, ![64, 1]⟩
abbrev S64x512 : Shape := ⟨2, ![64, 512]⟩
abbrev S256x768 : Shape := ⟨2, ![256, 768]⟩
abbrev S256 : Shape := ⟨1, ![256]⟩
abbrev S256x1 : Shape := ⟨2, ![256, 1]⟩
abbrev S256x8x96 : Shape := ⟨3, ![256, 8, 96]⟩
abbrev S256x8x128 : Shape := ⟨3, ![256, 8, 128]⟩
abbrev S256x1024 : Shape := ⟨2, ![256, 1024]⟩
abbrev S32 : Shape := ⟨1, ![32]⟩
abbrev S128 : Shape := ⟨1, ![128]⟩
abbrev S128x1 : Shape := ⟨2, ![128, 1]⟩
abbrev S128x512 : Shape := ⟨2, ![128, 512]⟩
abbrev S32x512 : Shape := ⟨2, ![32, 512]⟩
abbrev S512 : Shape := ⟨1, ![512]⟩
abbrev S2 : Shape := ⟨1, ![2]⟩
abbrev S128x1024 : Shape := ⟨2, ![128, 1024]⟩
abbrev S128x8x128 : Shape := ⟨3, ![128, 8, 128]⟩
abbrev S128x8x64 : Shape := ⟨3, ![128, 8, 64]⟩
abbrev S1024 : Shape := ⟨1, ![1024]⟩
abbrev S1024x2816 : Shape := ⟨2, ![1024, 2816]⟩
abbrev S2816x1024 : Shape := ⟨2, ![2816, 1024]⟩
abbrev S4x32x512x256 : Shape := ⟨4, ![4, 32, 512, 256]⟩
abbrev S4x8192x512 : Shape := ⟨3, ![4, 8192, 512]⟩
abbrev S4x8x32x64x256 : Shape := ⟨5, ![4, 8, 32, 64, 256]⟩
abbrev S4x8x128x8192 : Shape := ⟨4, ![4, 8, 128, 8192]⟩
abbrev S4x8x8192x128 : Shape := ⟨4, ![4, 8, 8192, 128]⟩
abbrev S4x8x16x64x512 : Shape := ⟨5, ![4, 8, 16, 64, 512]⟩
abbrev S1x512x1024 : Shape := ⟨3, ![1, 512, 1024]⟩
abbrev S16x512 : Shape := ⟨2, ![16, 512]⟩
abbrev S512x128 : Shape := ⟨2, ![512, 128]⟩
abbrev S1x2x512x256 : Shape := ⟨4, ![1, 2, 512, 256]⟩
abbrev S1x512x512 : Shape := ⟨3, ![1, 512, 512]⟩
abbrev S1x8x2x64x256 : Shape := ⟨5, ![1, 8, 2, 64, 256]⟩
abbrev S1x8x128x512 : Shape := ⟨4, ![1, 8, 128, 512]⟩
abbrev S1x8x512x128 : Shape := ⟨4, ![1, 8, 512, 128]⟩
abbrev S1x8x1x64x512 : Shape := ⟨5, ![1, 8, 1, 64, 512]⟩
abbrev S512x2816 : Shape := ⟨2, ![512, 2816]⟩
abbrev S512x1024 : Shape := ⟨2, ![512, 1024]⟩
abbrev S512x1 : Shape := ⟨2, ![512, 1]⟩
abbrev S512x256 : Shape := ⟨2, ![512, 256]⟩
abbrev S256x512 : Shape := ⟨2, ![256, 512]⟩
abbrev S1x512 : Shape := ⟨2, ![1, 512]⟩
abbrev S512x512 : Shape := ⟨2, ![512, 512]⟩
abbrev S64x256 : Shape := ⟨2, ![64, 256]⟩
abbrev S1x1x64x256 : Shape := ⟨4, ![1, 1, 64, 256]⟩
abbrev S1x1x1x64x256 : Shape := ⟨5, ![1, 1, 1, 64, 256]⟩
abbrev S1x1x128x512 : Shape := ⟨4, ![1, 1, 128, 512]⟩
abbrev S1x1x1x64x512 : Shape := ⟨5, ![1, 1, 1, 64, 512]⟩
abbrev S1x1x512x128 : Shape := ⟨4, ![1, 1, 512, 128]⟩

abbrev nBuf : Space → Nat
  | .hbm => 160
  | .vmem => 42
  | .smem => 0
  | _ => 0

abbrev hbmTy0_0 (i : Nat) : BufTy := match i % 128 with
  | 0 => ⟨S4x8192x1024, .f32⟩
  | 1 => ⟨S1x1024, .f32⟩
  | 2 => ⟨S1x1024x2816, .f32⟩
  | 3 => ⟨S1x1024x2816, .f32⟩
  | 4 => ⟨S1x2816x1024, .f32⟩
  | 5 => ⟨S1x1024, .f32⟩
  | 6 => ⟨S1x1024x1952, .f32⟩
  | 7 => ⟨S1x64, .f32⟩
  | 8 => ⟨S1x64, .f32⟩
  | 9 => ⟨S1x256, .f32⟩
  | 10 => ⟨S1x256x768, .f32⟩
  | 11 => ⟨S1x128, .f32⟩
  | 12 => ⟨S1x128x1024, .f32⟩
  | 13 => ⟨S1x64, .f32⟩
  | 14 => ⟨S1x32, .f32⟩
  | 15 => ⟨S1x64, .f32⟩
  | 16 => ⟨S1x32, .f32⟩
  | 17 => ⟨S16x8192, .f32⟩
  | 18 => ⟨S16x8192, .f32⟩
  | 19 => ⟨S8192x128, .f32⟩
  | 20 => ⟨S8192x128, .f32⟩
  | 21 => ⟨S1024x1952, .f32⟩
  | 22 => ⟨S1024x512, .f32⟩
  | 23 => ⟨S1024x512, .f32⟩
  | 24 => ⟨S1024x512, .f32⟩
  | 25 => ⟨S1024x256, .f32⟩
  | 26 => ⟨S1024x1792, .f32⟩
  | 27 => ⟨S1792x1024, .f32⟩
  | 28 => ⟨S1792x1024, .bf16⟩
  | 29 => ⟨S_, .f32⟩
  | 30 => ⟨S1024x128, .f32⟩
  | 31 => ⟨S1024x32, .f32⟩
  | 32 => ⟨S_, .i32⟩
  | 33 => ⟨S1, .i32⟩
  | 34 => ⟨S1024x128, .f32⟩
  | 35 => ⟨S1024x128, .f32⟩
  | 36 => ⟨S1024x256, .f32⟩
  | 37 => ⟨S1024x256, .bf16⟩
  | 38 => ⟨S64, .f32⟩
  | 39 => ⟨S_, .f32⟩
  | 40 => ⟨S64, .f32⟩
  | 41 => ⟨S64, .f32⟩
  | 42 => ⟨S64x1, .f32⟩
  | 43 => ⟨S64x512, .f32⟩
  | 44 => ⟨S64, .f32⟩
  | 45 => ⟨S64x1, .f32⟩
  | 46 => ⟨S64x512, .f32⟩
  | 47 => ⟨S256x768, .f32⟩
  | 48 => ⟨S256, .f32⟩
  | 49 => ⟨S256x1, .f32⟩
  | 50 => ⟨S256x768, .f32⟩
  | 51 => ⟨S256x768, .f32⟩
  | 52 => ⟨S256x8x96, .f32⟩
  | 53 => ⟨S_, .i32⟩
  | 54 => ⟨S_, .f32⟩
  | 55 => ⟨S256x8x128, .f32⟩
  | 56 => ⟨S256x1024, .f32⟩
  | 57 => ⟨S1024x256, .f32⟩
  | 58 => ⟨S1024x256, .bf16⟩
  | 59 => ⟨S64, .f32⟩
  | 60 => ⟨S_, .f32⟩
  | 61 => ⟨S64, .f32⟩
  | 62 => ⟨S64, .f32⟩
  | 63 => ⟨S32, .f32⟩
  | 64 => ⟨S_, .f32⟩
  | 65 => ⟨S32, .f32⟩
  | 66 => ⟨S32, .f32⟩
  | 67 => ⟨S_, .f32⟩
  | 68 => ⟨S32, .f32⟩
  | 69 => ⟨S128, .f32⟩
  | 70 => ⟨S128x1, .f32⟩
  | 71 => ⟨S128x512, .f32⟩
  | 72 => ⟨S64, .f32⟩
  | 73 => ⟨S64, .f32⟩
  | 74 => ⟨S_, .f32⟩
  | 75 => ⟨S_, .f32⟩
  | 76 => ⟨S_, .f32⟩
  | 77 => ⟨S_, .f32⟩
  | 78 => ⟨S32, .f32⟩
  | 79 => ⟨S32, .f32⟩
  | 80 => ⟨S_, .f32⟩
  | 81 => ⟨S_, .f32⟩
  | 82 => ⟨S_, .f32⟩
  | 83 => ⟨S_, .f32⟩
  | 84 => ⟨S_, .f32⟩
  | 85 => ⟨S64, .f32⟩
  | 86 => ⟨S64, .f32⟩
  | 87 => ⟨S_, .f32⟩
  | 88 => ⟨S_, .f32⟩
  | 89 => ⟨S_, .f32⟩
  | 90 => ⟨S_, .f32⟩
  | 91 => ⟨S32, .f32⟩
  | 92 => ⟨S32, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .bf16⟩
  | 105 => ⟨S_, .f32⟩
  | 106 => ⟨S_, .f32⟩
  | 107 => ⟨S32x512, .f32⟩
  | 108 => ⟨S_, .f32⟩
  | 109 => ⟨S_, .i32⟩
  | 110 => ⟨S1, .i32⟩
  | 111 => ⟨S512, .f32⟩
  | 112 => ⟨S32x512, .f32⟩
  | 113 => ⟨S_, .f32⟩
  | 114 => ⟨S1x128, .f32⟩
  | 115 => ⟨S_, .i32⟩
  | 116 => ⟨S1, .i32⟩
  | 117 => ⟨S_, .i32⟩
  | 118 => ⟨S1, .i32⟩
  | 119 => ⟨S2, .i32⟩
  | 120 => ⟨S_, .f32⟩
  | 121 => ⟨S1x128, .f32⟩
  | 122 => ⟨S128x1024, .f32⟩
  | 123 => ⟨S128x8x128, .f32⟩
  | 124 => ⟨S128x8x64, .f32⟩
  | 125 => ⟨S128x512, .f32⟩
  | 126 => ⟨S128x8x64, .f32⟩
  | 127 => ⟨S128x512, .f32⟩
  | _ => ⟨S4x8192x1024, .f32⟩

abbrev hbmTy0_1 (i : Nat) : BufTy := match i % 128 with
  | 0 => ⟨S128x1024, .f32⟩
  | 1 => ⟨S1024x128, .f32⟩
  | 2 => ⟨S1024x128, .bf16⟩
  | 3 => ⟨S64, .f32⟩
  | 4 => ⟨S64x1, .f32⟩
  | 5 => ⟨S64x512, .f32⟩
  | 6 => ⟨S_, .f32⟩
  | 7 => ⟨S64, .f32⟩
  | 8 => ⟨S32, .f32⟩
  | 9 => ⟨S_, .f32⟩
  | 10 => ⟨S32, .f32⟩
  | 11 => ⟨S128, .f32⟩
  | 12 => ⟨S1x128, .f32⟩
  | 13 => ⟨S1024, .f32⟩
  | 14 => ⟨S1x1024, .f32⟩
  | 15 => ⟨S1024x2816, .f32⟩
  | 16 => ⟨S1024x2816, .bf16⟩
  | 17 => ⟨S1024x2816, .f32⟩
  | 18 => ⟨S1024x2816, .bf16⟩
  | 19 => ⟨S2816x1024, .f32⟩
  | 20 => ⟨S2816x1024, .bf16⟩
  | 21 => ⟨S1024, .f32⟩
  | 22 => ⟨S1x1024, .f32⟩
  | 23 => ⟨S128, .f32⟩
  | 24 => ⟨S1x128, .f32⟩
  | 25 => ⟨S4x8192x1024, .f32⟩
  | 26 => ⟨S4x32x512x256, .bf16⟩
  | 27 => ⟨S4x8192x512, .bf16⟩
  | 28 => ⟨S4x8x32x64x256, .bf16⟩
  | 29 => ⟨S4x8x128x8192, .bf16⟩
  | 30 => ⟨S4x8x8192x128, .bf16⟩
  | 31 => ⟨S4x8x16x64x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1792x1024, .bf16⟩
  | .local _ .vmem, ⟨8, _⟩ => ⟨S1024x256, .bf16⟩
  | .local _ .vmem, ⟨9, _⟩ => ⟨S64x512, .f32⟩
  | .local _ .vmem, ⟨10, _⟩ => ⟨S64x512, .f32⟩
  | .local _ .vmem, ⟨11, _⟩ => ⟨S1024x256, .bf16⟩
  | .local _ .vmem, ⟨12, _⟩ => ⟨S128x512, .f32⟩
  | .local _ .vmem, ⟨13, _⟩ => ⟨S32x512, .f32⟩
  | .local _ .vmem, ⟨14, _⟩ => ⟨S16x512, .f32⟩
  | .local _ .vmem, ⟨15, _⟩ => ⟨S16x512, .f32⟩
  | .local _ .vmem, ⟨16, _⟩ => ⟨S16x512, .f32⟩
  | .local _ .vmem, ⟨17, _⟩ => ⟨S16x512, .f32⟩
  | .local _ .vmem, ⟨18, _⟩ => ⟨S1x128, .f32⟩
  | .local _ .vmem, ⟨19, _⟩ => ⟨S1024x128, .bf16⟩
  | .local _ .vmem, ⟨20, _⟩ => ⟨S64x512, .f32⟩
  | .local _ .vmem, ⟨21, _⟩ => ⟨S1x128, .f32⟩
  | .local _ .vmem, ⟨22, _⟩ => ⟨S1x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S1x512x1024, .f32⟩
  | .local _ .vmem, ⟨28, _⟩ => ⟨S1x512x1024, .f32⟩
  | .local _ .vmem, ⟨29, _⟩ => ⟨S1x2x512x256, .bf16⟩
  | .local _ .vmem, ⟨30, _⟩ => ⟨S1x2x512x256, .bf16⟩
  | .local _ .vmem, ⟨31, _⟩ => ⟨S1x512x512, .bf16⟩
  | .local _ .vmem, ⟨32, _⟩ => ⟨S1x512x512, .bf16⟩
  | .local _ .vmem, ⟨33, _⟩ => ⟨S1x8x2x64x256, .bf16⟩
  | .local _ .vmem, ⟨34, _⟩ => ⟨S1x8x2x64x256, .bf16⟩
  | .local _ .vmem, ⟨35, _⟩ => ⟨S1x8x128x512, .bf16⟩
  | .local _ .vmem, ⟨36, _⟩ => ⟨S1x8x128x512, .bf16⟩
  | .local _ .vmem, ⟨37, _⟩ => ⟨S1x8x512x128, .bf16⟩
  | .local _ .vmem, ⟨38, _⟩ => ⟨S1x8x512x128, .bf16⟩
  | .local _ .vmem, ⟨39, _⟩ => ⟨S1x8x1x64x512, .bf16⟩
  | .local _ .vmem, ⟨40, _⟩ => ⟨S1x8x1x64x512, .bf16⟩
  | .local _ .vmem, ⟨41, _⟩ => ⟨S512x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_c : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_0 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_1 : Ref sig .tc := ⟨.hbm, 53, rfl⟩
abbrev main_call0_v0 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_2 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_3 : Ref sig .tc := ⟨.hbm, 64, rfl⟩
abbrev main_v37 : Ref sig .tc := ⟨.hbm, 65, rfl⟩
abbrev main_v38 : Ref sig .tc := ⟨.hbm, 66, rfl⟩
abbrev main_cst_4 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_5 : Ref sig .tc := ⟨.hbm, 74, rfl⟩
abbrev main_v45 : Ref sig .tc := ⟨.hbm, 75, rfl⟩
abbrev main_cst_6 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_7 : Ref sig .tc := ⟨.hbm, 80, rfl⟩
abbrev main_v49 : Ref sig .tc := ⟨.hbm, 81, rfl⟩
abbrev main_cst_8 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_9 : Ref sig .tc := ⟨.hbm, 87, rfl⟩
abbrev main_v54 : Ref sig .tc := ⟨.hbm, 88, rfl⟩
abbrev main_cst_10 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_11 : Ref sig .tc := ⟨.hbm, 93, rfl⟩
abbrev main_v58 : Ref sig .tc := ⟨.hbm, 94, rfl⟩
abbrev main_cst_12 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_13 : Ref sig .tc := ⟨.hbm, 100, rfl⟩
abbrev main_v63 : Ref sig .tc := ⟨.hbm, 101, rfl⟩
abbrev main_cst_14 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_15 : Ref sig .tc := ⟨.hbm, 106, rfl⟩
abbrev main_v67 : Ref sig .tc := ⟨.hbm, 107, rfl⟩
abbrev main_v68 : Ref sig .tc := ⟨.hbm, 108, rfl⟩
abbrev main_c_16 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_17 : Ref sig .tc := ⟨.hbm, 113, rfl⟩
abbrev main_v72 : Ref sig .tc := ⟨.hbm, 114, rfl⟩
abbrev main_c_18 : Ref sig .tc := ⟨.hbm, 115, rfl⟩
abbrev main_v73 : Ref sig .tc := ⟨.hbm, 116, rfl⟩
abbrev main_c_19 : Ref sig .tc := ⟨.hbm, 117, rfl⟩
abbrev main_v74 : Ref sig .tc := ⟨.hbm, 118, rfl⟩
abbrev main_v75 : Ref sig .tc := ⟨.hbm, 119, rfl⟩
abbrev main_cst_20 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_21 : Ref sig .tc := ⟨.hbm, 134, rfl⟩
abbrev main_v89 : Ref sig .tc := ⟨.hbm, 135, rfl⟩
abbrev main_v90 : Ref sig .tc := ⟨.hbm, 136, rfl⟩
abbrev main_cst_22 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106_0 : Ref sig .tc := ⟨.hbm, 153, rfl⟩
abbrev main_v106_1 : Ref sig .tc := ⟨.hbm, 154, rfl⟩
abbrev main_v106_2 : Ref sig .tc := ⟨.hbm, 155, rfl⟩
abbrev main_v106_3 : Ref sig .tc := ⟨.hbm, 156, rfl⟩
abbrev main_v106_4 : Ref sig .tc := ⟨.hbm, 157, rfl⟩
abbrev main_v106_5 : Ref sig .tc := ⟨.hbm, 158, rfl⟩
abbrev main_v106_6 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg20_1 : Ref sig .tc := ⟨.vmem, 24, rfl⟩
abbrev cc0_stg21_0 : Ref sig .tc := ⟨.vmem, 25, rfl⟩
abbrev cc0_stg21_1 : Ref sig .tc := ⟨.vmem, 26, rfl⟩
abbrev cc0_stg22_0 : Ref sig .tc := ⟨.vmem, 27, rfl⟩
abbrev cc0_stg22_1 : Ref sig .tc := ⟨.vmem, 28, rfl⟩
abbrev cc0_stg23_0 : Ref sig .tc := ⟨.vmem, 29, rfl⟩
abbrev cc0_stg23_1 : Ref sig .tc := ⟨.vmem, 30, rfl⟩
abbrev cc0_stg24_0 : Ref sig .tc := ⟨.vmem, 31, rfl⟩
abbrev cc0_stg24_1 : Ref sig .tc := ⟨.vmem, 32, rfl⟩
abbrev cc0_stg25_0 : Ref sig .tc := ⟨.vmem, 33, rfl⟩
abbrev cc0_stg25_1 : Ref sig .tc := ⟨.vmem, 34, rfl⟩
abbrev cc0_stg26_0 : Ref sig .tc := ⟨.vmem, 35, rfl⟩
abbrev cc0_stg26_1 : Ref sig .tc := ⟨.vmem, 36, rfl⟩
abbrev cc0_stg27_0 : Ref sig .tc := ⟨.vmem, 37, rfl⟩
abbrev cc0_stg27_1 : Ref sig .tc := ⟨.vmem, 38, rfl⟩
abbrev cc0_stg28_0 : Ref sig .tc := ⟨.vmem, 39, rfl⟩
abbrev cc0_stg28_1 : Ref sig .tc := ⟨.vmem, 40, rfl⟩
abbrev cc0_scratch0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem20_1 : DmaSem sig := 24
abbrev cc0_sem21_0 : DmaSem sig := 25
abbrev cc0_sem21_1 : DmaSem sig := 26
abbrev cc0_sem22_0 : DmaSem sig := 27
abbrev cc0_sem22_1 : DmaSem sig := 28
abbrev cc0_sem23_0 : DmaSem sig := 29
abbrev cc0_sem23_1 : DmaSem sig := 30
abbrev cc0_sem24_0 : DmaSem sig := 31
abbrev cc0_sem24_1 : DmaSem sig := 32
abbrev cc0_sem25_0 : DmaSem sig := 33
abbrev cc0_sem25_1 : DmaSem sig := 34
abbrev cc0_sem26_0 : DmaSem sig := 35
abbrev cc0_sem26_1 : DmaSem sig := 36
abbrev cc0_sem27_0 : DmaSem sig := 37
abbrev cc0_sem27_1 : DmaSem sig := 38
abbrev cc0_sem28_0 : DmaSem sig := 39
abbrev cc0_sem28_1 : DmaSem sig := 40

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_26 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_27 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_28 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1792x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S32x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S16x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S64x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![false, true]

abbrev stage0_21 : Fin 2 → Memref sig .tc .vmem S512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![false, true]

abbrev stage0_22 : Fin 2 → Memref sig .tc .vmem S1x512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x2x512x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x8x2x64x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x8x128x512 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x8x512x128 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x8x1x64x512 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]
-- ==== FirstRefIdeal.lean ====
abbrev S4x8192x1024 : Shape := ⟨3, ![4, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x1952 : Shape := ⟨3, ![1, 1024, 1952]⟩
abbrev S1x64 : Shape := ⟨2, ![1, 64]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x32 : Shape := ⟨2, ![1, 32]⟩
abbrev S16x8192 : Shape := ⟨2, ![16, 8192]⟩
abbrev S8192x128 : Shape := ⟨2, ![8192, 128]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2816 : Shape := ⟨2, ![1024, 2816]⟩
abbrev S2816x1024 : Shape := ⟨2, ![2816, 1024]⟩
abbrev S4x8192x2816 : Shape := ⟨3, ![4, 8192, 2816]⟩
abbrev S1024x1952 : Shape := ⟨2, ![1024, 1952]⟩
abbrev S4x8192x1952 : Shape := ⟨3, ![4, 8192, 1952]⟩
abbrev S4x8192x512 : Shape := ⟨3, ![4, 8192, 512]⟩
abbrev S4x8192x8x64 : Shape := ⟨4, ![4, 8192, 8, 64]⟩
abbrev S64 : Shape := ⟨1, ![64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S4x8192x128 : Shape := ⟨3, ![4, 8192, 128]⟩
abbrev S128 : Shape := ⟨1, ![128]⟩
abbrev S1x1x128 : Shape := ⟨3, ![1, 1, 128]⟩
abbrev S128x1024 : Shape := ⟨2, ![128, 1024]⟩
abbrev S4x8192x8x128 : Shape := ⟨4, ![4, 8192, 8, 128]⟩
abbrev S4x32x256x512 : Shape := ⟨4, ![4, 32, 256, 512]⟩
abbrev S4x32x512x256 : Shape := ⟨4, ![4, 32, 512, 256]⟩
abbrev S4x32x256x8x64 : Shape := ⟨5, ![4, 32, 256, 8, 64]⟩
abbrev S4x8x32x64x256 : Shape := ⟨5, ![4, 8, 32, 64, 256]⟩
abbrev S4x16x512x8x64 : Shape := ⟨5, ![4, 16, 512, 8, 64]⟩
abbrev S4x8x16x64x512 : Shape := ⟨5, ![4, 8, 16, 64, 512]⟩

abbrev nBuf : Space → Nat
  | .hbm => 153
  | .vmem => 0
  | .smem => 0
  | _ => 0

abbrev hbmTy0_0 (i : Nat) : BufTy := match i % 128 with
  | 0 => ⟨S4x8192x1024, .f32⟩
  | 1 => ⟨S1x1024, .f32⟩
  | 2 => ⟨S1x1024x2816, .f32⟩
  | 3 => ⟨S1x1024x2816, .f32⟩
  | 4 => ⟨S1x2816x1024, .f32⟩
  | 5 => ⟨S1x1024, .f32⟩
  | 6 => ⟨S1x1024x1952, .f32⟩
  | 7 => ⟨S1x64, .f32⟩
  | 8 => ⟨S1x64, .f32⟩
  | 9 => ⟨S1x256, .f32⟩
  | 10 => ⟨S1x256x768, .f32⟩
  | 11 => ⟨S1x128, .f32⟩
  | 12 => ⟨S1x128x1024, .f32⟩
  | 13 => ⟨S1x64, .f32⟩
  | 14 => ⟨S1x32, .f32⟩
  | 15 => ⟨S1x64, .f32⟩
  | 16 => ⟨S1x32, .f32⟩
  | 17 => ⟨S16x8192, .f32⟩
  | 18 => ⟨S16x8192, .f32⟩
  | 19 => ⟨S8192x128, .f32⟩
  | 20 => ⟨S8192x128, .f32⟩
  | 21 => ⟨S1024, .f32⟩
  | 22 => ⟨S4x8192x1024, .f32⟩
  | 23 => ⟨S_, .f32⟩
  | 24 => ⟨S4x8192, .f32⟩
  | 25 => ⟨S4x8192x1, .f32⟩
  | 26 => ⟨S_, .f32⟩
  | 27 => ⟨S4x8192x1, .f32⟩
  | 28 => ⟨S4x8192x1, .f32⟩
  | 29 => ⟨S_, .f32⟩
  | 30 => ⟨S4x8192x1, .f32⟩
  | 31 => ⟨S4x8192x1, .f32⟩
  | 32 => ⟨S4x8192x1, .f32⟩
  | 33 => ⟨S4x8192x1024, .f32⟩
  | 34 => ⟨S4x8192x1024, .f32⟩
  | 35 => ⟨S1x1x1024, .f32⟩
  | 36 => ⟨S4x8192x1024, .f32⟩
  | 37 => ⟨S4x8192x1024, .f32⟩
  | 38 => ⟨S1024x2816, .f32⟩
  | 39 => ⟨S1024x2816, .f32⟩
  | 40 => ⟨S2816x1024, .f32⟩
  | 41 => ⟨S4x8192x2816, .f32⟩
  | 42 => ⟨S4x8192x2816, .f32⟩
  | 43 => ⟨S4x8192x2816, .f32⟩
  | 44 => ⟨S_, .f32⟩
  | 45 => ⟨S4x8192x2816, .f32⟩
  | 46 => ⟨S4x8192x2816, .f32⟩
  | 47 => ⟨S_, .f32⟩
  | 48 => ⟨S4x8192x2816, .f32⟩
  | 49 => ⟨S4x8192x2816, .f32⟩
  | 50 => ⟨S4x8192x2816, .f32⟩
  | 51 => ⟨S4x8192x2816, .f32⟩
  | 52 => ⟨S4x8192x2816, .f32⟩
  | 53 => ⟨S4x8192x1024, .f32⟩
  | 54 => ⟨S_, .f32⟩
  | 55 => ⟨S4x8192x1024, .f32⟩
  | 56 => ⟨S4x8192x1024, .f32⟩
  | 57 => ⟨S4x8192x1024, .f32⟩
  | 58 => ⟨S1024, .f32⟩
  | 59 => ⟨S4x8192x1024, .f32⟩
  | 60 => ⟨S_, .f32⟩
  | 61 => ⟨S4x8192, .f32⟩
  | 62 => ⟨S4x8192x1, .f32⟩
  | 63 => ⟨S_, .f32⟩
  | 64 => ⟨S4x8192x1, .f32⟩
  | 65 => ⟨S4x8192x1, .f32⟩
  | 66 => ⟨S_, .f32⟩
  | 67 => ⟨S4x8192x1, .f32⟩
  | 68 => ⟨S4x8192x1, .f32⟩
  | 69 => ⟨S4x8192x1, .f32⟩
  | 70 => ⟨S4x8192x1024, .f32⟩
  | 71 => ⟨S4x8192x1024, .f32⟩
  | 72 => ⟨S1x1x1024, .f32⟩
  | 73 => ⟨S4x8192x1024, .f32⟩
  | 74 => ⟨S4x8192x1024, .f32⟩
  | 75 => ⟨S1024x1952, .f32⟩
  | 76 => ⟨S4x8192x1952, .f32⟩
  | 77 => ⟨S4x8192x512, .f32⟩
  | 78 => ⟨S4x8192x8x64, .f32⟩
  | 79 => ⟨S64, .f32⟩
  | 80 => ⟨S4x8192x8x64, .f32⟩
  | 81 => ⟨S_, .f32⟩
  | 82 => ⟨S4x8192x8, .f32⟩
  | 83 => ⟨S4x8192x8x1, .f32⟩
  | 84 => ⟨S_, .f32⟩
  | 85 => ⟨S4x8192x8x1, .f32⟩
  | 86 => ⟨S4x8192x8x1, .f32⟩
  | 87 => ⟨S_, .f32⟩
  | 88 => ⟨S4x8192x8x1, .f32⟩
  | 89 => ⟨S4x8192x8x1, .f32⟩
  | 90 => ⟨S4x8192x8x1, .f32⟩
  | 91 => ⟨S4x8192x8x64, .f32⟩
  | 92 => ⟨S4x8192x8x64, .f32⟩
  | 93 => ⟨S1x1x1x64, .f32⟩
  | 94 => ⟨S4x8192x8x64, .f32⟩
  | 95 => ⟨S4x8192x8x64, .f32⟩
  | 96 => ⟨S_, .f32⟩
  | 97 => ⟨S4x8192x8x64, .f32⟩
  | 98 => ⟨S4x8192x8x64, .f32⟩
  | 99 => ⟨S4x8192x512, .f32⟩
  | 100 => ⟨S4x8192x8x64, .f32⟩
  | 101 => ⟨S64, .f32⟩
  | 102 => ⟨S4x8192x8x64, .f32⟩
  | 103 => ⟨S_, .f32⟩
  | 104 => ⟨S4x8192x8, .f32⟩
  | 105 => ⟨S4x8192x8x1, .f32⟩
  | 106 => ⟨S_, .f32⟩
  | 107 => ⟨S4x8192x8x1, .f32⟩
  | 108 => ⟨S4x8192x8x1, .f32⟩
  | 109 => ⟨S_, .f32⟩
  | 110 => ⟨S4x8192x8x1, .f32⟩
  | 111 => ⟨S4x8192x8x1, .f32⟩
  | 112 => ⟨S4x8192x8x1, .f32⟩
  | 113 => ⟨S4x8192x8x64, .f32⟩
  | 114 => ⟨S4x8192x8x64, .f32⟩
  | 115 => ⟨S1x1x1x64, .f32⟩
  | 116 => ⟨S4x8192x8x64, .f32⟩
  | 117 => ⟨S4x8192x8x64, .f32⟩
  | 118 => ⟨S4x8192x512, .f32⟩
  | 119 => ⟨S4x8192x8x64, .f32⟩
  | 120 => ⟨S4x8192x128, .f32⟩
  | 121 => ⟨S128, .f32⟩
  | 122 => ⟨S4x8192x128, .f32⟩
  | 123 => ⟨S_, .f32⟩
  | 124 => ⟨S4x8192, .f32⟩
  | 125 => ⟨S4x8192x1, .f32⟩
  | 126 => ⟨S_, .f32⟩
  | 127 => ⟨S4x8192x1, .f32⟩
  | _ => ⟨S4x8192x1024, .f32⟩

abbrev hbmTy0_1 (i : Nat) : BufTy := match i % 128 with
  | 0 => ⟨S4x8192x1, .f32⟩
  | 1 => ⟨S_, .f32⟩
  | 2 => ⟨S4x8192x1, .f32⟩
  | 3 => ⟨S4x8192x1, .f32⟩
  | 4 => ⟨S4x8192x1, .f32⟩
  | 5 => ⟨S4x8192x128, .f32⟩
  | 6 => ⟨S4x8192x128, .f32⟩
  | 7 => ⟨S1x1x128, .f32⟩
  | 8 => ⟨S4x8192x128, .f32⟩
  | 9 => ⟨S4x8192x128, .f32⟩
  | 10 => ⟨S128x1024, .f32⟩
  | 11 => ⟨S4x8192x1024, .f32⟩
  | 12 => ⟨S4x8192x8x128, .f32⟩
  | 13 => ⟨S4x8192x8x64, .f32⟩
  | 14 => ⟨S4x32x256x512, .f32⟩
  | 15 => ⟨S4x32x512x256, .f32⟩
  | 16 => ⟨S4x32x512x256, .bf16⟩
  | 17 => ⟨S4x32x256x8x64, .f32⟩
  | 18 => ⟨S4x8x32x64x256, .f32⟩
  | 19 => ⟨S4x8x32x64x256, .bf16⟩
  | 20 => ⟨S4x16x512x8x64, .f32⟩
  | 21 => ⟨S4x8x16x64x512, .f32⟩
  | 22 => ⟨S4x8x16x64x512, .bf16⟩
  | 23 => ⟨S4x8192x512, .f32⟩
  | 24 => ⟨S4x8192x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_cst : Ref sig .tc := ⟨.hbm, 23, rfl⟩
abbrev main_v2 : Ref sig .tc := ⟨.hbm, 24, rfl⟩
abbrev main_v3 : Ref sig .tc := ⟨.hbm, 25, rfl⟩
abbrev main_cst_0 : Ref sig .tc := ⟨.hbm, 26, rfl⟩
abbrev main_v4 : Ref sig .tc := ⟨.hbm, 27, rfl⟩
abbrev main_v5 : Ref sig .tc := ⟨.hbm, 28, rfl⟩
abbrev main_cst_1 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_2 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_3 : Ref sig .tc := ⟨.hbm, 60, rfl⟩
abbrev main_v27 : Ref sig .tc := ⟨.hbm, 61, rfl⟩
abbrev main_v28 : Ref sig .tc := ⟨.hbm, 62, rfl⟩
abbrev main_cst_4 : Ref sig .tc := ⟨.hbm, 63, rfl⟩
abbrev main_v29 : Ref sig .tc := ⟨.hbm, 64, rfl⟩
abbrev main_v30 : Ref sig .tc := ⟨.hbm, 65, rfl⟩
abbrev main_cst_5 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_6 : Ref sig .tc := ⟨.hbm, 81, rfl⟩
abbrev main_v45 : Ref sig .tc := ⟨.hbm, 82, rfl⟩
abbrev main_v46 : Ref sig .tc := ⟨.hbm, 83, rfl⟩
abbrev main_cst_7 : Ref sig .tc := ⟨.hbm, 84, rfl⟩
abbrev main_v47 : Ref sig .tc := ⟨.hbm, 85, rfl⟩
abbrev main_v48 : Ref sig .tc := ⟨.hbm, 86, rfl⟩
abbrev main_cst_8 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_9 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_10 : Ref sig .tc := ⟨.hbm, 103, rfl⟩
abbrev main_v63 : Ref sig .tc := ⟨.hbm, 104, rfl⟩
abbrev main_v64 : Ref sig .tc := ⟨.hbm, 105, rfl⟩
abbrev main_cst_11 : Ref sig .tc := ⟨.hbm, 106, rfl⟩
abbrev main_v65 : Ref sig .tc := ⟨.hbm, 107, rfl⟩
abbrev main_v66 : Ref sig .tc := ⟨.hbm, 108, rfl⟩
abbrev main_cst_12 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_13 : Ref sig .tc := ⟨.hbm, 123, rfl⟩
abbrev main_v80 : Ref sig .tc := ⟨.hbm, 124, rfl⟩
abbrev main_v81 : Ref sig .tc := ⟨.hbm, 125, rfl⟩
abbrev main_cst_14 : Ref sig .tc := ⟨.hbm, 126, rfl⟩
abbrev main_v82 : Ref sig .tc := ⟨.hbm, 127, rfl⟩
abbrev main_v83 : Ref sig .tc := ⟨.hbm, 128, rfl⟩
abbrev main_cst_15 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩

abbrev nD : Nat := 1
abbrev τ : Topo := Topo.v7x

variable {F : FTy → Type} [FloatOps F]
-- ==== Proof.Attn.Stages.lean ====
module

public import proofs.«01_k».proof.Proof.Gen.KernelIdeal.Frame
public import proofs.«01_k».proof.Proof.Gen.KernelIdeal.Loops

/-! The attention kernel's body cut into its stages: the diagonal tile, the two branches, the end. -/

@[expose] public section

set_option maxRecDepth 65536

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The body up to the test of the denominators: the diagonal tile of all eight heads, its results stored; `K` is what follows it. -/
noncomputable def progA (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (K : BitVec 32 → BitVec 1 → Prog (TpuEff nD τ sig (Elt F) Λ₀ .tc) PUnit) : Prog (TpuEff nD τ sig (Elt F) Λ₀ .tc) PUnit := do
  let ⟨arg1, v7, v15, v23, v24, c64_i32, v26, v28⟩ : Σ' (arg1 : BitVec 32) (v7 : FVec F S512x512 .f32) (v15 : FVec F S512x512 .f32) (v23 : FVec F S512x512 .f32) (v24 : IVec S512x512 32) (c64_i32 : BitVec 32) (v26 : IVec S512x512 32), IVec S512x512 1 ← k0_part50 i arg2 harg2 arg3 harg3 arg4 harg4 arg5 harg5 arg6 harg6 arg7 harg7 arg8 harg8
  let ⟨v74, v75⟩ : Σ' (v74 : IVec S512x512 1), FVec F S512x512 .f32 ← k0_part51 i arg2 harg2 arg3 harg3 arg4 harg4 arg5 harg5 arg6 harg6 arg7 harg7 arg8 harg8 v24 c64_i32 v26 v28
  let ⟨v98, v99, c64_i32_52, v101, v108, v110⟩ : Σ' (v98 : FVec F S512x512 .f32) (v99 : IVec S512x512 32) (c64_i32_52 : BitVec 32) (v101 : IVec S512x512 32) (v108 : IVec S512x512 32), BitVec 32 ← k0_part52 i arg2 harg2 arg3 harg3 arg4 harg4 arg5 harg5 arg6 harg6 arg7 harg7 arg8 harg8 arg1 v7 v74 v75
  let ⟨v152, v155⟩ : Σ' (v152 : FVec F S512x512 .f32), FVec F S64x512 .bf16 ← k0_part53 i arg2 harg2 arg3 harg3 arg4 harg4 arg5 harg5 arg6 harg6 arg7 harg7 arg8 harg8 arg1 v15 v99 c64_i32_52 v101 v108 v110
  let ⟨v173, v176, v190, v192, c0_i32_89⟩ : Σ' (v173 : FVec F S512x512 .f32) (v176 : IVec S512x512 32) (v190 : IVec S512x512 1) (v192 : IVec S512x512 32), BitVec 32 ← k0_part54 i arg2 harg2 arg3 harg3 arg4 harg4 arg5 harg5 arg6 harg6 arg7 harg7 arg8 harg8 arg1 v152 v155
  let ⟨v232, v234, v235⟩ : Σ' (v232 : FVec F S64x512 .f32) (v234 : FVec F S1x512 .f32), Vec F S64x512 .f32 ← k0_part55 i arg2 harg2 arg3 harg3 arg4 harg4 arg5 harg5 arg6 harg6 arg7 harg7 arg8 harg8 arg1 v23 v176 v190 v192 c0_i32_89
  let ⟨v248, v273, v274, c64_i32_123⟩ : Σ' (v248 : FVec F S512x512 .f32) (v273 : IVec S512x512 32) (v274 : IVec S512x512 32), BitVec 32 ← k0_part56 i arg2 harg2 arg3 harg3 arg4 harg4 arg5 harg5 arg6 harg6 arg7 harg7 arg8 harg8 arg1 v232 v234 v235
  k0_part57 i arg2 harg2 arg3 harg3 arg4 harg4 arg5 harg5 arg6 harg6 arg7 harg7 arg8 harg8 arg1 v98 v273 v274 c64_i32_123
  let ⟨v323, v348, v349, c64_i32_155, v351, v354, v356⟩ : Σ' (v323 : FVec F S512x512 .f32) (v348 : IVec S512x512 32) (v349 : IVec S512x512 32) (c64_i32_155 : BitVec 32) (v351 : IVec S512x512 32) (v354 : IVec S512x512 32), IVec S512x512 1 ← k0_part58 i arg2 harg2 arg3 harg3 arg4 harg4 arg5 harg5 arg6 harg6 arg7 harg7 arg8 harg8 arg1
  let v395 : FVec F S512x128 .bf16 ← k0_part59 i arg2 harg2 arg3 harg3 arg4 harg4 arg5 harg5 arg6 harg6 arg7 harg7 arg8 harg8 arg1 v173 v348 v349 c64_i32_155 v351 v354 v356
  let ⟨v398, v423, v424, c64_i32_187, v426, v433, v438⟩ : Σ' (v398 : FVec F S512x512 .f32) (v423 : IVec S512x512 32) (v424 : IVec S512x512 32) (c64_i32_187 : BitVec 32) (v426 : IVec S512x512 32) (v433 : IVec S512x512 32), BitVec 32 ← k0_part60 i arg2 harg2 arg3 harg3 arg4 harg4 arg5 harg5 arg6 harg6 arg7 harg7 arg8 harg8 v395
  let ⟨v466, c64_i32_204, v468, v475, v477, v478⟩ : Σ' (v466 : IVec S512x512 32) (c64_i32_204 : BitVec 32) (v468 : IVec S512x512 32) (v475 : IVec S512x512 32) (v477 : BitVec 32), BitVec 1 ← k0_part61 i arg2 harg2 arg3 harg3 arg4 harg4 arg5 harg5 arg6 harg6 arg7 harg7 arg8 harg8 arg1 v248 v423 v424 c64_i32_187 v426 v433 v438
  let ⟨v519, v522, v523, cst_223⟩ : Σ' (v519 : FVec F S512x512 .f32) (v522 : FVec F S64x512 .bf16) (v523 : FVec F S512x512 .bf16), FVec F S64x512 .f32 ← k0_part62 i arg2 harg2 arg3 harg3 arg4 harg4 arg5 harg5 arg6 harg6 arg7 harg7 arg8 harg8 arg1 v323 v466 c64_i32_204 v468 v475 v477 v478
  let ⟨v557, v558, c64_i32_235, v560, v563, v566⟩ : Σ' (v557 : IVec S512x512 32) (v558 : IVec S512x512 32) (c64_i32_235 : BitVec 32) (v560 : IVec S512x512 32) (v563 : IVec S512x512 32), IVec S512x512 32 ← k0_part63 i arg2 harg2 arg3 harg3 arg4 harg4 arg5 harg5 arg6 harg6 arg7 harg7 arg8 harg8 v519 v522 v523 cst_223
  let v605 : BitVec 1 ← k0_part64 i arg2 harg2 arg3 harg3 arg4 harg4 arg5 harg5 arg6 harg6 arg7 harg7 arg8 harg8 arg1 v398 v557 v558 c64_i32_235 v560 v563 v566
  K arg1 v605

/-- The end of the body: each head's accumulator divided by its denominator, transposed and stored. -/
noncomputable def progTail (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) : Prog (TpuEff nD τ sig (Elt F) Λ₀ .tc) PUnit := do
  let v611 : Vec F S64x512 .f32 ← Prog.lift (.load arg8 (Rect.unit (s := S512x512) ![0, 0] S64x512.size inb_S512x512_S64x512_0_0).toLoadRect (View.loadsAt_vmem h_S64x512))
  let v612 : Vec F S1x512 .f32 ← Prog.lift (.load arg7 (Rect.unit (s := S8x512) ![0, 0] S1x512.size inb_S8x512_S1x512_0_0).toLoadRect (View.loadsAt_vmem h_S1x512))
  let v615 : Vec F S64x512 .f32 ← Prog.lift (.load arg8 (Rect.unit (s := S512x512) ![64, 0] S64x512.size inb_S512x512_S64x512_64_0).toLoadRect (View.loadsAt_vmem h_S64x512))
  let v616 : Vec F S1x512 .f32 ← Prog.lift (.load arg7 (Rect.unit (s := S8x512) ![1, 0] S1x512.size inb_S8x512_S1x512_1_0).toLoadRect (View.loadsAt_vmem h_S1x512))
  let v619 : Vec F S64x512 .f32 ← Prog.lift (.load arg8 (Rect.unit (s := S512x512) ![128, 0] S64x512.size inb_S512x512_S64x512_128_0).toLoadRect (View.loadsAt_vmem h_S64x512))
  let v620 : Vec F S1x512 .f32 ← Prog.lift (.load arg7 (Rect.unit (s := S8x512) ![2, 0] S1x512.size inb_S8x512_S1x512_2_0).toLoadRect (View.loadsAt_vmem h_S1x512))
  let v623 : Vec F S64x512 .f32 ← Prog.lift (.load arg8 (Rect.unit (s := S512x512) ![192, 0] S64x512.size inb_S512x512_S64x512_192_0).toLoadRect (View.loadsAt_vmem h_S64x512))
  let v624 : Vec F S1x512 .f32 ← Prog.lift (.load arg7 (Rect.unit (s := S8x512) ![3, 0] S1x512.size inb_S8x512_S1x512_3_0).toLoadRect (View.loadsAt_vmem h_S1x512))
  let v627 : Vec F S64x512 .f32 ← Prog.lift (.load arg8 (Rect.unit (s := S512x512) ![256, 0] S64x512.size inb_S512x512_S64x512_256_0).toLoadRect (View.loadsAt_vmem h_S64x512))
  let v628 : Vec F S1x512 .f32 ← Prog.lift (.load arg7 (Rect.unit (s := S8x512) ![4, 0] S1x512.size inb_S8x512_S1x512_4_0).toLoadRect (View.loadsAt_vmem h_S1x512))
  let v631 : Vec F S64x512 .f32 ← Prog.lift (.load arg8 (Rect.unit (s := S512x512) ![320, 0] S64x512.size inb_S512x512_S64x512_320_0).toLoadRect (View.loadsAt_vmem h_S64x512))
  let v632 : Vec F S1x512 .f32 ← Prog.lift (.load arg7 (Rect.unit (s := S8x512) ![5, 0] S1x512.size inb_S8x512_S1x512_5_0).toLoadRect (View.loadsAt_vmem h_S1x512))
  have v614 : FVec F S64x512 .f32 := k0_pay365 v611 v612
  have v618 : FVec F S64x512 .f32 := k0_pay366 v615 v616
  have v622 : FVec F S64x512 .f32 := k0_pay367 v619 v620
  have v626 : FVec F S64x512 .f32 := k0_pay368 v623 v624
  have v630 : FVec F S64x512 .f32 := k0_pay369 v627 v628
  have v634 : FVec F S64x512 .f32 := k0_pay370 v631 v632
  let v635 : Vec F S64x512 .f32 ← Prog.lift (.load arg8 (Rect.unit (s := S512x512) ![384, 0] S64x512.size inb_S512x512_S64x512_384_0).toLoadRect (View.loadsAt_vmem h_S64x512))
  let v636 : Vec F S1x512 .f32 ← Prog.lift (.load arg7 (Rect.unit (s := S8x512) ![6, 0] S1x512.size inb_S8x512_S1x512_6_0).toLoadRect (View.loadsAt_vmem h_S1x512))
  let v639 : Vec F S64x512 .f32 ← Prog.lift (.load arg8 (Rect.unit (s := S512x512) ![448, 0] S64x512.size inb_S512x512_S64x512_448_0).toLoadRect (View.loadsAt_vmem h_S64x512))
  let v640 : Vec F S1x512 .f32 ← Prog.lift (.load arg7 (Rect.unit (s := S8x512) ![7, 0] S1x512.size inb_S8x512_S1x512_7_0).toLoadRect (View.loadsAt_vmem h_S1x512))
  let v646 : Vec F S1x512x512 .bf16 ← Prog.lift (.load arg5 (Rect.unit (s := S1x512x512) ![0, 0, 0] S1x512x512.size inb_S1x512x512_S1x512x512_0_0_0).toLoadRect (View.loadsAt_vmem h_S1x512x512))
  Prog.lift (.store arg5 (Rect.unit (s := S1x512x512) ![0, 0, 0] S1x512x512.size inb_S1x512x512_S1x512x512_0_0_0) (k0_pay1 v614 v618 v622 v626 v630 v634 v635 v636 v639 v640) Finset.univ (View.stores_vmem h_S1x512x512 (harg5.storeExact_slice rfl _ packedbf16_S1x512x512_S1x512x512_0_0_0) (fun _ => rfl)) (.inl rfl))
  pure ⟨⟩

/-- The diagonal tile with the running maximum, after the tiles before it. -/
noncomputable def progDiag (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (arg1 : BitVec 32) (v673 : FVec F S512x512 .f32) (K : Prog (TpuEff nD τ sig (Elt F) Λ₀ .tc) PUnit) : Prog (TpuEff nD τ sig (Elt F) Λ₀ .tc) PUnit := do
  let ⟨v681, v689, v714, v715⟩ : Σ' (v681 : FVec F S512x512 .f32) (v689 : FVec F S512x512 .f32) (v714 : IVec S512x512 32), IVec S512x512 32 ← k0_part32 i arg2 harg2 arg3 harg3 arg4 harg4 arg5 harg5 arg6 harg6 arg7 harg7 arg8 harg8 arg1
  let ⟨v751, v754, v757⟩ : Σ' (v751 : FVec F S1x512 .f32) (v754 : FVec F S512x512 .f32), FVec F S64x512 .bf16 ← k0_part33 i arg2 harg2 arg3 harg3 arg4 harg4 arg5 harg5 arg6 harg6 arg7 harg7 arg8 harg8 arg1 v673 v714 v715
  let ⟨v782, v783, c64_i32_377, v785, v792, c0_i32_380⟩ : Σ' (v782 : FVec F S512x512 .f32) (v783 : IVec S512x512 32) (c64_i32_377 : BitVec 32) (v785 : IVec S512x512 32) (v792 : IVec S512x512 32), BitVec 32 ← k0_part34 i arg2 harg2 arg3 harg3 arg4 harg4 arg5 harg5 arg6 harg6 arg7 harg7 arg8 harg8 arg1 v751 v754 v757
  let ⟨v835, v836, v838⟩ : Σ' (v835 : FVec F S512x512 .f32) (v836 : Vec F S1x512 .f32), FVec F S1x512 .f32 ← k0_part35 i arg2 harg2 arg3 harg3 arg4 harg4 arg5 harg5 arg6 harg6 arg7 harg7 arg8 harg8 v681 v783 c64_i32_377 v785 v792 c0_i32_380
  let v872 : FVec F S512x128 .bf16 ← k0_part36 i arg2 harg2 arg3 harg3 arg4 harg4 arg5 harg5 arg6 harg6 arg7 harg7 arg8 harg8 arg1 v835 v836 v838
  let ⟨v875, v900, v901, v903, v917, v918⟩ : Σ' (v875 : FVec F S512x512 .f32) (v900 : IVec S512x512 32) (v901 : IVec S512x512 32) (v903 : IVec S512x512 32) (v917 : IVec S512x512 1), IVec S512x512 32 ← k0_part37 i arg2 harg2 arg3 harg3 arg4 harg4 arg5 harg5 arg6 harg6 arg7 harg7 arg8 harg8 v872
  let ⟨v947, v956⟩ : Σ' (v947 : FVec F S1x512 .f32), FVec F S1x512 .f32 ← k0_part38 i arg2 harg2 arg3 harg3 arg4 harg4 arg5 harg5 arg6 harg6 arg7 harg7 arg8 harg8 arg1 v689 v900 v901 v903 v917 v918
  let ⟨v968, v993, v994, c64_i32_470, v996⟩ : Σ' (v968 : FVec F S512x512 .f32) (v993 : IVec S512x512 32) (v994 : IVec S512x512 32) (c64_i32_470 : BitVec 32), IVec S512x512 32 ← k0_part39 i arg2 harg2 arg3 harg3 arg4 harg4 arg5 harg5 arg6 harg6 arg7 harg7 arg8 harg8 arg1 v947 v956
  let ⟨v1030, v1033, v1038⟩ : Σ' (v1030 : FVec F S1x512 .f32) (v1033 : FVec F S512x512 .f32), FVec F S64x512 .f32 ← k0_part40 i arg2 harg2 arg3 harg3 arg4 harg4 arg5 harg5 arg6 harg6 arg7 harg7 arg8 harg8 arg1 v782 v993 v994 c64_i32_470 v996
  let ⟨v1061, v1062, c64_i32_506, v1064, v1071, v1073, c0_i32_510⟩ : Σ' (v1061 : FVec F S512x512 .f32) (v1062 : IVec S512x512 32) (c64_i32_506 : BitVec 32) (v1064 : IVec S512x512 32) (v1071 : IVec S512x512 32) (v1073 : BitVec 32), BitVec 32 ← k0_part41 i arg2 harg2 arg3 harg3 arg4 harg4 arg5 harg5 arg6 harg6 arg7 harg7 arg8 harg8 arg1 v1030 v1033 v1038
  let ⟨v1114, v1115, v1118⟩ : Σ' (v1114 : FVec F S512x512 .f32) (v1115 : Vec F S1x512 .f32), FVec F S1x512 .f32 ← k0_part42 i arg2 harg2 arg3 harg3 arg4 harg4 arg5 harg5 arg6 harg6 arg7 harg7 arg8 harg8 v875 v1062 c64_i32_506 v1064 v1071 v1073 c0_i32_510
  let ⟨v1151, v1153⟩ : Σ' (v1151 : FVec F S512x128 .bf16), FVec F S128x512 .bf16 ← k0_part43 i arg2 harg2 arg3 harg3 arg4 harg4 arg5 harg5 arg6 harg6 arg7 harg7 arg8 harg8 arg1 v1114 v1115 v1118
  let ⟨v1154, v1179, v1182, v1196, v1198, v1199⟩ : Σ' (v1154 : FVec F S512x512 .f32) (v1179 : IVec S512x512 32) (v1182 : IVec S512x512 32) (v1196 : IVec S512x512 1) (v1198 : IVec S512x512 32), IVec S512x512 32 ← k0_part44 i arg2 harg2 arg3 harg3 arg4 harg4 arg5 harg5 arg6 harg6 arg7 harg7 arg8 harg8 v1151 v1153
  let v1236 : FVec F S1x512 .f32 ← k0_part45 i arg2 harg2 arg3 harg3 arg4 harg4 arg5 harg5 arg6 harg6 arg7 harg7 arg8 harg8 arg1 v968 v1179 v1182 v1196 v1198 v1199
  let ⟨v1264, v1267, v1281, v1283⟩ : Σ' (v1264 : IVec S512x512 32) (v1267 : IVec S512x512 32) (v1281 : IVec S512x512 1), IVec S512x512 32 ← k0_part46 i arg2 harg2 arg3 harg3 arg4 harg4 arg5 harg5 arg6 harg6 arg7 harg7 arg8 harg8 v1236
  let v1321 : FVec F S1x512 .f32 ← k0_part47 i arg2 harg2 arg3 harg3 arg4 harg4 arg5 harg5 arg6 harg6 arg7 harg7 arg8 harg8 arg1 v1061 v1264 v1267 v1281 v1283
  let ⟨v1349, v1350, c64_i32_624, v1352, v1366⟩ : Σ' (v1349 : IVec S512x512 32) (v1350 : IVec S512x512 32) (c64_i32_624 : BitVec 32) (v1352 : IVec S512x512 32), IVec S512x512 1 ← k0_part48 i arg2 harg2 arg3 harg3 arg4 harg4 arg5 harg5 arg6 harg6 arg7 harg7 arg8 harg8 v1321
  let ⟨v1386, v1396, v1404⟩ : Σ' (v1386 : FVec F S1x512 .f32) (v1396 : FVec F S1x512 .f32), Vec F S1x512 .f32 ← k0_part49 i arg2 harg2 arg3 harg3 arg4 harg4 arg5 harg5 arg6 harg6 arg7 harg7 arg8 harg8 arg1 v1154 v1349 v1350 c64_i32_624 v1352 v1366
  let v1407 : Vec F S1x512 .f32 ← Prog.lift (.load arg7 (Rect.unit (s := S8x512) ![7, 0] S1x512.size inb_S8x512_S1x512_7_0).toLoadRect (View.loadsAt_vmem h_S1x512))
  Prog.lift (.store arg7 (Rect.unit (s := S8x512) ![7, 0] S1x512.size inb_S8x512_S1x512_7_0) (k0_pay364 v1386 v1396 v1404) Finset.univ (View.stores_vmem_bits_univ h_S1x512 rfl) (.inl rfl))
  pure ⟨⟩
  K

/-- What follows the diagonal tile: the test's two branches and the end. -/
noncomputable def progB (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (arg1 : BitVec 32) (v605 : BitVec 1) : Prog (TpuEff nD τ sig (Elt F) Λ₀ .tc) PUnit := do
  let ⟨v614, v618, v622, v626, v630, v634⟩ : Σ' (v614 : FVec F S64x512 .f32) (v618 : FVec F S64x512 .f32) (v622 : FVec F S64x512 .f32) (v626 : FVec F S64x512 .f32) (v630 : FVec F S64x512 .f32), FVec F S64x512 .f32 ← k0_part65 i arg2 harg2 arg3 harg3 arg4 harg4 arg5 harg5 arg6 harg6 arg7 harg7 arg8 harg8 arg1 v605
  let v635 : Vec F S64x512 .f32 ← Prog.lift (.load arg8 (Rect.unit (s := S512x512) ![384, 0] S64x512.size inb_S512x512_S64x512_384_0).toLoadRect (View.loadsAt_vmem h_S64x512))
  let v636 : Vec F S1x512 .f32 ← Prog.lift (.load arg7 (Rect.unit (s := S8x512) ![6, 0] S1x512.size inb_S8x512_S1x512_6_0).toLoadRect (View.loadsAt_vmem h_S1x512))
  let v639 : Vec F S64x512 .f32 ← Prog.lift (.load arg8 (Rect.unit (s := S512x512) ![448, 0] S64x512.size inb_S512x512_S64x512_448_0).toLoadRect (View.loadsAt_vmem h_S64x512))
  let v640 : Vec F S1x512 .f32 ← Prog.lift (.load arg7 (Rect.unit (s := S8x512) ![7, 0] S1x512.size inb_S8x512_S1x512_7_0).toLoadRect (View.loadsAt_vmem h_S1x512))
  let v646 : Vec F S1x512x512 .bf16 ← Prog.lift (.load arg5 (Rect.unit (s := S1x512x512) ![0, 0, 0] S1x512x512.size inb_S1x512x512_S1x512x512_0_0_0).toLoadRect (View.loadsAt_vmem h_S1x512x512))
  Prog.lift (.store arg5 (Rect.unit (s := S1x512x512) ![0, 0, 0] S1x512x512.size inb_S1x512x512_S1x512x512_0_0_0) (k0_pay1 v614 v618 v622 v626 v630 v634 v635 v636 v639 v640) Finset.univ (View.stores_vmem h_S1x512x512 (harg5.storeExact_slice rfl _ packedbf16_S1x512x512_S1x512x512_0_0_0) (fun _ => rfl)) (.inl rfl))
  pure ⟨⟩

/-- The body is the diagonal tile and then the rest. -/
theorem skel_eq (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) :
    cc0_attn_b_skel (F := F) i arg2 harg2 arg3 harg3 arg4 harg4 arg5 harg5 arg6 harg6 arg7 harg7 arg8 harg8 = progA i arg2 harg2 arg3 harg3 arg4 harg4 arg5 harg5 arg6 harg6 arg7 harg7 arg8 harg8 (fun arg1 v605 => progB i arg2 harg2 arg3 harg3 arg4 harg4 arg5 harg5 arg6 harg6 arg7 harg7 arg8 harg8 arg1 v605) := rfl

/-- With the denominators safe the rest is the loop over the earlier tiles (and its empty remainder) and the end. -/
theorem progB_safe (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (arg1 : BitVec 32) :
    progB (F := F) i arg2 harg2 arg3 harg3 arg4 harg4 arg5 harg5 arg6 harg6 arg7 harg7 arg8 harg8 arg1 1#1 = (Scf.Loop.for (k0_t1_loop i) (k0_t1_ok i) ⟨⟩ (k0_t1_body i arg2 harg2 arg3 harg3 arg4 harg4 arg5 harg5 arg6 harg6 arg7 harg7 arg8 harg8 arg1 1#1)) >>= fun _ =>
      (Scf.Loop.for (k0_t2_loop i) (k0_t2_ok i) ⟨⟩ (k0_t2_body i arg2 harg2 arg3 harg3 arg4 harg4 arg5 harg5 arg6 harg6 arg7 harg7 arg8 harg8 arg1 1#1 (Scalar.addi 0#32 (Scalar.muli (Scalar.divsi (Scalar.subi arg1 0#32) 1#32) 1#32)))) >>= fun _ =>
        progTail (F := F) arg2 harg2 arg3 harg3 arg4 harg4 arg5 harg5 arg6 harg6 arg7 harg7 arg8 harg8 := by
  have h1 : (Scalar.cmpi .ne ((Scalar.extui (1#1 : BitVec 1) : BitVec 32)) 0#32 : BitVec 1) = 1#1 := by decide
  have h2 : ¬ ((Scalar.cmpi .ne ((Scalar.extui (Scalar.xori (1#1 : BitVec 1) 1#1) : BitVec 32)) 0#32 : BitVec 1) = 1#1) := by decide
  unfold progB
  rw [k0_part65_eq_skeleton]
  unfold k0_part65_skel progTail
  simp only [if_pos h1, if_neg h2, bind_assoc, pure_bind]
  try rfl

/-- Otherwise it starts the running maximum over, runs the loop over the earlier tiles, then the diagonal tile and the end. -/
theorem progB_online (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (arg1 : BitVec 32) :
    progB (F := F) i arg2 harg2 arg3 harg3 arg4 harg4 arg5 harg5 arg6 harg6 arg7 harg7 arg8 harg8 arg1 0#1 = k0_part31 (F := F) i arg2 harg2 arg3 harg3 arg4 harg4 arg5 harg5 arg6 harg6 arg7 harg7 arg8 harg8 arg1 >>= fun v673 => progDiag i arg2 harg2 arg3 harg3 arg4 harg4 arg5 harg5 arg6 harg6 arg7 harg7 arg8 harg8 arg1 v673 (progTail arg2 harg2 arg3 harg3 arg4 harg4 arg5 harg5 arg6 harg6 arg7 harg7 arg8 harg8) := by
  have h1 : ¬ ((Scalar.cmpi .ne ((Scalar.extui (0#1 : BitVec 1) : BitVec 32)) 0#32 : BitVec 1) = 1#1) := by decide
  have h2 : (Scalar.cmpi .ne ((Scalar.extui (Scalar.xori (0#1 : BitVec 1) 1#1) : BitVec 32)) 0#32 : BitVec 1) = 1#1 := by decide
  unfold progB
  rw [k0_part65_eq_skeleton]
  unfold k0_part65_skel progTail progDiag
  simp only [if_neg h1, if_pos h2, bind_assoc, pure_bind]
  try rfl

end Cert.KernelIdeal.Attn

end
-- ==== Proof.Attn.Runs.lean ====
module

public import proofs.«01_k».proof.Proof.Attn.Stages

/-! What the stages of the attention kernel's body leave in the buffers they write. -/

@[expose] public section

set_option maxRecDepth 65536
set_option maxHeartbeats 4000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄A" => MT nD τ sig Unit (Elt F) ℕ (UR sig nD τ) ℕ

/-- The buffers the diagonal stage works on. -/
abbrev OwnA (c : Dev nD) (arg2 : Memref sig .tc .vmem S1x8x128x512 .bf16) (arg3 : Memref sig .tc .vmem S1x8x8192x128 .bf16) (arg4 : Memref sig .tc .vmem S1x8x16x64x512 .bf16) (arg7 : Memref sig .tc .vmem S8x512 .f32) (arg8 : Memref sig .tc .vmem S512x512 .f32) (X2 : BufTy.Contents (Elt F) arg2.view.ty) (X3 : BufTy.Contents (Elt F) arg3.view.ty) (X4 : BufTy.Contents (Elt F) arg4.view.ty) (f7 : BufTy.Contents (Elt F) arg7.view.ty) (f8 : BufTy.Contents (Elt F) arg8.view.ty) : sProp 𝕄A :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} f7) ∗ (arg8.view.loc (c : Thread nD τ) ↦[arg8.view.set]{fullShare} f8))

/-- The diagonal stage: the pieces it stores, the tile's number and the test of the denominators it hands on. -/
@[irreducible] def runA (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (X2 : BufTy.Contents (Elt F) arg2.view.ty) (X3 : BufTy.Contents (Elt F) arg3.view.ty) (X4 : BufTy.Contents (Elt F) arg4.view.ty) :
    Σ' (L7 : List (View.Piece (Elt F) S8x512 .f32)) (L8 : List (View.Piece (Elt F) S512x512 .f32)) (a1 : BitVec 32), { v : BitVec 1 //
      ∀ (E : Set ℕ) (f7 : BufTy.Contents (Elt F) arg7.view.ty) (f8 : BufTy.Contents (Elt F) arg8.view.ty) (K : BitVec 32 → BitVec 1 → Prog (TpuEff nD τ sig (Elt F) Λ₀ .tc) PUnit) (Q : PUnit → sProp 𝕄A),
      iprop((OwnA (F := F) c arg2 arg3 arg4 arg7 arg8 X2 X3 X4 f7 f8) ∗
        ((OwnA (F := F) c arg2 arg3 arg4 arg7 arg8 X2 X3 X4 (arg7.view.writes (Elt F) f7 L7) (arg8.view.writes (Elt F) f8 L8)) -∗ wp frame (wpE (defs₀ (F := F)) 𝒱 (c : Thread nD τ) bd) E (K a1 v) Q))
      ⊢ wp frame (wpE (defs₀ (F := F)) 𝒱 (c : Thread nD τ) bd) E (progA (F := F) i arg2 harg2 arg3 harg3 arg4 harg4 arg5 harg5 arg6 harg6 arg7 harg7 arg8 harg8 K) Q } := by
  refine ⟨?_, ?_, ?_, ?_, fun E f7 f8 K Q => ?run⟩
  case run =>
    unfold progA
    iintro ⟨⟨H2, H3, H4, H7, H8⟩, Hk⟩
    sl_exec
    iapply Hk
    sl_close

/-- The buffers the stages with the running maximum work on. -/
abbrev OwnD (c : Dev nD) (arg2 : Memref sig .tc .vmem S1x8x128x512 .bf16) (arg3 : Memref sig .tc .vmem S1x8x8192x128 .bf16) (arg4 : Memref sig .tc .vmem S1x8x16x64x512 .bf16) (arg6 : Memref sig .tc .vmem S8x512 .f32) (arg7 : Memref sig .tc .vmem S8x512 .f32) (arg8 : Memref sig .tc .vmem S512x512 .f32) (X2 : BufTy.Contents (Elt F) arg2.view.ty) (X3 : BufTy.Contents (Elt F) arg3.view.ty) (X4 : BufTy.Contents (Elt F) arg4.view.ty) (f6 : BufTy.Contents (Elt F) arg6.view.ty) (f7 : BufTy.Contents (Elt F) arg7.view.ty) (f8 : BufTy.Contents (Elt F) arg8.view.ty) : sProp 𝕄A :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))

/-- The end of the body: the block it stores, from the accumulators and the denominators it finds. -/
@[irreducible] def runTail (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) :
    { L5 : BufTy.Contents (Elt F) arg7.view.ty → BufTy.Contents (Elt F) arg8.view.ty → List (View.Piece (Elt F) S1x512x512 .bf16) //
      ∀ (E : Set ℕ) (f5 : BufTy.Contents (Elt F) arg5.view.ty) (f7 : BufTy.Contents (Elt F) arg7.view.ty) (f8 : BufTy.Contents (Elt F) arg8.view.ty) (Q : PUnit → sProp 𝕄A),
      iprop(((arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8)) ∗
        (((arg5.view.loc (c : Thread nD τ) ↦[arg5.view.set]{fullShare} (arg5.view.writes (Elt F) f5 (L5 f7 f8))) ∗ (arg7.view.loc (c : Thread nD τ) ↦[arg7.view.set]{fullShare} f7) ∗ (arg8.view.loc (c : Thread nD τ) ↦[arg8.view.set]{fullShare} f8)) -∗ Q ⟨⟩))
      ⊢ wp frame (wpE (defs₀ (F := F)) 𝒱 (c : Thread nD τ) bd) E (progTail (F := F) arg2 harg2 arg3 harg3 arg4 harg4 arg5 harg5 arg6 harg6 arg7 harg7 arg8 harg8) Q } := by
  refine ⟨?_, fun E f5 f7 f8 Q => ?run⟩
  case run =>
    unfold progTail
    iintro ⟨⟨H5, H7, H8⟩, Hk⟩
    sl_exec
    sl_step
    iapply Hk
    sl_close

/-- The diagonal tile with the running maximum: the pieces it stores, from the contents it finds. -/
@[irreducible] def runDiag (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (arg1 : BitVec 32) (v673 : FVec F S512x512 .f32) (X2 : BufTy.Contents (Elt F) arg2.view.ty) (X3 : BufTy.Contents (Elt F) arg3.view.ty) (X4 : BufTy.Contents (Elt F) arg4.view.ty) :
    Σ' (L6 : BufTy.Contents (Elt F) arg6.view.ty → BufTy.Contents (Elt F) arg7.view.ty → BufTy.Contents (Elt F) arg8.view.ty → List (View.Piece (Elt F) S8x512 .f32)) (L7 : BufTy.Contents (Elt F) arg6.view.ty → BufTy.Contents (Elt F) arg7.view.ty → BufTy.Contents (Elt F) arg8.view.ty → List (View.Piece (Elt F) S8x512 .f32)), { L8 : BufTy.Contents (Elt F) arg6.view.ty → BufTy.Contents (Elt F) arg7.view.ty → BufTy.Contents (Elt F) arg8.view.ty → List (View.Piece (Elt F) S512x512 .f32) //
      ∀ (E : Set ℕ) (f6 : BufTy.Contents (Elt F) arg6.view.ty) (f7 : BufTy.Contents (Elt F) arg7.view.ty) (f8 : BufTy.Contents (Elt F) arg8.view.ty) (K : Prog (TpuEff nD τ sig (Elt F) Λ₀ .tc) PUnit) (Q : PUnit → sProp 𝕄A),
      iprop((OwnD (F := F) c arg2 arg3 arg4 arg6 arg7 arg8 X2 X3 X4 f6 f7 f8) ∗
        ((OwnD (F := F) c arg2 arg3 arg4 arg6 arg7 arg8 X2 X3 X4 (arg6.view.writes (Elt F) f6 (L6 f6 f7 f8)) (arg7.view.writes (Elt F) f7 (L7 f6 f7 f8)) (arg8.view.writes (Elt F) f8 (L8 f6 f7 f8))) -∗ wp frame (wpE (defs₀ (F := F)) 𝒱 (c : Thread nD τ) bd) E K Q))
      ⊢ wp frame (wpE (defs₀ (F := F)) 𝒱 (c : Thread nD τ) bd) E (progDiag (F := F) i arg2 harg2 arg3 harg3 arg4 harg4 arg5 harg5 arg6 harg6 arg7 harg7 arg8 harg8 arg1 v673 K) Q } := by
  refine ⟨?_, ?_, ?_, fun E f6 f7 f8 K Q => ?run⟩
  case run =>
    unfold progDiag
    iintro ⟨⟨H2, H3, H4, H6, H7, H8⟩, Hk⟩
    sl_exec
    iapply Hk
    sl_close

/-- The start of the branch with the running maximum: the reset, the loop over the tiles before the diagonal, and the diagonal tile's first scores. -/
@[irreducible] def runLoop (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (arg1 : BitVec 32) (X2 : BufTy.Contents (Elt F) arg2.view.ty) (X3 : BufTy.Contents (Elt F) arg3.view.ty) (X4 : BufTy.Contents (Elt F) arg4.view.ty) :
    Σ' (G6 : BufTy.Contents (Elt F) arg6.view.ty) (G7 : BufTy.Contents (Elt F) arg7.view.ty) (G8 : BufTy.Contents (Elt F) arg8.view.ty), { v673 : FVec F S512x512 .f32 //
      ∀ (E : Set ℕ) (f6 : BufTy.Contents (Elt F) arg6.view.ty) (f7 : BufTy.Contents (Elt F) arg7.view.ty) (f8 : BufTy.Contents (Elt F) arg8.view.ty) (K : FVec F S512x512 .f32 → Prog (TpuEff nD τ sig (Elt F) Λ₀ .tc) PUnit) (Q : PUnit → sProp 𝕄A),
      iprop((OwnD (F := F) c arg2 arg3 arg4 arg6 arg7 arg8 X2 X3 X4 f6 f7 f8) ∗
        ((OwnD (F := F) c arg2 arg3 arg4 arg6 arg7 arg8 X2 X3 X4 G6 G7 G8) -∗ wp frame (wpE (defs₀ (F := F)) 𝒱 (c : Thread nD τ) bd) E (K v673) Q))
      ⊢ wp frame (wpE (defs₀ (F := F)) 𝒱 (c : Thread nD τ) bd) E (k0_part31 (F := F) i arg2 harg2 arg3 harg3 arg4 harg4 arg5 harg5 arg6 harg6 arg7 harg7 arg8 harg8 arg1 >>= K) Q } := by
  refine ⟨?_, ?_, ?_, ?_, fun E f6 f7 f8 K Q => ?run⟩
  case run =>
    rw [k0_part31_eq_skeleton]
    unfold k0_part31_skel
    simp only [bind_assoc, pure_bind]
    iintro ⟨⟨H2, H3, H4, H6, H7, H8⟩, Hk⟩
    sl_exec
    iapply Hk
    sl_close

/-- The branch without the running maximum: the loop over the tiles before the diagonal adds to what it finds. -/
@[irreducible] def runSafe (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (arg1 : BitVec 32) (X2 : BufTy.Contents (Elt F) arg2.view.ty) (X3 : BufTy.Contents (Elt F) arg3.view.ty) (X4 : BufTy.Contents (Elt F) arg4.view.ty) :
    Σ' (L7 : BufTy.Contents (Elt F) arg7.view.ty → BufTy.Contents (Elt F) arg8.view.ty → BufTy.Contents (Elt F) arg7.view.ty), { L8 : BufTy.Contents (Elt F) arg7.view.ty → BufTy.Contents (Elt F) arg8.view.ty → BufTy.Contents (Elt F) arg8.view.ty //
      ∀ (E : Set ℕ) (f7 : BufTy.Contents (Elt F) arg7.view.ty) (f8 : BufTy.Contents (Elt F) arg8.view.ty) (K : Prog (TpuEff nD τ sig (Elt F) Λ₀ .tc) PUnit) (Q : PUnit → sProp 𝕄A),
      iprop((OwnA (F := F) c arg2 arg3 arg4 arg7 arg8 X2 X3 X4 f7 f8) ∗ ((OwnA (F := F) c arg2 arg3 arg4 arg7 arg8 X2 X3 X4 (L7 f7 f8) (L8 f7 f8)) -∗ wp frame (wpE (defs₀ (F := F)) 𝒱 (c : Thread nD τ) bd) E K Q))
      ⊢ wp frame (wpE (defs₀ (F := F)) 𝒱 (c : Thread nD τ) bd) E ((Scf.Loop.for (k0_t1_loop i) (k0_t1_ok i) ⟨⟩ (k0_t1_body i arg2 harg2 arg3 harg3 arg4 harg4 arg5 harg5 arg6 harg6 arg7 harg7 arg8 harg8 arg1 1#1)) >>= fun _ =>
      (Scf.Loop.for (k0_t2_loop i) (k0_t2_ok i) ⟨⟩ (k0_t2_body i arg2 harg2 arg3 harg3 arg4 harg4 arg5 harg5 arg6 harg6 arg7 harg7 arg8 harg8 arg1 1#1 (Scalar.addi 0#32 (Scalar.muli (Scalar.divsi (Scalar.subi arg1 0#32) 1#32) 1#32)))) >>= fun _ => K) Q } := by
  refine ⟨?_, ?_, fun E f7 f8 K Q => ?run⟩
  case run =>
    iintro ⟨⟨H2, H3, H4, H7, H8⟩, Hk⟩
    sl_exec
    iapply Hk
    sl_close

end Cert.KernelIdeal.Attn

end
-- ==== Proof.Attn.Pieces.lean ====
module

public import proofs.«01_k».proof.Proof.Attn.Runs

/-! The pieces the attention kernel's stages store, each head's written the same way. -/

@[expose] public section

set_option maxRecDepth 65536
set_option maxHeartbeats 4000000

noncomputable section

namespace Cert.KernelIdeal.Attn

open Idealize.ShloMosaic Idealize.ShloMosaic.TcCoe Idealize.ShloMosaic.Tactic
open Idealize.SL Idealize.SL.RA Idealize.SL.BI
open Cert.KernelIdeal Cert.KernelIdeal.Gen

variable {F : FTy → Type} [FloatOps F] [Named F]

/-- A head's key tile lies in the key block. -/
theorem kIn (n : Fin 8) {w : ℕ} (hw : w + 512 ≤ 8192) : ∀ a, (![0, n.val, w, 0] : Fin 4 → ℕ) a + S1x1x512x128.size a ≤ S1x8x8192x128.size a := by
  intro a; fin_cases a <;> simp <;> omega

/-- A head's query tile lies in the query block. -/
theorem qIn (n : Fin 8) : ∀ a, (![0, n.val, 0, 0] : Fin 4 → ℕ) a + S1x1x128x512.size a ≤ S1x8x128x512.size a := by
  intro a; fin_cases a <;> simp <;> omega

/-- A head's value tile lies in the value block. -/
theorem vIn (n : Fin 8) {w : ℕ} (hw : w < 16) : ∀ a, (![0, n.val, w, 0, 0] : Fin 5 → ℕ) a + S1x1x1x64x512.size a ≤ S1x8x16x64x512.size a := by
  intro a; fin_cases a <;> simp <;> omega

/-- A head's rows lie in the accumulator. -/
theorem accIn (n : Fin 8) : ∀ a, (![64 * n.val, 0] : Fin 2 → ℕ) a + S64x512.size a ≤ S512x512.size a := by
  intro a; fin_cases a <;> simp <;> omega

/-- A head's row lies in the row array. -/
theorem rowIn (n : Fin 8) : ∀ a, (![n.val, 0] : Fin 2 → ℕ) a + S1x512.size a ≤ S8x512.size a := by
  intro a; fin_cases a <;> simp <;> omega

/-- Head `n`'s queries. -/
def qT (arg2 : Memref sig .tc .vmem S1x8x128x512 .bf16) (X2 : BufTy.Contents (Elt F) arg2.view.ty) (n : Fin 8) : Vec F S1x1x128x512 .bf16 :=
  View.readAt (Elt F) arg2.view (Rect.unit (s := S1x8x128x512) ![0, n.val, 0, 0] S1x1x128x512.size (qIn n)).toLoadRect X2

/-- Head `n`'s keys from position `w` on. -/
def kT (arg3 : Memref sig .tc .vmem S1x8x8192x128 .bf16) (X3 : BufTy.Contents (Elt F) arg3.view.ty) {w : ℕ} (hw : w + 512 ≤ 8192) (n : Fin 8) : Vec F S1x1x512x128 .bf16 :=
  View.readAt (Elt F) arg3.view (Rect.unit (s := S1x8x8192x128) ![0, n.val, w, 0] S1x1x512x128.size (kIn n hw)).toLoadRect X3

/-- Head `n`'s values of tile `w`. -/
def vT (arg4 : Memref sig .tc .vmem S1x8x16x64x512 .bf16) (X4 : BufTy.Contents (Elt F) arg4.view.ty) {w : ℕ} (hw : w < 16) (n : Fin 8) : Vec F S1x1x1x64x512 .bf16 :=
  View.readAt (Elt F) arg4.view (Rect.unit (s := S1x8x16x64x512) ![0, n.val, w, 0, 0] S1x1x1x64x512.size (vIn n hw)).toLoadRect X4

/-- Head `n`'s rows of the accumulator. -/
abbrev accR (n : Fin 8) : Rect S512x512 := Rect.unit (s := S512x512) ![64 * n.val, 0] S64x512.size (accIn n)

/-- Head `n`'s row. -/
abbrev rowR (n : Fin 8) : Rect S8x512 := Rect.unit (s := S8x512) ![n.val, 0] S1x512.size (rowIn n)

/-- The mask of the diagonal tile. -/
def msk : IVec S512x512 1 := k0_pay297 (iota .tc S512x512 32 [0] iota_S512x512_d0_w32) 64#32 k0_pay295 k0_pay296

/-- The eight accumulator pieces, last head first. -/
abbrev accL (P : Fin 8 → FVec F S64x512 .f32) : List (View.Piece (Elt F) S512x512 .f32) :=
  List.ofFn fun n : Fin 8 => ⟨accR n.rev, P n.rev⟩

/-- The eight row pieces, last head first. -/
abbrev rowL (P : Fin 8 → FVec F S1x512 .f32) : List (View.Piece (Elt F) S8x512 .f32) :=
  List.ofFn fun n : Fin 8 => ⟨rowR n.rev, P n.rev⟩

/-- The key offset of the diagonal tile, as the kernel computes it. -/
abbrev kW (i : grid0.Coords) : ℕ := BitVec.toNat (Scalar.indexCast (Scalar.muli (BitVec.ofNat 32 (i 1).val) 512#32) : BitVec 32)
/-- The number of the diagonal tile, as the kernel computes it. -/
abbrev vW (i : grid0.Coords) : ℕ := BitVec.toNat (Scalar.indexCast (BitVec.ofNat 32 (i 1).val) : BitVec 32)

/-- What the diagonal stage adds to the accumulator, head by head. -/
theorem runA_acc (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (X2 : BufTy.Contents (Elt F) arg2.view.ty) (X3 : BufTy.Contents (Elt F) arg3.view.ty) (X4 : BufTy.Contents (Elt F) arg4.view.ty) (hk : kW i + 512 ≤ 8192) (hv : vW i < 16) :
    (runA (F := F) 𝒱 c bd i arg2 harg2 arg3 harg3 arg4 harg4 arg5 harg5 arg6 harg6 arg7 harg7 arg8 harg8 X2 X3 X4).2.1
      = accL fun n => k0_pay300 (k0_pay292 (kT arg3 X3 hk n) (qT arg2 X2 n)) msk k0_pay298 (vT arg4 X4 hv n) := by
  unfold runA
  dsimp only
  sl_unfold_words
  rfl

/-- What the diagonal stage adds to the denominators, head by head. -/
theorem runA_den (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (X2 : BufTy.Contents (Elt F) arg2.view.ty) (X3 : BufTy.Contents (Elt F) arg3.view.ty) (X4 : BufTy.Contents (Elt F) arg4.view.ty) (hk : kW i + 512 ≤ 8192) :
    (runA (F := F) 𝒱 c bd i arg2 harg2 arg3 harg3 arg4 harg4 arg5 harg5 arg6 harg6 arg7 harg7 arg8 harg8 X2 X3 X4).1
      = rowL fun n => k0_pay301 (k0_pay292 (kT arg3 X3 hk n) (qT arg2 X2 n)) msk k0_pay298 := by
  unfold runA
  dsimp only
  sl_unfold_words
  rfl

end Cert.KernelIdeal.Attn

end
-- ==== Proof.Attn.Trips.lean ====
module

public import proofs.«01_k».proof.Proof.Attn.Pieces

/-! What one trip of each loop and the diagonal tile with the running maximum store, each head's piece written the same way. -/

@[expose] public section

set_option maxRecDepth 65536
set_option maxHeartbeats 4000000

noncomputable section

namespace Cert.KernelIdeal.Attn

open Idealize.ShloMosaic Idealize.ShloMosaic.TcCoe Idealize.ShloMosaic.Tactic
open Idealize.SL Idealize.SL.RA Idealize.SL.BI
open Cert.KernelIdeal Cert.KernelIdeal.Gen

variable {F : FTy → Type} [FloatOps F] [Named F]

/-- The values times the weights `p`. -/
def pvT (p : FVec F S512x512 .f32) (v : Vec F S1x1x1x64x512 .bf16) : FVec F S64x512 .f32 :=
  matmul dot_S64x512_S512x512_S64x512_1_0_0_1_n_n none (shapeCast S64x512 v shapeCasts_S1x1x1x64x512_S64x512 : FVec F S64x512 .bf16) (truncf .bf16 p bitsLt_bf16_f32) (constant S64x512 .f32 0x00000000#32)

/-- The sum of the weights `p`. -/
def psT (p : FVec F S512x512 .f32) : FVec F S1x512 .f32 :=
  shapeCast S1x512 (multiReduction .add [0] S512 p 0x00000000#32 reduces_S512x512_S512 (.inl rfl) rfl : FVec F S512 .f32) shapeCasts_S512_S1x512

/-- The accumulator's rows after a tile, without the running maximum. -/
def safeAcc (s : FVec F S512x512 .f32) (v : Vec F S1x1x1x64x512 .bf16) (a : Vec F S64x512 .f32) : FVec F S64x512 .f32 :=
  shapeCast S64x512 (addf a (pvT (exp2 s) v) : FVec F S64x512 .f32) shapeCasts_S64x512_S64x512

/-- The denominator after a tile, without the running maximum. -/
def safeDen (s : FVec F S512x512 .f32) (l : Vec F S1x512 .f32) : FVec F S1x512 .f32 :=
  shapeCast S1x512 (addf l (psT (exp2 s)) : FVec F S1x512 .f32) shapeCasts_S1x512_S1x512

/-- The running maximum after a tile. -/
def newMax (s : FVec F S512x512 .f32) (m : Vec F S1x512 .f32) : FVec F S1x512 .f32 :=
  maximumf m (shapeCast S1x512 (multiReduction .maximumf [0] S512 s 0xFF800000#32 reduces_S512x512_S512 (.inl rfl) rfl : FVec F S512 .f32) shapeCasts_S512_S1x512)

/-- The running maximum as it is stored. -/
def onlMax (s : FVec F S512x512 .f32) (m : Vec F S1x512 .f32) : FVec F S1x512 .f32 :=
  shapeCast S1x512 (newMax s m) shapeCasts_S1x512_S1x512

/-- The weights of a tile under the running maximum. -/
def onlP (s : FVec F S512x512 .f32) (m : Vec F S1x512 .f32) : FVec F S512x512 .f32 :=
  exp2 (subf s (broadcastTo S512x512 (newMax s m) broadcasts_S1x512_S512x512))

/-- The accumulator's rows after a tile, with the running maximum. -/
def onlAcc (s : FVec F S512x512 .f32) (m : Vec F S1x512 .f32) (v : Vec F S1x1x1x64x512 .bf16) (a : Vec F S64x512 .f32) : FVec F S64x512 .f32 :=
  shapeCast S64x512 (addf (mulf (broadcastTo S64x512 (exp2 (subf m (newMax s m)) : FVec F S1x512 .f32) broadcasts_S1x512_S64x512) a) (pvT (onlP s m) v) : FVec F S64x512 .f32) shapeCasts_S64x512_S64x512

/-- The denominator after a tile, with the running maximum. -/
def onlDen (s : FVec F S512x512 .f32) (m : Vec F S1x512 .f32) (l : Vec F S1x512 .f32) : FVec F S1x512 .f32 :=
  shapeCast S1x512 (addf (mulf (exp2 (subf m (newMax s m)) : FVec F S1x512 .f32) l) (psT (onlP s m)) : FVec F S1x512 .f32) shapeCasts_S1x512_S1x512

/-- The diagonal tile's scores, masked. -/
def dSc (s : FVec F S512x512 .f32) : FVec F S512x512 .f32 := select msk s k0_pay298

/-- Head `n`'s rows of the accumulator, as found. -/
abbrev accAt (arg8 : Memref sig .tc .vmem S512x512 .f32) (f8 : BufTy.Contents (Elt F) arg8.view.ty) (n : Fin 8) : Vec F S64x512 .f32 :=
  View.readAt (Elt F) arg8.view (accR n).toLoadRect f8

/-- Head `n`'s row of a row array, as found. -/
abbrev rowAt (arg : Memref sig .tc .vmem S8x512 .f32) (f : BufTy.Contents (Elt F) arg.view.ty) (n : Fin 8) : Vec F S1x512 .f32 :=
  View.readAt (Elt F) arg.view (rowR n).toLoadRect f

/-- The key offset of a trip's tile, as the kernel computes it. -/
abbrev kWt {n : ℕ} (k : Fin n) : ℕ := BitVec.toNat (Scalar.indexCast (Scalar.muli (Scf.iv 0#32 1#32 k) 512#32) : BitVec 32)
/-- The number of a trip's tile, as the kernel computes it. -/
abbrev vWt {n : ℕ} (k : Fin n) : ℕ := BitVec.toNat (Scalar.indexCast (Scf.iv 0#32 1#32 k) : BitVec 32)

/-- What a trip without the running maximum leaves in the denominators. -/
theorem trip1_den (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (arg1 : BitVec 32) (k : Fin (k0_t1_loop i).trips) (X2 : BufTy.Contents (Elt F) arg2.view.ty) (X3 : BufTy.Contents (Elt F) arg3.view.ty) (X4 : BufTy.Contents (Elt F) arg4.view.ty) (f6 : BufTy.Contents (Elt F) arg6.view.ty) (f7 : BufTy.Contents (Elt F) arg7.view.ty) (f8 : BufTy.Contents (Elt F) arg8.view.ty) (hk : kWt k + 512 ≤ 8192) (hv : vWt k < 16) :
    (trip_k0_t1 (F := F) 𝒱 c bd i arg2 harg2 arg3 harg3 arg4 harg4 arg5 harg5 arg6 harg6 arg7 harg7 arg8 harg8 arg1 1#1 X2 X3 X4 k).1 f7 f8
      = rowL fun n => safeDen (k0_pay292 (kT arg3 X3 hk n) (qT arg2 X2 n)) (rowAt arg7 f7 n) := by
  unfold trip_k0_t1
  dsimp only
  sl_unfold_words
  rfl

/-- What a trip without the running maximum leaves in the accumulator. -/
theorem trip1_acc (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (arg1 : BitVec 32) (k : Fin (k0_t1_loop i).trips) (X2 : BufTy.Contents (Elt F) arg2.view.ty) (X3 : BufTy.Contents (Elt F) arg3.view.ty) (X4 : BufTy.Contents (Elt F) arg4.view.ty) (f6 : BufTy.Contents (Elt F) arg6.view.ty) (f7 : BufTy.Contents (Elt F) arg7.view.ty) (f8 : BufTy.Contents (Elt F) arg8.view.ty) (hk : kWt k + 512 ≤ 8192) (hv : vWt k < 16) :
    (trip_k0_t1 (F := F) 𝒱 c bd i arg2 harg2 arg3 harg3 arg4 harg4 arg5 harg5 arg6 harg6 arg7 harg7 arg8 harg8 arg1 1#1 X2 X3 X4 k).2.1 f7 f8
      = accL fun n => safeAcc (k0_pay292 (kT arg3 X3 hk n) (qT arg2 X2 n)) (vT arg4 X4 hv n) (accAt arg8 f8 n) := by
  unfold trip_k0_t1
  dsimp only
  sl_unfold_words
  rfl

/-- What a trip with the running maximum leaves in the running maxima. -/
theorem trip3_max (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (arg1 : BitVec 32) (k : Fin (k0_t3_loop i).trips) (X2 : BufTy.Contents (Elt F) arg2.view.ty) (X3 : BufTy.Contents (Elt F) arg3.view.ty) (X4 : BufTy.Contents (Elt F) arg4.view.ty) (f6 : BufTy.Contents (Elt F) arg6.view.ty) (f7 : BufTy.Contents (Elt F) arg7.view.ty) (f8 : BufTy.Contents (Elt F) arg8.view.ty) (hk : kWt k + 512 ≤ 8192) (hv : vWt k < 16) :
    (trip_k0_t3 (F := F) 𝒱 c bd i arg2 harg2 arg3 harg3 arg4 harg4 arg5 harg5 arg6 harg6 arg7 harg7 arg8 harg8 arg1 X2 X3 X4 k).1 f6 f7 f8
      = rowL fun n => onlMax (k0_pay292 (kT arg3 X3 hk n) (qT arg2 X2 n)) (rowAt arg6 f6 n) := by
  unfold trip_k0_t3
  dsimp only
  sl_unfold_words
  rfl

/-- What the diagonal tile with the running maximum leaves in the running maxima. -/
theorem runDiag_max (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (arg1 : BitVec 32)  (X2 : BufTy.Contents (Elt F) arg2.view.ty) (X3 : BufTy.Contents (Elt F) arg3.view.ty) (X4 : BufTy.Contents (Elt F) arg4.view.ty) (f6 : BufTy.Contents (Elt F) arg6.view.ty) (f7 : BufTy.Contents (Elt F) arg7.view.ty) (f8 : BufTy.Contents (Elt F) arg8.view.ty) (hk : kW i + 512 ≤ 8192) (hv : vW i < 16) :
    (runDiag (F := F) 𝒱 c bd i arg2 harg2 arg3 harg3 arg4 harg4 arg5 harg5 arg6 harg6 arg7 harg7 arg8 harg8 (BitVec.ofNat 32 (i 1).val) (k0_pay292 (kT arg3 X3 hk 0) (qT arg2 X2 0)) X2 X3 X4).1 f6 f7 f8
      = rowL fun n => onlMax (dSc (k0_pay292 (kT arg3 X3 hk n) (qT arg2 X2 n))) (rowAt arg6 f6 n) := by
  unfold runDiag
  dsimp only
  sl_unfold_words
  rfl

/-- What a trip with the running maximum leaves in the denominators. -/
theorem trip3_den (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (arg1 : BitVec 32) (k : Fin (k0_t3_loop i).trips) (X2 : BufTy.Contents (Elt F) arg2.view.ty) (X3 : BufTy.Contents (Elt F) arg3.view.ty) (X4 : BufTy.Contents (Elt F) arg4.view.ty) (f6 : BufTy.Contents (Elt F) arg6.view.ty) (f7 : BufTy.Contents (Elt F) arg7.view.ty) (f8 : BufTy.Contents (Elt F) arg8.view.ty) (hk : kWt k + 512 ≤ 8192) (hv : vWt k < 16) :
    (trip_k0_t3 (F := F) 𝒱 c bd i arg2 harg2 arg3 harg3 arg4 harg4 arg5 harg5 arg6 harg6 arg7 harg7 arg8 harg8 arg1 X2 X3 X4 k).2.1 f6 f7 f8
      = rowL fun n => onlDen (k0_pay292 (kT arg3 X3 hk n) (qT arg2 X2 n)) (rowAt arg6 f6 n) (rowAt arg7 f7 n) := by
  unfold trip_k0_t3
  dsimp only
  sl_unfold_words
  rfl

/-- What the diagonal tile with the running maximum leaves in the denominators. -/
theorem runDiag_den (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (arg1 : BitVec 32)  (X2 : BufTy.Contents (Elt F) arg2.view.ty) (X3 : BufTy.Contents (Elt F) arg3.view.ty) (X4 : BufTy.Contents (Elt F) arg4.view.ty) (f6 : BufTy.Contents (Elt F) arg6.view.ty) (f7 : BufTy.Contents (Elt F) arg7.view.ty) (f8 : BufTy.Contents (Elt F) arg8.view.ty) (hk : kW i + 512 ≤ 8192) (hv : vW i < 16) :
    (runDiag (F := F) 𝒱 c bd i arg2 harg2 arg3 harg3 arg4 harg4 arg5 harg5 arg6 harg6 arg7 harg7 arg8 harg8 (BitVec.ofNat 32 (i 1).val) (k0_pay292 (kT arg3 X3 hk 0) (qT arg2 X2 0)) X2 X3 X4).2.1 f6 f7 f8
      = rowL fun n => onlDen (dSc (k0_pay292 (kT arg3 X3 hk n) (qT arg2 X2 n))) (rowAt arg6 f6 n) (rowAt arg7 f7 n) := by
  unfold runDiag
  dsimp only
  sl_unfold_words
  rfl

/-- What a trip with the running maximum leaves in the accumulator. -/
theorem trip3_acc (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (arg1 : BitVec 32) (k : Fin (k0_t3_loop i).trips) (X2 : BufTy.Contents (Elt F) arg2.view.ty) (X3 : BufTy.Contents (Elt F) arg3.view.ty) (X4 : BufTy.Contents (Elt F) arg4.view.ty) (f6 : BufTy.Contents (Elt F) arg6.view.ty) (f7 : BufTy.Contents (Elt F) arg7.view.ty) (f8 : BufTy.Contents (Elt F) arg8.view.ty) (hk : kWt k + 512 ≤ 8192) (hv : vWt k < 16) :
    (trip_k0_t3 (F := F) 𝒱 c bd i arg2 harg2 arg3 harg3 arg4 harg4 arg5 harg5 arg6 harg6 arg7 harg7 arg8 harg8 arg1 X2 X3 X4 k).2.2.1 f6 f7 f8
      = accL fun n => onlAcc (k0_pay292 (kT arg3 X3 hk n) (qT arg2 X2 n)) (rowAt arg6 f6 n) (vT arg4 X4 hv n) (accAt arg8 f8 n) := by
  unfold trip_k0_t3
  dsimp only
  sl_unfold_words
  rfl

/-- What the diagonal tile with the running maximum leaves in the accumulator. -/
theorem runDiag_acc (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (arg1 : BitVec 32)  (X2 : BufTy.Contents (Elt F) arg2.view.ty) (X3 : BufTy.Contents (Elt F) arg3.view.ty) (X4 : BufTy.Contents (Elt F) arg4.view.ty) (f6 : BufTy.Contents (Elt F) arg6.view.ty) (f7 : BufTy.Contents (Elt F) arg7.view.ty) (f8 : BufTy.Contents (Elt F) arg8.view.ty) (hk : kW i + 512 ≤ 8192) (hv : vW i < 16) :
    (runDiag (F := F) 𝒱 c bd i arg2 harg2 arg3 harg3 arg4 harg4 arg5 harg5 arg6 harg6 arg7 harg7 arg8 harg8 (BitVec.ofNat 32 (i 1).val) (k0_pay292 (kT arg3 X3 hk 0) (qT arg2 X2 0)) X2 X3 X4).2.2.1 f6 f7 f8
      = accL fun n => onlAcc (dSc (k0_pay292 (kT arg3 X3 hk n) (qT arg2 X2 n))) (rowAt arg6 f6 n) (vT arg4 X4 hv n) (accAt arg8 f8 n) := by
  unfold runDiag
  dsimp only
  sl_unfold_words
  rfl

end Cert.KernelIdeal.Attn

end
-- ==== Proof.Attn.Body.lean ====
module

public import proofs.«01_k».proof.Proof.Attn.Runs
public import Idealize.ShloMosaic.Lib.Claim

/-! What the attention kernel's body leaves, its stages put together. -/

@[expose] public section

set_option maxRecDepth 65536
set_option maxHeartbeats 4000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄A" => MT nD τ sig Unit (Elt F) ℕ (UR sig nD τ) ℕ

/-- What the body leaves in its output's buffer, from what it finds there and in the scratch. -/
def out5 (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (X2 : BufTy.Contents (Elt F) arg2.view.ty) (X3 : BufTy.Contents (Elt F) arg3.view.ty) (X4 : BufTy.Contents (Elt F) arg4.view.ty) (f5 : BufTy.Contents (Elt F) arg5.view.ty) (f7 : BufTy.Contents (Elt F) arg7.view.ty) (f8 : BufTy.Contents (Elt F) arg8.view.ty) : BufTy.Contents (Elt F) arg5.view.ty :=
  let A := runA (F := F) 𝒱 c bd i arg2 harg2 arg3 harg3 arg4 harg4 arg5 harg5 arg6 harg6 arg7 harg7 arg8 harg8 X2 X3 X4
  let g7 := arg7.view.writes (Elt F) f7 A.1
  let g8 := arg8.view.writes (Elt F) f8 A.2.1
  if A.2.2.2.1 = 1#1 then
    let S := runSafe (F := F) 𝒱 c bd i arg2 harg2 arg3 harg3 arg4 harg4 arg5 harg5 arg6 harg6 arg7 harg7 arg8 harg8 A.2.2.1 X2 X3 X4
    arg5.view.writes (Elt F) f5 ((runTail (F := F) 𝒱 c bd i arg2 harg2 arg3 harg3 arg4 harg4 arg5 harg5 arg6 harg6 arg7 harg7 arg8 harg8).1 (S.1 g7 g8) (S.2.1 g7 g8))
  else
    let O := runLoop (F := F) 𝒱 c bd i arg2 harg2 arg3 harg3 arg4 harg4 arg5 harg5 arg6 harg6 arg7 harg7 arg8 harg8 A.2.2.1 X2 X3 X4
    let D := runDiag (F := F) 𝒱 c bd i arg2 harg2 arg3 harg3 arg4 harg4 arg5 harg5 arg6 harg6 arg7 harg7 arg8 harg8 A.2.2.1 O.2.2.2.1 X2 X3 X4
    arg5.view.writes (Elt F) f5 ((runTail (F := F) 𝒱 c bd i arg2 harg2 arg3 harg3 arg4 harg4 arg5 harg5 arg6 harg6 arg7 harg7 arg8 harg8).1 (arg7.view.writes (Elt F) O.2.1 (D.2.1 O.1 O.2.1 O.2.2.1)) (arg8.view.writes (Elt F) O.2.2.1 (D.2.2.1 O.1 O.2.1 O.2.2.1)))

/-- One word of one bit is one or zero. -/
theorem bit_cases (v : BitVec 1) : v = 1#1 ∨ v = 0#1 := by
  revert v; decide

/-- Zero is not one. -/
theorem bit_zero_ne : ¬ (0#1 : BitVec 1) = 1#1 := by decide

/-- The body on any buffers: its inputs are left, its output holds `out5`, the scratch holds something. -/
theorem bodyRaw (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (X2 : BufTy.Contents (Elt F) arg2.view.ty) (X3 : BufTy.Contents (Elt F) arg3.view.ty) (X4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (E : Set ℕ) (Q : PUnit → sProp 𝕄A) :
    iprop((OwnD (F := F) c arg2 arg3 arg4 arg6 arg7 arg8 X2 X3 X4 f6 f7 f8) ∗ (arg5.view.loc (c : Thread nD τ) ↦[arg5.view.set]{fullShare} f5) ∗
        ((∃ g6 g7 g8, (OwnD (F := F) c arg2 arg3 arg4 arg6 arg7 arg8 X2 X3 X4 g6 g7 g8)) ∗ (arg5.view.loc (c : Thread nD τ) ↦[arg5.view.set]{fullShare} (out5 (F := F) 𝒱 c bd i arg2 harg2 arg3 harg3 arg4 harg4 arg5 harg5 arg6 harg6 arg7 harg7 arg8 harg8 X2 X3 X4 f5 f7 f8)) -∗ Q ⟨⟩))
      ⊢ wp frame (wpE (defs₀ (F := F)) 𝒱 (c : Thread nD τ) bd) E (cc0_attn_b (F := F) i arg2 harg2 arg3 harg3 arg4 harg4 arg5 harg5 arg6 harg6 arg7 harg7 arg8 harg8) Q := by
  rw [cc0_attn_b_eq_skeleton, skel_eq]
  unfold out5
  generalize runA (F := F) 𝒱 c bd i arg2 harg2 arg3 harg3 arg4 harg4 arg5 harg5 arg6 harg6 arg7 harg7 arg8 harg8 X2 X3 X4 = A
  obtain ⟨L7, L8, a1, v, hA⟩ := A
  dsimp only
  iintro ⟨⟨H2, H3, H4, H6, H7, H8⟩, H5, Hk⟩
  iapply hA E f7 f8
  isplitl [H2 H3 H4 H7 H8]
  · sl_close
  iintro ⟨H2, H3, H4, H7, H8⟩
  rcases bit_cases v with hv | hv <;> subst hv
  · rw [if_pos rfl, progB_safe]
    iapply (runSafe (F := F) 𝒱 c bd i arg2 harg2 arg3 harg3 arg4 harg4 arg5 harg5 arg6 harg6 arg7 harg7 arg8 harg8 _ X2 X3 X4).2.2 E
    isplitl [H2 H3 H4 H7 H8]
    · sl_close
    iintro ⟨H2, H3, H4, H7, H8⟩
    iapply (runTail (F := F) 𝒱 c bd i arg2 harg2 arg3 harg3 arg4 harg4 arg5 harg5 arg6 harg6 arg7 harg7 arg8 harg8).2 E
    isplitl [H5 H7 H8]
    · sl_close
    iintro ⟨H5, H7, H8⟩
    iapply Hk
    isplitl [H2 H3 H4 H6 H7 H8]
    · iexists _, _, _
      sl_close
    iexact H5
  · rw [if_neg bit_zero_ne, progB_online]
    iapply (runLoop (F := F) 𝒱 c bd i arg2 harg2 arg3 harg3 arg4 harg4 arg5 harg5 arg6 harg6 arg7 harg7 arg8 harg8 _ X2 X3 X4).2.2.2.2 E f6
    isplitl [H2 H3 H4 H6 H7 H8]
    · sl_close
    iintro ⟨H2, H3, H4, H6, H7, H8⟩
    iapply (runDiag (F := F) 𝒱 c bd i arg2 harg2 arg3 harg3 arg4 harg4 arg5 harg5 arg6 harg6 arg7 harg7 arg8 harg8 _ _ X2 X3 X4).2.2.2 E
    isplitl [H2 H3 H4 H6 H7 H8]
    · sl_close
    iintro ⟨H2, H3, H4, H6, H7, H8⟩
    iapply (runTail (F := F) 𝒱 c bd i arg2 harg2 arg3 harg3 arg4 harg4 arg5 harg5 arg6 harg6 arg7 harg7 arg8 harg8).2 E
    isplitl [H5 H7 H8]
    · sl_close
    iintro ⟨H5, H7, H8⟩
    iapply Hk
    isplitl [H2 H3 H4 H6 H7 H8]
    · iexists _, _, _
      sl_close
    iexact H5

end Cert.KernelIdeal.Attn

end
-- ==== Proof.Attn.Tiles.lean ====
module

public import proofs.«01_k».proof.Proof.Attn.Trips
public import proofs.«01_k».proof.Proof.Attn.Body
public import Idealize.ShloMosaic.Lib.Pipeline.ValueKit.Tiles

/-! What the attention kernel's stages leave, tile by tile. -/

@[expose] public section

set_option maxRecDepth 65536
set_option maxHeartbeats 4000000

noncomputable section

namespace Cert.KernelIdeal.Attn

open Idealize.ShloMosaic Idealize.ShloMosaic.TcCoe Idealize.ShloMosaic.Tactic
open Idealize.SL Idealize.SL.RA Idealize.SL.BI
open Cert.KernelIdeal Cert.KernelIdeal.Gen

variable {F : FTy → Type} [FloatOps F] [Named F]

/-- Distinct heads' rows of the accumulator are disjoint. -/
theorem accR_disj (n n' : Fin 8) (h : n ≠ n') : Disjoint (accR n).set (accR n').set := by
  rw [Finset.disjoint_left]
  intro x h1 h2
  rw [Rect.mem_set_unit] at h1 h2
  have a := h1 0; have b := h2 0
  simp at a b
  exact h (Fin.ext (by omega))

/-- Distinct heads' rows are disjoint. -/
theorem rowR_disj (n n' : Fin 8) (h : n ≠ n') : Disjoint (rowR n).set (rowR n').set := by
  rw [Finset.disjoint_left]
  intro x h1 h2
  rw [Rect.mem_set_unit] at h1 h2
  have a := h1 0; have b := h2 0
  simp at a b
  exact h (Fin.ext (by omega))

/-- A tile of a buffer that disjoint pieces were written to reads the piece written there. -/
theorem readAt_pieces {s : Shape} {e : EltTy} {κ : Kind} {sp : Space} (v : View sig κ sp s e) (f : BufTy.Contents (Elt F) v.ty) {N : ℕ} (R : Fin N → Rect s) (P : (k : Fin N) → (R k).shape.Idx → Elt F e)
    (hd : ∀ k k', k ≠ k' → Disjoint (R k).set (R k').set) (n : Fin N) :
    View.readAt (Elt F) v (R n).toLoadRect (v.writes (Elt F) f (List.ofFn fun k : Fin N => (⟨R k, P k⟩ : View.Piece (Elt F) s e))) = P n := by
  funext x
  rw [View.readAt_eq_ld]
  show v.read (Elt F) _ ((R n).emb x) = _
  rw [View.read_writes_apply_eq_canon]
  · exact View.canon_ofFn_emb_of_disjoint R P hd n x
  · exact ⟨⟨R n, P n⟩, List.mem_ofFn.mpr ⟨n, rfl⟩, (R n).idx_mem x⟩

/-- Head `n`'s rows of the accumulator after the eight pieces. -/
theorem accAt_writes (arg8 : Memref sig .tc .vmem S512x512 .f32) (f : BufTy.Contents (Elt F) arg8.view.ty) (P : Fin 8 → FVec F S64x512 .f32) (n : Fin 8) :
    accAt arg8 (arg8.view.writes (Elt F) f (accL P)) n = P n := by
  have h := readAt_pieces arg8.view f (fun k : Fin 8 => accR k.rev) (fun k => P k.rev) (fun k k' hk => accR_disj _ _ fun h => hk (Fin.rev_injective h)) n.rev
  rw [Fin.rev_rev] at h
  exact h

/-- Head `n`'s row after the eight pieces. -/
theorem rowAt_writes (arg7 : Memref sig .tc .vmem S8x512 .f32) (f : BufTy.Contents (Elt F) arg7.view.ty) (P : Fin 8 → FVec F S1x512 .f32) (n : Fin 8) :
    rowAt arg7 (arg7.view.writes (Elt F) f (rowL P)) n = P n := by
  have h := readAt_pieces arg7.view f (fun k : Fin 8 => rowR k.rev) (fun k => P k.rev) (fun k k' hk => rowR_disj _ _ fun h => hk (Fin.rev_injective h)) n.rev
  rw [Fin.rev_rev] at h
  exact h

/-- The block the body stores, from the heads' rows. -/
theorem tail_eq (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (f7 : BufTy.Contents (Elt F) arg7.view.ty) (f8 : BufTy.Contents (Elt F) arg8.view.ty) :
    (runTail (F := F) 𝒱 c bd i arg2 harg2 arg3 harg3 arg4 harg4 arg5 harg5 arg6 harg6 arg7 harg7 arg8 harg8).1 f7 f8
      = [⟨Rect.unit (s := S1x512x512) ![0, 0, 0] ![1, 512, 512] inb_S1x512x512_S1x512x512_0_0_0, k0_pay1 (k0_pay365 (accAt arg8 f8 0) (rowAt arg7 f7 0)) (k0_pay365 (accAt arg8 f8 1) (rowAt arg7 f7 1)) (k0_pay365 (accAt arg8 f8 2) (rowAt arg7 f7 2)) (k0_pay365 (accAt arg8 f8 3) (rowAt arg7 f7 3)) (k0_pay365 (accAt arg8 f8 4) (rowAt arg7 f7 4)) (k0_pay365 (accAt arg8 f8 5) (rowAt arg7 f7 5)) (accAt arg8 f8 6) (rowAt arg7 f7 6) (accAt arg8 f8 7) (rowAt arg7 f7 7)⟩] := by
  unfold runTail
  dsimp only
  sl_unfold_words
  rfl

/-! ### Tiles by number -/

/-- Head `n`'s keys of tile `j`. -/
def kTile (arg3 : Memref sig .tc .vmem S1x8x8192x128 .bf16) (X3 : BufTy.Contents (Elt F) arg3.view.ty) (j : ℕ) (n : Fin 8) : Vec F S1x1x512x128 .bf16 :=
  kT arg3 X3 (w := 512 * (j % 16)) (by omega) n

/-- Head `n`'s values of tile `j`. -/
def vTile (arg4 : Memref sig .tc .vmem S1x8x16x64x512 .bf16) (X4 : BufTy.Contents (Elt F) arg4.view.ty) (j : ℕ) (n : Fin 8) : Vec F S1x1x1x64x512 .bf16 :=
  vT arg4 X4 (w := j % 16) (by omega) n

/-- Head `n`'s scores against tile `j`. -/
def scT (arg2 : Memref sig .tc .vmem S1x8x128x512 .bf16) (arg3 : Memref sig .tc .vmem S1x8x8192x128 .bf16) (X2 : BufTy.Contents (Elt F) arg2.view.ty) (X3 : BufTy.Contents (Elt F) arg3.view.ty) (j : ℕ) (n : Fin 8) : FVec F S512x512 .f32 :=
  k0_pay292 (kTile arg3 X3 j n) (qT arg2 X2 n)

/-- The keys read at the offset of tile `j` are tile `j` of the keys. -/
theorem kT_eq (arg3 : Memref sig .tc .vmem S1x8x8192x128 .bf16) (X3 : BufTy.Contents (Elt F) arg3.view.ty) {w j : ℕ} (hw : w + 512 ≤ 8192) (hj : j < 16) (e : w = 512 * j) (n : Fin 8) :
    kT arg3 X3 hw n = kTile arg3 X3 j n := by
  have : w = 512 * (j % 16) := by rw [e, Nat.mod_eq_of_lt hj]
  subst this; rfl

/-- The values read at index `j` are tile `j` of the values. -/
theorem vT_eq (arg4 : Memref sig .tc .vmem S1x8x16x64x512 .bf16) (X4 : BufTy.Contents (Elt F) arg4.view.ty) {w j : ℕ} (hw : w < 16) (hj : j < 16) (e : w = j) (n : Fin 8) :
    vT arg4 X4 hw n = vTile arg4 X4 j n := by
  have : w = j % 16 := by rw [e, Nat.mod_eq_of_lt hj]
  subst this; rfl

/-- The diagonal tile's key offset. -/
theorem kW_eq : ∀ i : grid0.Coords, kW i = 512 * (i 1).val := by decide +kernel
/-- The diagonal tile's number. -/
theorem vW_eq : ∀ i : grid0.Coords, vW i = (i 1).val := by decide +kernel
/-- The loop without the running maximum goes over the tiles before the diagonal. -/
theorem trips1 : ∀ i : grid0.Coords, (k0_t1_loop i).trips = (i 1).val := by decide +kernel
/-- The loop with the running maximum goes over the tiles before the diagonal. -/
theorem trips3 : ∀ i : grid0.Coords, (k0_t3_loop i).trips = (i 1).val := by decide +kernel
/-- The remainder loop makes no trip. -/
theorem trips2 : ∀ i : grid0.Coords, (k0_t2_loop i).trips = 0 := by decide +kernel
/-- The remainder loop makes no trip. -/
theorem trips4 : ∀ i : grid0.Coords, (k0_t4_loop i).trips = 0 := by decide +kernel

/-- The key offset of a loop's trip is 512 times the trip's number. -/
theorem kWt_eq {n : ℕ} (k : Fin n) (h : k.val < 16) : kWt k = 512 * k.val := by
  have : ∀ j : Fin 16, BitVec.toNat (Scalar.indexCast (Scalar.muli (Scf.iv 0#32 1#32 j.val) 512#32) : BitVec 32) = 512 * j.val := by decide +kernel
  exact this ⟨k.val, h⟩

/-- The value index of a loop's trip is the trip's number. -/
theorem vWt_eq {n : ℕ} (k : Fin n) (h : k.val < 16) : vWt k = k.val := by
  have : ∀ j : Fin 16, BitVec.toNat (Scalar.indexCast (Scf.iv 0#32 1#32 j.val) : BitVec 32) = j.val := by decide +kernel
  exact this ⟨k.val, h⟩

/-- A grid point's second coordinate is one of the sixteen tiles. -/
theorem coord_lt (i : grid0.Coords) : (i 1).val < 16 := (i 1).isLt

/-- The denominators after `k` tiles, without the running maximum. -/
def safeDenN (s : ℕ → FVec F S512x512 .f32) (l : Vec F S1x512 .f32) : ℕ → Vec F S1x512 .f32
  | 0 => l
  | k + 1 => safeDen (s k) (safeDenN s l k)

/-- The accumulator's rows after `k` tiles, without the running maximum. -/
def safeAccN (s : ℕ → FVec F S512x512 .f32) (v : ℕ → Vec F S1x1x1x64x512 .bf16) (a : Vec F S64x512 .f32) : ℕ → Vec F S64x512 .f32
  | 0 => a
  | k + 1 => safeAcc (s k) (v k) (safeAccN s v a k)

/-- The running maximum after `k` tiles. -/
def onlMaxN (s : ℕ → FVec F S512x512 .f32) (m : Vec F S1x512 .f32) : ℕ → Vec F S1x512 .f32
  | 0 => m
  | k + 1 => onlMax (s k) (onlMaxN s m k)

/-- The denominators after `k` tiles, with the running maximum. -/
def onlDenN (s : ℕ → FVec F S512x512 .f32) (m l : Vec F S1x512 .f32) : ℕ → Vec F S1x512 .f32
  | 0 => l
  | k + 1 => onlDen (s k) (onlMaxN s m k) (onlDenN s m l k)

/-- The accumulator's rows after `k` tiles, with the running maximum. -/
def onlAccN (s : ℕ → FVec F S512x512 .f32) (m : Vec F S1x512 .f32) (v : ℕ → Vec F S1x1x1x64x512 .bf16) (a : Vec F S64x512 .f32) : ℕ → Vec F S64x512 .f32
  | 0 => a
  | k + 1 => onlAcc (s k) (onlMaxN s m k) (v k) (onlAccN s m v a k)

/-- The loop without the running maximum, head by head. -/
theorem loop1 (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (arg1 : BitVec 32) (X2 : BufTy.Contents (Elt F) arg2.view.ty) (X3 : BufTy.Contents (Elt F) arg3.view.ty) (X4 : BufTy.Contents (Elt F) arg4.view.ty) (f7 : BufTy.Contents (Elt F) arg7.view.ty) (f8 : BufTy.Contents (Elt F) arg8.view.ty) (n : Fin 8) : ∀ k : ℕ, k ≤ (k0_t1_loop i).trips →
    rowAt arg7 (arg7.view.writes (Elt F) f7 (pb_k0_t1 (F := F) 𝒱 c bd i arg2 harg2 arg3 harg3 arg4 harg4 arg5 harg5 arg6 harg6 arg7 harg7 arg8 harg8 arg1 1#1 X2 X3 X4 f7 f8 k).1) n = safeDenN (fun j => scT arg2 arg3 X2 X3 j n) (rowAt arg7 f7 n) k
    ∧ accAt arg8 (arg8.view.writes (Elt F) f8 (pb_k0_t1 (F := F) 𝒱 c bd i arg2 harg2 arg3 harg3 arg4 harg4 arg5 harg5 arg6 harg6 arg7 harg7 arg8 harg8 arg1 1#1 X2 X3 X4 f7 f8 k).2) n = safeAccN (fun j => scT arg2 arg3 X2 X3 j n) (fun j => vTile arg4 X4 j n) (accAt arg8 f8 n) k
  | 0, _ => ⟨rfl, rfl⟩
  | k + 1, hk => by
    obtain ⟨h1, h2⟩ := loop1 𝒱 c bd i arg2 harg2 arg3 harg3 arg4 harg4 arg5 harg5 arg6 harg6 arg7 harg7 arg8 harg8 arg1 X2 X3 X4 f7 f8 n k (by omega)
    have hk' : k < (k0_t1_loop i).trips := by omega
    have hk16 : k < 16 := by have := trips1 i; have := coord_lt i; omega
    have ek := kWt_eq (⟨k, hk'⟩ : Fin (k0_t1_loop i).trips) hk16
    have ev := vWt_eq (⟨k, hk'⟩ : Fin (k0_t1_loop i).trips) hk16
    have bk : kWt (⟨k, hk'⟩ : Fin (k0_t1_loop i).trips) + 512 ≤ 8192 := by rw [ek]; simp only; omega
    have bv : vWt (⟨k, hk'⟩ : Fin (k0_t1_loop i).trips) < 16 := by rw [ev]; exact hk16
    have e := pb_k0_t1_succ (F := F) 𝒱 c bd i arg2 harg2 arg3 harg3 arg4 harg4 arg5 harg5 arg6 harg6 arg7 harg7 arg8 harg8 arg1 1#1 X2 X3 X4 f7 f8 ⟨k, hk'⟩
    constructor
    · rw [e]; dsimp only
      rw [View.writes_append, trip1_den (F := F) (hk := bk) (hv := bv) (f6 := arg6.view.junk), rowAt_writes, h1, kT_eq arg3 X3 bk hk16 ek]; rfl
    · rw [e]; dsimp only
      rw [View.writes_append, trip1_acc (F := F) (hk := bk) (hv := bv) (f6 := arg6.view.junk), accAt_writes, h2, kT_eq arg3 X3 bk hk16 ek, vT_eq arg4 X4 bv hk16 ev]; rfl

/-- The loop with the running maximum, head by head. -/
theorem loop3 (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (arg1 : BitVec 32) (X2 : BufTy.Contents (Elt F) arg2.view.ty) (X3 : BufTy.Contents (Elt F) arg3.view.ty) (X4 : BufTy.Contents (Elt F) arg4.view.ty) (f6 : BufTy.Contents (Elt F) arg6.view.ty) (f7 : BufTy.Contents (Elt F) arg7.view.ty) (f8 : BufTy.Contents (Elt F) arg8.view.ty) (n : Fin 8) : ∀ k : ℕ, k ≤ (k0_t3_loop i).trips →
    rowAt arg6 (arg6.view.writes (Elt F) f6 (pb_k0_t3 (F := F) 𝒱 c bd i arg2 harg2 arg3 harg3 arg4 harg4 arg5 harg5 arg6 harg6 arg7 harg7 arg8 harg8 arg1 X2 X3 X4 f6 f7 f8 k).1) n = onlMaxN (fun j => scT arg2 arg3 X2 X3 j n) (rowAt arg6 f6 n) k
    ∧ rowAt arg7 (arg7.view.writes (Elt F) f7 (pb_k0_t3 (F := F) 𝒱 c bd i arg2 harg2 arg3 harg3 arg4 harg4 arg5 harg5 arg6 harg6 arg7 harg7 arg8 harg8 arg1 X2 X3 X4 f6 f7 f8 k).2.1) n = onlDenN (fun j => scT arg2 arg3 X2 X3 j n) (rowAt arg6 f6 n) (rowAt arg7 f7 n) k
    ∧ accAt arg8 (arg8.view.writes (Elt F) f8 (pb_k0_t3 (F := F) 𝒱 c bd i arg2 harg2 arg3 harg3 arg4 harg4 arg5 harg5 arg6 harg6 arg7 harg7 arg8 harg8 arg1 X2 X3 X4 f6 f7 f8 k).2.2) n = onlAccN (fun j => scT arg2 arg3 X2 X3 j n) (rowAt arg6 f6 n) (fun j => vTile arg4 X4 j n) (accAt arg8 f8 n) k
  | 0, _ => ⟨rfl, rfl, rfl⟩
  | k + 1, hk => by
    obtain ⟨h0, h1, h2⟩ := loop3 𝒱 c bd i arg2 harg2 arg3 harg3 arg4 harg4 arg5 harg5 arg6 harg6 arg7 harg7 arg8 harg8 arg1 X2 X3 X4 f6 f7 f8 n k (by omega)
    have hk' : k < (k0_t3_loop i).trips := by omega
    have hk16 : k < 16 := by have := trips3 i; have := coord_lt i; omega
    have ek := kWt_eq (⟨k, hk'⟩ : Fin (k0_t3_loop i).trips) hk16
    have ev := vWt_eq (⟨k, hk'⟩ : Fin (k0_t3_loop i).trips) hk16
    have bk : kWt (⟨k, hk'⟩ : Fin (k0_t3_loop i).trips) + 512 ≤ 8192 := by rw [ek]; simp only; omega
    have bv : vWt (⟨k, hk'⟩ : Fin (k0_t3_loop i).trips) < 16 := by rw [ev]; exact hk16
    have e := pb_k0_t3_succ (F := F) 𝒱 c bd i arg2 harg2 arg3 harg3 arg4 harg4 arg5 harg5 arg6 harg6 arg7 harg7 arg8 harg8 arg1 X2 X3 X4 f6 f7 f8 ⟨k, hk'⟩
    refine ⟨?_, ?_, ?_⟩
    · rw [e]; dsimp only
      rw [View.writes_append, trip3_max (F := F) (hk := bk) (hv := bv), rowAt_writes, h0, kT_eq arg3 X3 bk hk16 ek]; rfl
    · rw [e]; dsimp only
      rw [View.writes_append, trip3_den (F := F) (hk := bk) (hv := bv), rowAt_writes, h0, h1, kT_eq arg3 X3 bk hk16 ek]; rfl
    · rw [e]; dsimp only
      rw [View.writes_append, trip3_acc (F := F) (hk := bk) (hv := bv), accAt_writes, h0, h2, kT_eq arg3 X3 bk hk16 ek, vT_eq arg4 X4 bv hk16 ev]; rfl

end Cert.KernelIdeal.Attn
end
-- ==== Proof.Attn.OutRead.lean ====
module

public import proofs.«01_k».proof.Proof.Attn.Trips
public import proofs.«01_k».proof.Proof.Attn.Body
public import proofs.«01_k».proof.Proof.Attn.Tiles
public import Idealize.ShloMosaic.Lib.Pipeline.ValueKit.Tiles

/-! What the attention kernel's body leaves in its output's block, by its stages. -/

@[expose] public section

set_option maxRecDepth 65536
set_option maxHeartbeats 4000000

noncomputable section

namespace Cert.KernelIdeal.Attn

open Idealize.ShloMosaic Idealize.ShloMosaic.TcCoe Idealize.ShloMosaic.Tactic
open Idealize.SL Idealize.SL.RA Idealize.SL.BI
open Cert.KernelIdeal Cert.KernelIdeal.Gen

variable {F : FTy → Type} [FloatOps F] [Named F]

/-- The diagonal tile of keys lies within the sequence. -/
theorem kW_le (i : grid0.Coords) : kW i + 512 ≤ 8192 := by rw [kW_eq]; have := coord_lt i; omega
/-- The diagonal tile of values is one of the sixteen. -/
theorem vW_lt (i : grid0.Coords) : vW i < 16 := by rw [vW_eq]; exact coord_lt i

/-- Writing one whole block leaves it, whatever was there. -/
theorem readAt_whole {s : Shape} {e : EltTy} {κ : Kind} {sp : Space} (v : View sig κ sp s e) (f : BufTy.Contents (Elt F) v.ty) {off : Fin s.rank → ℕ} (h : off = fun _ => 0) (inb : ∀ d, off d + s.size d ≤ s.size d) (w : s.Idx → Elt F e) :
    v.read (Elt F) (v.writes (Elt F) f [⟨Rect.unit off s.size inb, w⟩]) = w := by
  rw [View.read_writes_eq_canon _ _ _ (fun y => ⟨_, List.mem_singleton.mpr rfl, View.mem_set_unit_zero h inb y⟩)]
  exact View.canon_unit_zero h inb w

/-- A head's row, once the whole buffer has been written, is that row of what was written. -/
theorem rowAt_reset (arg : Memref sig .tc .vmem S8x512 .f32) (f : BufTy.Contents (Elt F) arg.view.ty) (w : Vec F S8x512 .f32) (n : Fin 8) :
    rowAt arg (arg.view.writes (Elt F) f [⟨Rect.unit (s := S8x512) ![0, 0] ![8, 512] inb_S8x512_S8x512_0_0, w⟩]) n = fun x => w ((rowR n).idx x) := by
  unfold rowAt
  rw [View.readAt_eq_ld, readAt_whole arg.view f (by funext d; fin_cases d <;> rfl)]

/-- A head's rows of the accumulator, once the whole buffer has been written, are those rows of what was written. -/
theorem accAt_reset (arg : Memref sig .tc .vmem S512x512 .f32) (f : BufTy.Contents (Elt F) arg.view.ty) (w : Vec F S512x512 .f32) (n : Fin 8) :
    accAt arg (arg.view.writes (Elt F) f [⟨Rect.unit (s := S512x512) ![0, 0] ![512, 512] inb_S512x512_S512x512_0_0, w⟩]) n = fun x => w ((accR n).idx x) := by
  unfold accAt
  rw [View.readAt_eq_ld, readAt_whole arg.view f (by funext d; fin_cases d <;> rfl)]

/-- The word the body compares with is the tile's number. -/
theorem runA_arg (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (X2 : BufTy.Contents (Elt F) arg2.view.ty) (X3 : BufTy.Contents (Elt F) arg3.view.ty) (X4 : BufTy.Contents (Elt F) arg4.view.ty) : (runA (F := F) 𝒱 c bd i arg2 harg2 arg3 harg3 arg4 harg4 arg5 harg5 arg6 harg6 arg7 harg7 arg8 harg8 X2 X3 X4).2.2.1 = BitVec.ofNat 32 (i 1).val := by
  unfold runA; rfl

/-- The branch without the running maximum leaves the loop's contents: its remainder makes no trip. -/
theorem runSafe_eq (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (arg1 : BitVec 32) (X2 : BufTy.Contents (Elt F) arg2.view.ty) (X3 : BufTy.Contents (Elt F) arg3.view.ty) (X4 : BufTy.Contents (Elt F) arg4.view.ty) (f7 : BufTy.Contents (Elt F) arg7.view.ty) (f8 : BufTy.Contents (Elt F) arg8.view.ty) :
    (runSafe (F := F) 𝒱 c bd i arg2 harg2 arg3 harg3 arg4 harg4 arg5 harg5 arg6 harg6 arg7 harg7 arg8 harg8 arg1 X2 X3 X4).1 f7 f8 = arg7.view.writes (Elt F) f7 (pb_k0_t1 (F := F) 𝒱 c bd i arg2 harg2 arg3 harg3 arg4 harg4 arg5 harg5 arg6 harg6 arg7 harg7 arg8 harg8 arg1 1#1 X2 X3 X4 f7 f8 (k0_t1_loop i).trips).1
    ∧ (runSafe (F := F) 𝒱 c bd i arg2 harg2 arg3 harg3 arg4 harg4 arg5 harg5 arg6 harg6 arg7 harg7 arg8 harg8 arg1 X2 X3 X4).2.1 f7 f8 = arg8.view.writes (Elt F) f8 (pb_k0_t1 (F := F) 𝒱 c bd i arg2 harg2 arg3 harg3 arg4 harg4 arg5 harg5 arg6 harg6 arg7 harg7 arg8 harg8 arg1 1#1 X2 X3 X4 f7 f8 (k0_t1_loop i).trips).2 := by
  have e : ∃ u, (runSafe (F := F) 𝒱 c bd i arg2 harg2 arg3 harg3 arg4 harg4 arg5 harg5 arg6 harg6 arg7 harg7 arg8 harg8 arg1 X2 X3 X4).1 f7 f8 = arg7.view.writes (Elt F) f7 ((pb_k0_t2 (F := F) 𝒱 c bd i arg2 harg2 arg3 harg3 arg4 harg4 arg5 harg5 arg6 harg6 arg7 harg7 arg8 harg8 arg1 1#1 u X2 X3 X4 (arg7.view.writes (Elt F) f7 (pb_k0_t1 (F := F) 𝒱 c bd i arg2 harg2 arg3 harg3 arg4 harg4 arg5 harg5 arg6 harg6 arg7 harg7 arg8 harg8 arg1 1#1 X2 X3 X4 f7 f8 (k0_t1_loop i).trips).1) (arg8.view.writes (Elt F) f8 (pb_k0_t1 (F := F) 𝒱 c bd i arg2 harg2 arg3 harg3 arg4 harg4 arg5 harg5 arg6 harg6 arg7 harg7 arg8 harg8 arg1 1#1 X2 X3 X4 f7 f8 (k0_t1_loop i).trips).2) (k0_t2_loop i).trips).1 ++ (pb_k0_t1 (F := F) 𝒱 c bd i arg2 harg2 arg3 harg3 arg4 harg4 arg5 harg5 arg6 harg6 arg7 harg7 arg8 harg8 arg1 1#1 X2 X3 X4 f7 f8 (k0_t1_loop i).trips).1)
      ∧ (runSafe (F := F) 𝒱 c bd i arg2 harg2 arg3 harg3 arg4 harg4 arg5 harg5 arg6 harg6 arg7 harg7 arg8 harg8 arg1 X2 X3 X4).2.1 f7 f8 = arg8.view.writes (Elt F) f8 ((pb_k0_t2 (F := F) 𝒱 c bd i arg2 harg2 arg3 harg3 arg4 harg4 arg5 harg5 arg6 harg6 arg7 harg7 arg8 harg8 arg1 1#1 u X2 X3 X4 (arg7.view.writes (Elt F) f7 (pb_k0_t1 (F := F) 𝒱 c bd i arg2 harg2 arg3 harg3 arg4 harg4 arg5 harg5 arg6 harg6 arg7 harg7 arg8 harg8 arg1 1#1 X2 X3 X4 f7 f8 (k0_t1_loop i).trips).1) (arg8.view.writes (Elt F) f8 (pb_k0_t1 (F := F) 𝒱 c bd i arg2 harg2 arg3 harg3 arg4 harg4 arg5 harg5 arg6 harg6 arg7 harg7 arg8 harg8 arg1 1#1 X2 X3 X4 f7 f8 (k0_t1_loop i).trips).2) (k0_t2_loop i).trips).2 ++ (pb_k0_t1 (F := F) 𝒱 c bd i arg2 harg2 arg3 harg3 arg4 harg4 arg5 harg5 arg6 harg6 arg7 harg7 arg8 harg8 arg1 1#1 X2 X3 X4 f7 f8 (k0_t1_loop i).trips).2) := by
    unfold runSafe; exact ⟨_, rfl, rfl⟩
  obtain ⟨u, e1, e2⟩ := e
  rw [e1, e2, trips2]
  exact ⟨rfl, rfl⟩

/-- Writing an empty list after two lists writes the two. -/
theorem writes_nil_append {s : Shape} {e : EltTy} {κ : Kind} {sp : Space} (v : View sig κ sp s e) (f : BufTy.Contents (Elt F) v.ty) {L0 : List (View.Piece (Elt F) s e)} (h : L0 = []) (L L' : List (View.Piece (Elt F) s e)) :
    v.writes (Elt F) f (L0 ++ (L ++ L')) = v.writes (Elt F) (v.writes (Elt F) f L') L := by
  subst h; rw [List.nil_append]; exact View.writes_append (v := v) (f := f) _ _

/-- The loop of the other branch, from the reset scratch. -/
theorem runLoop_eq (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (arg1 : BitVec 32) (X2 : BufTy.Contents (Elt F) arg2.view.ty) (X3 : BufTy.Contents (Elt F) arg3.view.ty) (X4 : BufTy.Contents (Elt F) arg4.view.ty) (hk : kW i + 512 ≤ 8192) :
    (runLoop (F := F) 𝒱 c bd i arg2 harg2 arg3 harg3 arg4 harg4 arg5 harg5 arg6 harg6 arg7 harg7 arg8 harg8 arg1 X2 X3 X4).1 = arg6.view.writes (Elt F) (arg6.view.writes (Elt F) arg6.view.junk [⟨Rect.unit (s := S8x512) ![0, 0] ![8, 512] inb_S8x512_S8x512_0_0, k0_pay188⟩]) (pb_k0_t3 (F := F) 𝒱 c bd i arg2 harg2 arg3 harg3 arg4 harg4 arg5 harg5 arg6 harg6 arg7 harg7 arg8 harg8 arg1 X2 X3 X4 (arg6.view.writes (Elt F) arg6.view.junk [⟨Rect.unit (s := S8x512) ![0, 0] ![8, 512] inb_S8x512_S8x512_0_0, k0_pay188⟩]) (arg7.view.writes (Elt F) arg7.view.junk [⟨Rect.unit (s := S8x512) ![0, 0] ![8, 512] inb_S8x512_S8x512_0_0, k0_pay189⟩]) (arg8.view.writes (Elt F) arg8.view.junk [⟨Rect.unit (s := S512x512) ![0, 0] ![512, 512] inb_S512x512_S512x512_0_0, k0_pay190⟩]) (k0_t3_loop i).trips).1
    ∧ (runLoop (F := F) 𝒱 c bd i arg2 harg2 arg3 harg3 arg4 harg4 arg5 harg5 arg6 harg6 arg7 harg7 arg8 harg8 arg1 X2 X3 X4).2.1 = arg7.view.writes (Elt F) (arg7.view.writes (Elt F) arg7.view.junk [⟨Rect.unit (s := S8x512) ![0, 0] ![8, 512] inb_S8x512_S8x512_0_0, k0_pay189⟩]) (pb_k0_t3 (F := F) 𝒱 c bd i arg2 harg2 arg3 harg3 arg4 harg4 arg5 harg5 arg6 harg6 arg7 harg7 arg8 harg8 arg1 X2 X3 X4 (arg6.view.writes (Elt F) arg6.view.junk [⟨Rect.unit (s := S8x512) ![0, 0] ![8, 512] inb_S8x512_S8x512_0_0, k0_pay188⟩]) (arg7.view.writes (Elt F) arg7.view.junk [⟨Rect.unit (s := S8x512) ![0, 0] ![8, 512] inb_S8x512_S8x512_0_0, k0_pay189⟩]) (arg8.view.writes (Elt F) arg8.view.junk [⟨Rect.unit (s := S512x512) ![0, 0] ![512, 512] inb_S512x512_S512x512_0_0, k0_pay190⟩]) (k0_t3_loop i).trips).2.1
    ∧ (runLoop (F := F) 𝒱 c bd i arg2 harg2 arg3 harg3 arg4 harg4 arg5 harg5 arg6 harg6 arg7 harg7 arg8 harg8 arg1 X2 X3 X4).2.2.1 = arg8.view.writes (Elt F) (arg8.view.writes (Elt F) arg8.view.junk [⟨Rect.unit (s := S512x512) ![0, 0] ![512, 512] inb_S512x512_S512x512_0_0, k0_pay190⟩]) (pb_k0_t3 (F := F) 𝒱 c bd i arg2 harg2 arg3 harg3 arg4 harg4 arg5 harg5 arg6 harg6 arg7 harg7 arg8 harg8 arg1 X2 X3 X4 (arg6.view.writes (Elt F) arg6.view.junk [⟨Rect.unit (s := S8x512) ![0, 0] ![8, 512] inb_S8x512_S8x512_0_0, k0_pay188⟩]) (arg7.view.writes (Elt F) arg7.view.junk [⟨Rect.unit (s := S8x512) ![0, 0] ![8, 512] inb_S8x512_S8x512_0_0, k0_pay189⟩]) (arg8.view.writes (Elt F) arg8.view.junk [⟨Rect.unit (s := S512x512) ![0, 0] ![512, 512] inb_S512x512_S512x512_0_0, k0_pay190⟩]) (k0_t3_loop i).trips).2.2
    ∧ (runLoop (F := F) 𝒱 c bd i arg2 harg2 arg3 harg3 arg4 harg4 arg5 harg5 arg6 harg6 arg7 harg7 arg8 harg8 arg1 X2 X3 X4).2.2.2.1 = k0_pay292 (kT arg3 X3 hk 0) (qT arg2 X2 0) := by
  have e : ∃ u g6 g7 g8, (runLoop (F := F) 𝒱 c bd i arg2 harg2 arg3 harg3 arg4 harg4 arg5 harg5 arg6 harg6 arg7 harg7 arg8 harg8 arg1 X2 X3 X4).1 = arg6.view.writes (Elt F) arg6.view.junk ((pb_k0_t4 (F := F) 𝒱 c bd i arg2 harg2 arg3 harg3 arg4 harg4 arg5 harg5 arg6 harg6 arg7 harg7 arg8 harg8 arg1 u X2 X3 X4 g6 g7 g8 (k0_t4_loop i).trips).1 ++ ((pb_k0_t3 (F := F) 𝒱 c bd i arg2 harg2 arg3 harg3 arg4 harg4 arg5 harg5 arg6 harg6 arg7 harg7 arg8 harg8 arg1 X2 X3 X4 (arg6.view.writes (Elt F) arg6.view.junk [⟨Rect.unit (s := S8x512) ![0, 0] ![8, 512] inb_S8x512_S8x512_0_0, k0_pay188⟩]) (arg7.view.writes (Elt F) arg7.view.junk [⟨Rect.unit (s := S8x512) ![0, 0] ![8, 512] inb_S8x512_S8x512_0_0, k0_pay189⟩]) (arg8.view.writes (Elt F) arg8.view.junk [⟨Rect.unit (s := S512x512) ![0, 0] ![512, 512] inb_S512x512_S512x512_0_0, k0_pay190⟩]) (k0_t3_loop i).trips).1 ++ [⟨Rect.unit (s := S8x512) ![0, 0] ![8, 512] inb_S8x512_S8x512_0_0, k0_pay188⟩]))
      ∧ (runLoop (F := F) 𝒱 c bd i arg2 harg2 arg3 harg3 arg4 harg4 arg5 harg5 arg6 harg6 arg7 harg7 arg8 harg8 arg1 X2 X3 X4).2.1 = arg7.view.writes (Elt F) arg7.view.junk ((pb_k0_t4 (F := F) 𝒱 c bd i arg2 harg2 arg3 harg3 arg4 harg4 arg5 harg5 arg6 harg6 arg7 harg7 arg8 harg8 arg1 u X2 X3 X4 g6 g7 g8 (k0_t4_loop i).trips).2.1 ++ ((pb_k0_t3 (F := F) 𝒱 c bd i arg2 harg2 arg3 harg3 arg4 harg4 arg5 harg5 arg6 harg6 arg7 harg7 arg8 harg8 arg1 X2 X3 X4 (arg6.view.writes (Elt F) arg6.view.junk [⟨Rect.unit (s := S8x512) ![0, 0] ![8, 512] inb_S8x512_S8x512_0_0, k0_pay188⟩]) (arg7.view.writes (Elt F) arg7.view.junk [⟨Rect.unit (s := S8x512) ![0, 0] ![8, 512] inb_S8x512_S8x512_0_0, k0_pay189⟩]) (arg8.view.writes (Elt F) arg8.view.junk [⟨Rect.unit (s := S512x512) ![0, 0] ![512, 512] inb_S512x512_S512x512_0_0, k0_pay190⟩]) (k0_t3_loop i).trips).2.1 ++ [⟨Rect.unit (s := S8x512) ![0, 0] ![8, 512] inb_S8x512_S8x512_0_0, k0_pay189⟩]))
      ∧ (runLoop (F := F) 𝒱 c bd i arg2 harg2 arg3 harg3 arg4 harg4 arg5 harg5 arg6 harg6 arg7 harg7 arg8 harg8 arg1 X2 X3 X4).2.2.1 = arg8.view.writes (Elt F) arg8.view.junk ((pb_k0_t4 (F := F) 𝒱 c bd i arg2 harg2 arg3 harg3 arg4 harg4 arg5 harg5 arg6 harg6 arg7 harg7 arg8 harg8 arg1 u X2 X3 X4 g6 g7 g8 (k0_t4_loop i).trips).2.2 ++ ((pb_k0_t3 (F := F) 𝒱 c bd i arg2 harg2 arg3 harg3 arg4 harg4 arg5 harg5 arg6 harg6 arg7 harg7 arg8 harg8 arg1 X2 X3 X4 (arg6.view.writes (Elt F) arg6.view.junk [⟨Rect.unit (s := S8x512) ![0, 0] ![8, 512] inb_S8x512_S8x512_0_0, k0_pay188⟩]) (arg7.view.writes (Elt F) arg7.view.junk [⟨Rect.unit (s := S8x512) ![0, 0] ![8, 512] inb_S8x512_S8x512_0_0, k0_pay189⟩]) (arg8.view.writes (Elt F) arg8.view.junk [⟨Rect.unit (s := S512x512) ![0, 0] ![512, 512] inb_S512x512_S512x512_0_0, k0_pay190⟩]) (k0_t3_loop i).trips).2.2 ++ [⟨Rect.unit (s := S512x512) ![0, 0] ![512, 512] inb_S512x512_S512x512_0_0, k0_pay190⟩]))
      ∧ (runLoop (F := F) 𝒱 c bd i arg2 harg2 arg3 harg3 arg4 harg4 arg5 harg5 arg6 harg6 arg7 harg7 arg8 harg8 arg1 X2 X3 X4).2.2.2.1 = k0_pay292 (kT arg3 X3 hk 0) (qT arg2 X2 0) := by
    unfold runLoop; exact ⟨_, _, _, _, rfl, rfl, rfl, rfl⟩
  obtain ⟨u, g6, g7, g8, e1, e2, e3, e4⟩ := e
  rw [trips4] at e1 e2 e3
  exact ⟨e1.trans (writes_nil_append _ _ rfl _ _), e2.trans (writes_nil_append _ _ rfl _ _), e3.trans (writes_nil_append _ _ rfl _ _), e4⟩

/-- A head's output rows, from its accumulator rows and denominators. -/
def quot (a : Fin 8 → Vec F S64x512 .f32) (l : Fin 8 → Vec F S1x512 .f32) : FVec F S1x512x512 .bf16 :=
  k0_pay1 (k0_pay365 (a 0) (l 0)) (k0_pay365 (a 1) (l 1)) (k0_pay365 (a 2) (l 2)) (k0_pay365 (a 3) (l 3)) (k0_pay365 (a 4) (l 4)) (k0_pay365 (a 5) (l 5)) (a 6) (l 6) (a 7) (l 7)

/-- Head `n`'s denominators on the branch without the running maximum. -/
def safeL (i : grid0.Coords) (s : ℕ → FVec F S512x512 .f32) : Vec F S1x512 .f32 :=
  safeDenN s (k0_pay301 (s (i 1).val) msk k0_pay298) (i 1).val
/-- Head `n`'s accumulator rows on the branch without the running maximum. -/
def safeA (i : grid0.Coords) (s : ℕ → FVec F S512x512 .f32) (v : ℕ → Vec F S1x1x1x64x512 .bf16) : Vec F S64x512 .f32 :=
  safeAccN s v (k0_pay300 (s (i 1).val) msk k0_pay298 (v (i 1).val)) (i 1).val
/-- The reset values of head `n`'s scratch. -/
def m0 (n : Fin 8) : Vec F S1x512 .f32 := fun x => k0_pay188 ((rowR n).idx x)
def l0 (n : Fin 8) : Vec F S1x512 .f32 := fun x => k0_pay189 ((rowR n).idx x)
def a0 (n : Fin 8) : Vec F S64x512 .f32 := fun x => k0_pay190 ((accR n).idx x)
/-- Head `n`'s denominators on the branch with the running maximum. -/
def onlL (i : grid0.Coords) (n : Fin 8) (s : ℕ → FVec F S512x512 .f32) : Vec F S1x512 .f32 :=
  onlDen (dSc (s (i 1).val)) (onlMaxN s (m0 n) (i 1).val) (onlDenN s (m0 n) (l0 n) (i 1).val)
/-- Head `n`'s accumulator rows on the branch with the running maximum. -/
def onlA (i : grid0.Coords) (n : Fin 8) (s : ℕ → FVec F S512x512 .f32) (v : ℕ → Vec F S1x1x1x64x512 .bf16) : Vec F S64x512 .f32 :=
  onlAcc (dSc (s (i 1).val)) (onlMaxN s (m0 n) (i 1).val) (v (i 1).val) (onlAccN s (m0 n) v (a0 n) (i 1).val)

/-- One whole block read back. -/
theorem read_tail (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (f5 : BufTy.Contents (Elt F) arg5.view.ty) (f7 : BufTy.Contents (Elt F) arg7.view.ty) (f8 : BufTy.Contents (Elt F) arg8.view.ty) (a : Fin 8 → Vec F S64x512 .f32) (l : Fin 8 → Vec F S1x512 .f32)
    (ha : ∀ n, accAt arg8 f8 n = a n) (hl : ∀ n, rowAt arg7 f7 n = l n) :
    arg5.view.read (Elt F) (arg5.view.writes (Elt F) f5 ((runTail (F := F) 𝒱 c bd i arg2 harg2 arg3 harg3 arg4 harg4 arg5 harg5 arg6 harg6 arg7 harg7 arg8 harg8).1 f7 f8)) = quot a l := by
  rw [tail_eq]
  refine (readAt_whole arg5.view f5 (by funext d; fin_cases d <;> rfl) _ _).trans ?_
  simp only [ha, hl]; rfl

/-- The diagonal step's accumulator rows, by the words the loop leaves. -/
theorem diag_acc (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (X2 : BufTy.Contents (Elt F) arg2.view.ty) (X3 : BufTy.Contents (Elt F) arg3.view.ty) (X4 : BufTy.Contents (Elt F) arg4.view.ty) (f6 : BufTy.Contents (Elt F) arg6.view.ty) (f7 : BufTy.Contents (Elt F) arg7.view.ty) (f8 : BufTy.Contents (Elt F) arg8.view.ty) (hk : kW i + 512 ≤ 8192) (hv : vW i < 16) {w : BitVec 32} (hw : w = BitVec.ofNat 32 (i 1).val) {s : FVec F S512x512 .f32} (hs : s = k0_pay292 (kT arg3 X3 hk 0) (qT arg2 X2 0)) :
    (runDiag (F := F) 𝒱 c bd i arg2 harg2 arg3 harg3 arg4 harg4 arg5 harg5 arg6 harg6 arg7 harg7 arg8 harg8 w s X2 X3 X4).2.2.1 f6 f7 f8
      = accL fun n => onlAcc (dSc (k0_pay292 (kT arg3 X3 hk n) (qT arg2 X2 n))) (rowAt arg6 f6 n) (vT arg4 X4 hv n) (accAt arg8 f8 n) := by
  subst hw hs; exact runDiag_acc (F := F) (arg1 := 0) (hk := hk) (hv := hv) ..

/-- The diagonal step's denominators, by the words the loop leaves. -/
theorem diag_den (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (X2 : BufTy.Contents (Elt F) arg2.view.ty) (X3 : BufTy.Contents (Elt F) arg3.view.ty) (X4 : BufTy.Contents (Elt F) arg4.view.ty) (f6 : BufTy.Contents (Elt F) arg6.view.ty) (f7 : BufTy.Contents (Elt F) arg7.view.ty) (f8 : BufTy.Contents (Elt F) arg8.view.ty) (hk : kW i + 512 ≤ 8192) (hv : vW i < 16) {w : BitVec 32} (hw : w = BitVec.ofNat 32 (i 1).val) {s : FVec F S512x512 .f32} (hs : s = k0_pay292 (kT arg3 X3 hk 0) (qT arg2 X2 0)) :
    (runDiag (F := F) 𝒱 c bd i arg2 harg2 arg3 harg3 arg4 harg4 arg5 harg5 arg6 harg6 arg7 harg7 arg8 harg8 w s X2 X3 X4).2.1 f6 f7 f8
      = rowL fun n => onlDen (dSc (k0_pay292 (kT arg3 X3 hk n) (qT arg2 X2 n))) (rowAt arg6 f6 n) (rowAt arg7 f7 n) := by
  subst hw hs; exact runDiag_den (F := F) (arg1 := 0) (hk := hk) (hv := hv) ..

/-- What the body leaves in its output's block: one of two formulas over the blocks it reads. -/
theorem out5_read (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (X2 : BufTy.Contents (Elt F) arg2.view.ty) (X3 : BufTy.Contents (Elt F) arg3.view.ty) (X4 : BufTy.Contents (Elt F) arg4.view.ty) (f5 : BufTy.Contents (Elt F) arg5.view.ty) (f7 : BufTy.Contents (Elt F) arg7.view.ty) (f8 : BufTy.Contents (Elt F) arg8.view.ty) :
    arg5.view.read (Elt F) (out5 (F := F) 𝒱 c bd i arg2 harg2 arg3 harg3 arg4 harg4 arg5 harg5 arg6 harg6 arg7 harg7 arg8 harg8 X2 X3 X4 f5 f7 f8) = quot (fun n => safeA i (fun j => scT arg2 arg3 X2 X3 j n) (fun j => vTile arg4 X4 j n)) (fun n => safeL i (fun j => scT arg2 arg3 X2 X3 j n))
    ∨ arg5.view.read (Elt F) (out5 (F := F) 𝒱 c bd i arg2 harg2 arg3 harg3 arg4 harg4 arg5 harg5 arg6 harg6 arg7 harg7 arg8 harg8 X2 X3 X4 f5 f7 f8) = quot (fun n => onlA i n (fun j => scT arg2 arg3 X2 X3 j n) (fun j => vTile arg4 X4 j n)) (fun n => onlL i n (fun j => scT arg2 arg3 X2 X3 j n)) := by
  have hk := kW_le i
  have hv := vW_lt i
  have h16 := coord_lt i
  have ek : ∀ n, k0_pay292 (kT arg3 X3 hk n) (qT arg2 X2 n) = scT arg2 arg3 X2 X3 (i 1).val n := fun n => by rw [kT_eq arg3 X3 hk h16 (kW_eq i)]; rfl
  have ev : ∀ n, vT arg4 X4 hv n = vTile arg4 X4 (i 1).val n := fun n => vT_eq arg4 X4 hv h16 (vW_eq i) n
  unfold out5
  dsimp only
  split
  · left
    refine read_tail (F := F) 𝒱 c bd i arg2 harg2 arg3 harg3 arg4 harg4 arg5 harg5 arg6 harg6 arg7 harg7 arg8 harg8 f5 _ _ _ _ (fun n => ?_) (fun n => ?_)
    · rw [(runSafe_eq (F := F) 𝒱 c bd i arg2 harg2 arg3 harg3 arg4 harg4 arg5 harg5 arg6 harg6 arg7 harg7 arg8 harg8 _ X2 X3 X4 _ _).2, (loop1 (F := F) 𝒱 c bd i arg2 harg2 arg3 harg3 arg4 harg4 arg5 harg5 arg6 harg6 arg7 harg7 arg8 harg8 _ X2 X3 X4 _ _ n _ le_rfl).2, trips1,
        runA_acc (F := F) (hk := hk) (hv := hv), accAt_writes, ek, ev]; rfl
    · rw [(runSafe_eq (F := F) 𝒱 c bd i arg2 harg2 arg3 harg3 arg4 harg4 arg5 harg5 arg6 harg6 arg7 harg7 arg8 harg8 _ X2 X3 X4 _ _).1, (loop1 (F := F) 𝒱 c bd i arg2 harg2 arg3 harg3 arg4 harg4 arg5 harg5 arg6 harg6 arg7 harg7 arg8 harg8 _ X2 X3 X4 _ _ n _ le_rfl).1, trips1,
        runA_den (F := F) (hk := hk), rowAt_writes, ek]; rfl
  · right
    obtain ⟨e1, e2, e3, e4⟩ := runLoop_eq (F := F) 𝒱 c bd i arg2 harg2 arg3 harg3 arg4 harg4 arg5 harg5 arg6 harg6 arg7 harg7 arg8 harg8 (runA (F := F) 𝒱 c bd i arg2 harg2 arg3 harg3 arg4 harg4 arg5 harg5 arg6 harg6 arg7 harg7 arg8 harg8 X2 X3 X4).2.2.1 X2 X3 X4 hk
    have l3 := fun f6 f7 f8 n => loop3 (F := F) 𝒱 c bd i arg2 harg2 arg3 harg3 arg4 harg4 arg5 harg5 arg6 harg6 arg7 harg7 arg8 harg8 (runA (F := F) 𝒱 c bd i arg2 harg2 arg3 harg3 arg4 harg4 arg5 harg5 arg6 harg6 arg7 harg7 arg8 harg8 X2 X3 X4).2.2.1 X2 X3 X4 f6 f7 f8 n _ le_rfl
    have hw := runA_arg (F := F) 𝒱 c bd i arg2 harg2 arg3 harg3 arg4 harg4 arg5 harg5 arg6 harg6 arg7 harg7 arg8 harg8 X2 X3 X4
    have r6 : ∀ n, rowAt arg6 (runLoop (F := F) 𝒱 c bd i arg2 harg2 arg3 harg3 arg4 harg4 arg5 harg5 arg6 harg6 arg7 harg7 arg8 harg8 (runA (F := F) 𝒱 c bd i arg2 harg2 arg3 harg3 arg4 harg4 arg5 harg5 arg6 harg6 arg7 harg7 arg8 harg8 X2 X3 X4).2.2.1 X2 X3 X4).1 n = onlMaxN (fun j => scT arg2 arg3 X2 X3 j n) (m0 n) (i 1).val := fun n => by
      rw [e1, (l3 _ _ _ n).1, trips3, rowAt_reset]; rfl
    have r7 : ∀ n, rowAt arg7 (runLoop (F := F) 𝒱 c bd i arg2 harg2 arg3 harg3 arg4 harg4 arg5 harg5 arg6 harg6 arg7 harg7 arg8 harg8 (runA (F := F) 𝒱 c bd i arg2 harg2 arg3 harg3 arg4 harg4 arg5 harg5 arg6 harg6 arg7 harg7 arg8 harg8 X2 X3 X4).2.2.1 X2 X3 X4).2.1 n = onlDenN (fun j => scT arg2 arg3 X2 X3 j n) (m0 n) (l0 n) (i 1).val := fun n => by
      rw [e2, (l3 _ _ _ n).2.1, trips3, rowAt_reset, rowAt_reset]; rfl
    have r8 : ∀ n, accAt arg8 (runLoop (F := F) 𝒱 c bd i arg2 harg2 arg3 harg3 arg4 harg4 arg5 harg5 arg6 harg6 arg7 harg7 arg8 harg8 (runA (F := F) 𝒱 c bd i arg2 harg2 arg3 harg3 arg4 harg4 arg5 harg5 arg6 harg6 arg7 harg7 arg8 harg8 X2 X3 X4).2.2.1 X2 X3 X4).2.2.1 n = onlAccN (fun j => scT arg2 arg3 X2 X3 j n) (m0 n) (fun j => vTile arg4 X4 j n) (a0 n) (i 1).val := fun n => by
      rw [e3, (l3 _ _ _ n).2.2, trips3, rowAt_reset, accAt_reset]; rfl
    refine read_tail (F := F) 𝒱 c bd i arg2 harg2 arg3 harg3 arg4 harg4 arg5 harg5 arg6 harg6 arg7 harg7 arg8 harg8 f5 _ _ _ _ (fun n => ?_) (fun n => ?_)
    · rw [diag_acc (F := F) 𝒱 c bd i arg2 harg2 arg3 harg3 arg4 harg4 arg5 harg5 arg6 harg6 arg7 harg7 arg8 harg8 X2 X3 X4 _ _ _ hk hv hw e4, accAt_writes, ek, ev, r6, r8]; rfl
    · rw [diag_den (F := F) 𝒱 c bd i arg2 harg2 arg3 harg3 arg4 harg4 arg5 harg5 arg6 harg6 arg7 harg7 arg8 harg8 X2 X3 X4 _ _ _ hk hv hw e4, rowAt_writes, ek, r6, r7]; rfl

end Cert.KernelIdeal.Attn
end
-- ==== Proof.AttnIdeal.Sums.lean ====
module

public import Idealize.ShloMosaic.PureOps.Ideal.Laws

/-! Weighted sums over the extended reals: a common positive factor, and a running maximum. -/

@[expose] public section

noncomputable section

namespace Cert.Sums

open Idealize.ShloMosaic

/-- A positive real factor goes into a sum. -/
theorem mul_sum_pos {ι : Type} (c : ℝ) (hc : 0 < c) (s : Finset ι) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha, ← ih]
    exact EReal.left_distrib_of_nonneg_of_ne_top (by exact_mod_cast hc.le) (EReal.coe_ne_top c) _ _

/-- A nonnegative real factor goes into a sum of two. -/
theorem mul_add_pos (c : ℝ) (hc : 0 < c) (x y : EReal) : (c : EReal) * (x + y) = c * x + c * y :=
  EReal.left_distrib_of_nonneg_of_ne_top (by exact_mod_cast hc.le) (EReal.coe_ne_top c) _ _

/-- A power of two of a real is a positive real. -/
theorem exp2_coe (r : ℝ) : Ideal.exp2 (r : EReal) = ((2 : ℝ) ^ r : ℝ) := rfl

/-- Two to minus infinity is zero. -/
theorem exp2_bot : Ideal.exp2 ⊥ = 0 := rfl

/-- A quotient by a positive real is unchanged by a positive real factor on both sides. -/
theorem div_scale (c : ℝ) (hc : 0 < c) (a : EReal) (s : ℝ) (hs : 0 < s) :
    Ideal.div (c * a) (c * s) = Ideal.div a s := by
  have h1 : (c : EReal) * (s : EReal) = ((c * s : ℝ) : EReal) := by push_cast; rfl
  have n1 : ((c * s : ℝ) : EReal) ≠ 0 := by exact_mod_cast (mul_pos hc hs).ne'
  have n2 : (s : EReal) ≠ 0 := by exact_mod_cast hs.ne'
  unfold Ideal.div
  rw [h1, if_neg n1, if_neg n2, ← EReal.coe_inv, ← EReal.coe_inv, mul_comm (c : EReal) a, mul_assoc, ← EReal.coe_mul]
  congr 2
  field_simp

/-- A score: a real or the mask. -/
def Score (x : EReal) : Prop := x = ⊥ ∨ ∃ r : ℝ, x = r

/-- The power of two of a score less a real is the power's multiple. -/
theorem exp2_sub (x : EReal) (hx : Score x) (μ : ℝ) :
    Ideal.exp2 (x - (μ : EReal)) = ((2 : ℝ) ^ (-μ) : ℝ) * Ideal.exp2 x := by
  rcases hx with rfl | ⟨r, rfl⟩
  · rw [exp2_bot, EReal.bot_sub]; simp [exp2_bot]
  · rw [← EReal.coe_sub, exp2_coe, exp2_coe, ← EReal.coe_mul, ← Real.rpow_add two_pos]
    congr 2; ring

/-- The state of a running softmax: nothing yet, or a real maximum with the sums scaled by it. -/
def State (M l a S A : EReal) : Prop :=
  (M = ⊥ ∧ l = 0 ∧ a = 0 ∧ S = 0 ∧ A = 0) ∨ ∃ μ : ℝ, M = μ ∧ l = ((2 : ℝ) ^ (-μ) : ℝ) * S ∧ a = ((2 : ℝ) ^ (-μ) : ℝ) * A

/-- The greatest of scores, one of which is a real, is a real. -/
theorem fold_max_real {ι : Type} [Fintype ι] (f : ι → EReal) (hf : ∀ k, Score (f k)) (h1 : ∃ k, ∃ r : ℝ, f k = r) (M : EReal) (hM : Score M) :
    ∃ μ : ℝ, max M (Finset.univ.fold max ⊥ f) = μ := by
  have hle : ∀ s : Finset ι, Score (s.fold max ⊥ f) := by
    classical
    intro s
    induction s using Finset.induction_on with
    | empty => left; simp
    | insert a s ha ih =>
      rw [Finset.fold_insert ha]
      rcases max_choice (f a) (s.fold max ⊥ f) with h | h <;> rw [h]
      · exact hf a
      · exact ih
  obtain ⟨k, r, hr⟩ := h1
  have hge : (r : EReal) ≤ Finset.univ.fold max ⊥ f := by
    rw [← hr, Finset.le_fold_max]; right; exact ⟨k, Finset.mem_univ k, le_rfl⟩
  rcases hle Finset.univ with h | ⟨ρ, h⟩
  · rw [h] at hge; exact absurd hge (by simp)
  · rcases hM with hm | ⟨m, hm⟩
    · exact ⟨ρ, by rw [h, hm]; simp⟩
    · rw [h, hm]
      rcases max_choice (m : EReal) (ρ : EReal) with h' | h' <;> rw [h']
      exacts [⟨m, rfl⟩, ⟨ρ, rfl⟩]

/-- One tile of a running softmax. -/
theorem State.step {ι : Type} [Fintype ι] {M l a S A : EReal} (h : State M l a S A) (f v : ι → EReal)
    (hf : ∀ k, Score (f k)) (h1 : ∃ k, ∃ r : ℝ, f k = r) :
    State (max M (Finset.univ.fold max ⊥ f))
      (Ideal.exp2 (M - max M (Finset.univ.fold max ⊥ f)) * l + ∑ k, Ideal.exp2 (f k - max M (Finset.univ.fold max ⊥ f)))
      (Ideal.exp2 (M - max M (Finset.univ.fold max ⊥ f)) * a + ∑ k, v k * Ideal.exp2 (f k - max M (Finset.univ.fold max ⊥ f)))
      (S + ∑ k, Ideal.exp2 (f k)) (A + ∑ k, v k * Ideal.exp2 (f k)) := by
  have hM : Score M := by
    rcases h with ⟨h, _⟩ | ⟨μ, h, _⟩
    exacts [Or.inl h, Or.inr ⟨μ, h⟩]
  obtain ⟨μ', hμ⟩ := fold_max_real f hf h1 M hM
  rw [hμ]
  have hp : (0 : ℝ) < (2 : ℝ) ^ (-μ') := Real.rpow_pos_of_pos two_pos _
  have t1 : ∑ k, Ideal.exp2 (f k - (μ' : EReal)) = (((2 : ℝ) ^ (-μ') : ℝ) : EReal) * ∑ k, Ideal.exp2 (f k) := by
    rw [mul_sum_pos _ hp]; exact Finset.sum_congr rfl fun k _ => exp2_sub _ (hf k) _
  have t2 : ∑ k, v k * Ideal.exp2 (f k - (μ' : EReal)) = (((2 : ℝ) ^ (-μ') : ℝ) : EReal) * ∑ k, v k * Ideal.exp2 (f k) := by
    rw [mul_sum_pos _ hp]; refine Finset.sum_congr rfl fun k _ => ?_
    rw [exp2_sub _ (hf k), ← mul_assoc, ← mul_assoc, mul_comm (v k)]
  right
  refine ⟨μ', rfl, ?_, ?_⟩
  · rw [t1, mul_add_pos _ hp]
    congr 1
    rcases h with ⟨rfl, rfl, rfl, rfl, rfl⟩ | ⟨μ, rfl, rfl, rfl⟩
    · simp
    · rw [← mul_assoc, exp2_sub _ (Or.inr ⟨μ, rfl⟩), exp2_coe]
      rw [mul_right_comm, ← EReal.coe_mul, ← Real.rpow_add two_pos, mul_right_comm, ← EReal.coe_mul, ← Real.rpow_add two_pos,
        add_neg_cancel_right]
  · rw [t2, mul_add_pos _ hp]
    congr 1
    rcases h with ⟨rfl, rfl, rfl, rfl, rfl⟩ | ⟨μ, rfl, rfl, rfl⟩
    · simp
    · rw [← mul_assoc, exp2_sub _ (Or.inr ⟨μ, rfl⟩), exp2_coe]
      rw [mul_right_comm, ← EReal.coe_mul, ← Real.rpow_add two_pos, mul_right_comm, ← EReal.coe_mul, ← Real.rpow_add two_pos,
        add_neg_cancel_right]

/-- The quotient of a running softmax's sums is the plain sums' quotient. -/
theorem State.div {M l a S A : EReal} (h : State M l a S A) (s : ℝ) (hs : 0 < s) (e : S = s) : Ideal.div a l = Ideal.div A S := by
  subst e
  rcases h with ⟨_, _, _, h, _⟩ | ⟨μ, rfl, rfl, rfl⟩
  · exact absurd h (by exact_mod_cast hs.ne')
  · exact div_scale _ (Real.rpow_pos_of_pos two_pos _) _ _ hs

end Cert.Sums
end
-- ==== Proof.AttnIdeal.Cells.lean ====
module

public import proofs.«01_k».proof.Proof.Attn.OutRead
public import proofs.«01_k».proof.Proof.AttnIdeal.Sums
public import Idealize.ShloMosaic.Lib.Pointwise
public import Idealize.ShloMosaic.Lib.IdealHost

/-! The attention kernel's stages at one element, over the extended reals. -/

@[expose] public section

set_option maxRecDepth 65536
set_option maxHeartbeats 4000000

noncomputable section

namespace Cert.KernelIdeal.Attn

open Idealize.ShloMosaic Idealize.ShloMosaic.TcCoe Idealize.ShloMosaic.Tactic
open Idealize.SL Idealize.SL.RA Idealize.SL.BI
open Cert.KernelIdeal Cert.KernelIdeal.Gen

/-- The masked score. -/
abbrev mask (b : Prop) [Decidable b] (x : EReal) : EReal := if b then x else ⊥

/-- The values times the weights: a sum over the tile's keys. -/
theorem pvT_at (p : FVec Ideal S512x512 .f32) (v : Vec Ideal S1x1x1x64x512 .bf16) (d : Fin 64) (q : Fin 512) :
    pvT (F := Ideal) p v (ix2 d q) = ∑ k : Fin 512, v (ix5 0 0 0 d k) * p (ix2 k q) := by
  pointwise [pvT]

/-- The sum of the weights over the tile's keys. -/
theorem psT_at (p : FVec Ideal S512x512 .f32) (q : Fin 512) :
    psT (F := Ideal) p (ix2 0 q) = ∑ k : Fin 512, p (ix2 k q) := by
  pointwise [psT]

/-- The literal of minus infinity. -/
theorem ofBits_bot : Ideal.ofBits .f32 4286578688#32 = ⊥ := by decide +kernel

/-- The new maximum: the greater of the old one and the tile's scores. -/
theorem newMax_at (s : FVec Ideal S512x512 .f32) (m : Vec Ideal S1x512 .f32) (q : Fin 512) :
    newMax (F := Ideal) s m (ix2 0 q) = max (m (ix2 0 q)) (Finset.univ.fold max ⊥ fun k : Fin 512 => s (ix2 k q)) := by
  pointwise [newMax]
  rw [ofBits_bot]

/-- The stored maximum is the new maximum. -/
theorem onlMax_at (s : FVec Ideal S512x512 .f32) (m : Vec Ideal S1x512 .f32) (q : Fin 512) :
    onlMax (F := Ideal) s m (ix2 0 q) = max (m (ix2 0 q)) (Finset.univ.fold max ⊥ fun k : Fin 512 => s (ix2 k q)) := by
  rw [← newMax_at]; pointwise [onlMax]

/-- A weight against the running maximum: two to the score less the new maximum. -/
theorem onlP_at (s : FVec Ideal S512x512 .f32) (m : Vec Ideal S1x512 .f32) (k q : Fin 512) :
    onlP (F := Ideal) s m (ix2 k q) = Ideal.exp2 (s (ix2 k q) - newMax (F := Ideal) s m (ix2 0 q)) := by
  pointwise [onlP]; rfl

/-- The accumulator after a tile, with the running maximum. -/
theorem onlAcc_at (s : FVec Ideal S512x512 .f32) (m : Vec Ideal S1x512 .f32) (v : Vec Ideal S1x1x1x64x512 .bf16) (a : Vec Ideal S64x512 .f32) (d : Fin 64) (q : Fin 512) :
    onlAcc (F := Ideal) s m v a (ix2 d q) = Ideal.exp2 (m (ix2 0 q) - newMax (F := Ideal) s m (ix2 0 q)) * a (ix2 d q)
      + ∑ k : Fin 512, v (ix5 0 0 0 d k) * Ideal.exp2 (s (ix2 k q) - newMax (F := Ideal) s m (ix2 0 q)) := by
  simp only [← onlP_at]; rw [← pvT_at]; pointwise [onlAcc]; rfl

/-- The denominator after a tile, with the running maximum. -/
theorem onlDen_at (s : FVec Ideal S512x512 .f32) (m : Vec Ideal S1x512 .f32) (l : Vec Ideal S1x512 .f32) (q : Fin 512) :
    onlDen (F := Ideal) s m l (ix2 0 q) = Ideal.exp2 (m (ix2 0 q) - newMax (F := Ideal) s m (ix2 0 q)) * l (ix2 0 q)
      + ∑ k : Fin 512, Ideal.exp2 (s (ix2 k q) - newMax (F := Ideal) s m (ix2 0 q)) := by
  simp only [← onlP_at]; rw [← psT_at]; pointwise [onlDen]; rfl

/-- The accumulator after a tile, without the running maximum. -/
theorem safeAcc_at (s : FVec Ideal S512x512 .f32) (v : Vec Ideal S1x1x1x64x512 .bf16) (a : Vec Ideal S64x512 .f32) (d : Fin 64) (q : Fin 512) :
    safeAcc (F := Ideal) s v a (ix2 d q) = a (ix2 d q) + ∑ k : Fin 512, v (ix5 0 0 0 d k) * Ideal.exp2 (s (ix2 k q)) := by
  pointwise [safeAcc, pvT]; rfl

/-- The denominator after a tile, without the running maximum. -/
theorem safeDen_at (s : FVec Ideal S512x512 .f32) (l : Vec Ideal S1x512 .f32) (q : Fin 512) :
    safeDen (F := Ideal) s l (ix2 0 q) = l (ix2 0 q) + ∑ k : Fin 512, Ideal.exp2 (s (ix2 k q)) := by
  pointwise [safeDen, psT]; rfl

/-- The floor division by sixty-four that the mask is made with, on positions within a tile. -/
theorem fdiv_at : ∀ k : Fin 512,
    Scalar.select
        (IntOp.andi
          (IntOp.cmpi CmpIPredicate.ne
            (IntOp.subi (BitVec.setWidth 32 (IntOp.cmpi CmpIPredicate.sgt (BitVec.ofNat 32 k.val) 0#32))
              (BitVec.setWidth 32 (IntOp.cmpi CmpIPredicate.slt (BitVec.ofNat 32 k.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 k.val) 64#32) 0#32))
        (IntOp.subi (IntOp.divsi ArithUnit.vector (BitVec.ofNat 32 k.val) 64#32) 1#32)
        (IntOp.divsi ArithUnit.vector (BitVec.ofNat 32 k.val) 64#32) = BitVec.ofNat 32 (k.val / 64) := by decide +kernel

/-- The signed comparison of two stretches of sixty-four is the comparison of their numbers. -/
theorem sle_at : ∀ a b : Fin 8, IntOp.cmpi CmpIPredicate.sle (BitVec.ofNat 32 a.val) (BitVec.ofNat 32 b.val) = if a.val ≤ b.val then 1#1 else 0#1 := by decide +kernel

/-- The diagonal tile's mask: a key is seen from its own stretch of sixty-four on. -/
theorem msk_at (k q : Fin 512) : msk (ix2 k q) = if k.val / 64 ≤ q.val / 64 then 1#1 else 0#1 := by
  pointwise [msk, k0_pay297, k0_pay295, k0_pay296]
  rw [fdiv_at, fdiv_at]
  exact sle_at ⟨k.val / 64, by omega⟩ ⟨q.val / 64, by omega⟩

/-- The mask's filling is minus infinity. -/
theorem pay298_at (x : S512x512.Idx) : k0_pay298 (F := Ideal) x = ⊥ := rfl
/-- The first maximum is minus infinity. -/
theorem m0_at (n : Fin 8) (x : S1x512.Idx) : m0 (F := Ideal) n x = ⊥ := by
  unfold m0; generalize (rowR n).idx x = y; pointwise [k0_pay188]; rfl
/-- The first denominator is zero. -/
theorem l0_at (n : Fin 8) (x : S1x512.Idx) : l0 (F := Ideal) n x = 0 := by
  unfold l0; generalize (rowR n).idx x = y; pointwise [k0_pay189]
/-- The first accumulator is zero. -/
theorem a0_at (n : Fin 8) (x : S64x512.Idx) : a0 (F := Ideal) n x = 0 := by
  unfold a0; generalize (accR n).idx x = y; pointwise [k0_pay190]

/-- The diagonal tile's masked score. -/
theorem dSc_at (s : FVec Ideal S512x512 .f32) (k q : Fin 512) : dSc (F := Ideal) s (ix2 k q) = mask (k.val / 64 ≤ q.val / 64) (s (ix2 k q)) := by
  pointwise [dSc]
  rw [msk_at, pay298_at]
  by_cases h : k.val / 64 ≤ q.val / 64 <;> simp [h, Scalar.select, mask]

/-- The diagonal tile's weighted values. -/
theorem pay300_at (s : FVec Ideal S512x512 .f32) (v : Vec Ideal S1x1x1x64x512 .bf16) (d : Fin 64) (q : Fin 512) :
    k0_pay300 (F := Ideal) s msk k0_pay298 v (ix2 d q) = ∑ k : Fin 512, v (ix5 0 0 0 d k) * Ideal.exp2 (dSc (F := Ideal) s (ix2 k q)) := by
  pointwise [k0_pay300, k0_pay299, dSc]; rfl

/-- The diagonal tile's denominator. -/
theorem pay301_at (s : FVec Ideal S512x512 .f32) (q : Fin 512) :
    k0_pay301 (F := Ideal) s msk k0_pay298 (ix2 0 q) = ∑ k : Fin 512, Ideal.exp2 (dSc (F := Ideal) s (ix2 k q)) := by
  pointwise [k0_pay301, k0_pay299, dSc]; rfl

/-- A score: the sum of the products of a key and a query. -/
theorem pay292_at (k : Vec Ideal S1x1x512x128 .bf16) (v : Vec Ideal S1x1x128x512 .bf16) (x q : Fin 512) :
    k0_pay292 (F := Ideal) k v (ix2 x q) = ∑ e : Fin 128, k (ix4 0 0 x e) * v (ix4 0 0 e q) := by
  pointwise [k0_pay292]

/-- A head's rows of the output. -/
theorem quot_at (a : Fin 8 → Vec Ideal S64x512 .f32) (l : Fin 8 → Vec Ideal S1x512 .f32) (q : Fin 512) (n : Fin 8) (d : Fin 64) (r : Fin 512) (hr : r.val = 64 * n.val + d.val) :
    quot (F := Ideal) a l (ix3 0 q r) = Ideal.div (a n (ix2 d q)) (l n (ix2 0 q)) := by
  pointwise [quot, k0_pay1, k0_pay365]
  have hd := d.isLt
  fin_cases n <;> simp only [Fin.reduceFinMk, Fin.zero_eta, Fin.mk_one, Fin.isValue] at hr ⊢ <;> split_ifs <;> first
    | (exfalso; simp at hr; omega)
    | (congr 3; apply Fin.ext; simp at hr ⊢; omega)

/-! ### The two branches at one element -/

section
open Cert.Sums
variable (s : ℕ → FVec Ideal S512x512 .f32) (v : ℕ → Vec Ideal S1x1x1x64x512 .bf16) (d : Fin 64) (q : Fin 512)

/-- One tile's denominator. -/
def tS (s : FVec Ideal S512x512 .f32) (q : Fin 512) : EReal := ∑ k : Fin 512, Ideal.exp2 (s (ix2 k q))
/-- One tile's weighted values. -/
def tA (s : FVec Ideal S512x512 .f32) (v : Vec Ideal S1x1x1x64x512 .bf16) (d : Fin 64) (q : Fin 512) : EReal := ∑ k : Fin 512, v (ix5 0 0 0 d k) * Ideal.exp2 (s (ix2 k q))

/-- The denominator after `k` tiles, without the running maximum: the first plus the tiles' own. -/
theorem safeDenN_at (l : Vec Ideal S1x512 .f32) : ∀ k, safeDenN (F := Ideal) s l k (ix2 0 q) = l (ix2 0 q) + ∑ j ∈ Finset.range k, tS (s j) q
  | 0 => by simp [safeDenN]
  | k + 1 => by rw [safeDenN, safeDen_at, safeDenN_at l k, Finset.sum_range_succ, add_assoc]; rfl

/-- The accumulator after `k` tiles, without the running maximum: the first plus the tiles' own. -/
theorem safeAccN_at (a : Vec Ideal S64x512 .f32) : ∀ k, safeAccN (F := Ideal) s v a k (ix2 d q) = a (ix2 d q) + ∑ j ∈ Finset.range k, tA (s j) (v j) d q
  | 0 => by simp [safeAccN]
  | k + 1 => by rw [safeAccN, safeAcc_at, safeAccN_at a k, Finset.sum_range_succ, add_assoc]; rfl

/-- All tiles' denominator. -/
def allS (t : ℕ) : EReal := tS (dSc (s t)) q + ∑ j ∈ Finset.range t, tS (s j) q
/-- All tiles' weighted values. -/
def allA (t : ℕ) : EReal := tA (dSc (s t)) (v t) d q + ∑ j ∈ Finset.range t, tA (s j) (v j) d q

/-- Without the running maximum, the body's denominator and accumulator are the sums over all the tiles. -/
theorem safe_at (i : grid0.Coords) : safeL (F := Ideal) i s (ix2 0 q) = allS s q (i 1).val ∧ safeA (F := Ideal) i s v (ix2 d q) = allA s v d q (i 1).val := by
  constructor
  · rw [safeL, safeDenN_at, pay301_at]; rfl
  · rw [safeA, safeAccN_at, pay300_at]; rfl

variable (hs : ∀ j k, ∃ r : ℝ, s j (ix2 k q) = r)
include hs

/-- With the running maximum, what is kept after `k` tiles is the plain sums over them, scaled by the maximum. -/
theorem onlN_state (n : Fin 8) : ∀ k, State (onlMaxN (F := Ideal) s (m0 n) k (ix2 0 q)) (onlDenN (F := Ideal) s (m0 n) (l0 n) k (ix2 0 q)) (onlAccN (F := Ideal) s (m0 n) v (a0 n) k (ix2 d q))
    (∑ j ∈ Finset.range k, tS (s j) q) (∑ j ∈ Finset.range k, tA (s j) (v j) d q)
  | 0 => by left; exact ⟨m0_at n _, l0_at n _, a0_at n _, rfl, rfl⟩
  | k + 1 => by
    have h := State.step (onlN_state n k) (fun x => s k (ix2 x q)) (fun x => v k (ix5 0 0 0 d x)) (fun x => Or.inr (hs k x)) ⟨0, hs k 0⟩
    rw [onlMaxN, onlDenN, onlAccN, onlMax_at, onlDen_at, onlAcc_at, newMax_at, Finset.sum_range_succ, Finset.sum_range_succ]
    exact h

/-- With the running maximum, the body's denominator and accumulator are the plain sums over all the tiles, scaled by some maximum. -/
theorem onl_state (i : grid0.Coords) (n : Fin 8) : ∃ M, State M (onlL (F := Ideal) i n s (ix2 0 q)) (onlA (F := Ideal) i n s v (ix2 d q)) (allS s q (i 1).val) (allA s v d q (i 1).val) := by
  have h := State.step (onlN_state s v d q hs n (i 1).val) (fun x => dSc (F := Ideal) (s (i 1).val) (ix2 x q)) (fun x => v (i 1).val (ix5 0 0 0 d x))
    (fun x => by rw [dSc_at]; unfold mask; split; exacts [Or.inr (hs _ x), Or.inl rfl])
    ⟨0, by rw [dSc_at]; simpa [mask] using hs _ 0⟩
  rw [onlL, onlA, onlDen_at, onlAcc_at, newMax_at, allS, allA, add_comm (tS _ _), add_comm (tA _ _ _ _)]
  exact ⟨_, h⟩

/-- A tile's denominator is a positive real where the scores are reals. -/
theorem tS_pos (j : ℕ) : ∃ r : ℝ, 0 < r ∧ tS (s j) q = r := by
  choose f hf using hs j
  refine ⟨∑ k, (2:ℝ) ^ f k, Finset.sum_pos (fun k _ => Real.rpow_pos_of_pos two_pos _) ⟨0, Finset.mem_univ _⟩, ?_⟩
  unfold tS; simp only [hf, exp2_coe]; exact (map_sum (⟨⟨Real.toEReal, rfl⟩, EReal.coe_add⟩ : ℝ →+ EReal) _ _).symm

end

end Cert.KernelIdeal.Attn
end
-- ==== Proof.AttnIdeal.Block.lean ====
module

public import proofs.«01_k».proof.Proof.AttnIdeal.Cells
public import Idealize.ShloMosaic.Lib.Claim

/-! The attention's result over the extended reals, and that one grid point computes its block of it. -/

@[expose] public section

set_option maxRecDepth 65536
set_option maxHeartbeats 4000000

noncomputable section

namespace Cert.KernelIdeal.Attn

open Idealize.ShloMosaic Idealize.ShloMosaic.TcCoe Idealize.ShloMosaic.Tactic
open Cert.KernelIdeal Cert.KernelIdeal.Gen

section
variable (Q : Vec Ideal S4x8x128x8192 .bf16) (K : Vec Ideal S4x8x8192x128 .bf16) (V : Vec Ideal S4x8x16x64x512 .bf16)

/-- A query's score against a key. -/
def scr (b : Fin 4) (n : Fin 8) (k q : Fin 8192) : EReal := ∑ e : Fin 128, K (ix4 b n k e) * Q (ix4 b n e q)
/-- A key's weight for a query: a power of two of the score, nothing for a key that is not seen. -/
def wgt (b : Fin 4) (n : Fin 8) (k q : Fin 8192) : EReal := Ideal.exp2 (mask (k.val / 64 ≤ q.val / 64) (scr Q K b n k q))
/-- The sum of a query's weights. -/
def den (b : Fin 4) (n : Fin 8) (q : Fin 8192) : EReal := ∑ k : Fin 8192, wgt Q K b n k q
/-- The sum of the values by a query's weights. -/
def num (b : Fin 4) (n : Fin 8) (d : Fin 64) (q : Fin 8192) : EReal :=
  ∑ k : Fin 8192, V (ix5 b n ⟨k.val / 512, by omega⟩ d ⟨k.val % 512, by omega⟩) * wgt Q K b n k q
/-- The attention's result. -/
def outG : Vec Ideal S4x8192x512 .bf16 := fun y =>
  Ideal.div (num Q K V (y 0) ⟨(y 2).val / 64, by have : (y 2).val < 512 := (y 2).isLt; omega⟩ ⟨(y 2).val % 64, by omega⟩ (y 1))
    (den Q K (y 0) ⟨(y 2).val / 64, by have : (y 2).val < 512 := (y 2).isLt; omega⟩ (y 1))

/-- The weighted sum depends only on the head and the column. -/
theorem num_congr {b : Fin 4} {n n' : Fin 8} {d d' : Fin 64} {q : Fin 8192} (h : n = n') (h' : d = d') : num Q K V b n d q = num Q K V b n' d' q := by
  subst h h'; rfl

/-- A sum of products of reals is a real. -/
theorem scr_real (hQ : ∀ y, ∃ r : ℝ, Q y = r) (hK : ∀ y, ∃ r : ℝ, K y = r) (b : Fin 4) (n : Fin 8) (k q : Fin 8192) : ∃ r : ℝ, scr Q K b n k q = r := by
  choose f hf using hQ
  choose g hg using hK
  refine ⟨∑ e : Fin 128, g (ix4 b n k e) * f (ix4 b n e q), ?_⟩
  unfold scr
  simp only [hf, hg, ← EReal.coe_mul]
  exact (map_sum (⟨⟨Real.toEReal, rfl⟩, EReal.coe_add⟩ : ℝ →+ EReal) _ _).symm

/-- The sum of a query's weights is a positive real. -/
theorem den_pos (hQ : ∀ y, ∃ r : ℝ, Q y = r) (hK : ∀ y, ∃ r : ℝ, K y = r) (b : Fin 4) (n : Fin 8) (q : Fin 8192) : ∃ r : ℝ, 0 < r ∧ den Q K b n q = r := by
  have hw : ∀ k, ∃ r : ℝ, 0 ≤ r ∧ wgt Q K b n k q = r ∧ (k = q → 0 < r) := fun k => by
    obtain ⟨r, hr⟩ := scr_real Q K hQ hK b n k q
    unfold wgt mask
    by_cases h : k.val / 64 ≤ q.val / 64
    · have := Real.rpow_pos_of_pos two_pos r
      exact ⟨(2:ℝ) ^ r, this.le, by rw [if_pos h, hr]; rfl, fun _ => this⟩
    · exact ⟨0, le_rfl, by rw [if_neg h]; rfl, fun e => absurd (by rw [e]) h⟩
  choose f h0 hf h1 using hw
  refine ⟨∑ k, f k, Finset.sum_pos' (fun k _ => h0 k) ⟨q, Finset.mem_univ _, h1 q rfl⟩, ?_⟩
  unfold den; simp only [hf]; exact (map_sum (⟨⟨Real.toEReal, rfl⟩, EReal.coe_add⟩ : ℝ →+ EReal) _ _).symm

/-- A sum over all keys, tile by tile. -/
theorem sum_tiles (f : Fin 8192 → EReal) : ∑ k, f k = ∑ j ∈ Finset.range 16, ∑ x : Fin 512, f ⟨512 * (j % 16) + x.val, by omega⟩ := by
  rw [Finset.sum_range, ← Fintype.sum_prod_type']
  refine (Fintype.sum_equiv (finProdFinEquiv (m := 16) (n := 512)) _ _ fun p => ?_).symm
  congr 1; apply Fin.ext
  have := p.1.isLt
  simp [finProdFinEquiv]; omega

/-- A sum over the tiles of which those past one are empty. -/
theorem sum_upto (G : ℕ → EReal) (T : ℕ) (hT : T < 16) (h0 : ∀ j, T < j → j < 16 → G j = 0) : ∑ j ∈ Finset.range 16, G j = G T + ∑ j ∈ Finset.range T, G j := by
  rw [add_comm, ← Finset.sum_range_succ]
  refine (Finset.sum_subset (fun j hj => ?_) fun j hj hj' => ?_).symm
  · simp only [Finset.mem_range] at *; omega
  · simp only [Finset.mem_range] at *; exact h0 j (by omega) hj

end

section
variable (Q : Vec Ideal S4x8x128x8192 .bf16) (K : Vec Ideal S4x8x8192x128 .bf16) (V : Vec Ideal S4x8x16x64x512 .bf16)
variable (s : ℕ → FVec Ideal S512x512 .f32) (v : ℕ → Vec Ideal S1x1x1x64x512 .bf16) (b : Fin 4) (n : Fin 8) (d : Fin 64) (T : ℕ) (hT : T < 16) (q : Fin 512)
variable (hs : ∀ j (k : Fin 512), s j (ix2 k q) = scr Q K b n ⟨512 * (j % 16) + k.val, by omega⟩ ⟨512 * T + q.val, by omega⟩)
variable (hv : ∀ j (k : Fin 512), v j (ix5 0 0 0 d k) = V (ix5 b n ⟨j % 16, by omega⟩ d k))

include hs in
/-- A weight of a tile before the diagonal. -/
theorem wgt_before (j : ℕ) (hj : j < T) (k : Fin 512) : wgt Q K b n ⟨512 * (j % 16) + k.val, by omega⟩ ⟨512 * T + q.val, by omega⟩ = Ideal.exp2 (s j (ix2 k q)) := by
  unfold wgt mask; rw [if_pos (by simp only; omega), hs]

include hs in
/-- A weight of the diagonal tile. -/
theorem wgt_diag (k : Fin 512) : wgt Q K b n ⟨512 * (T % 16) + k.val, by omega⟩ ⟨512 * T + q.val, by omega⟩ = Ideal.exp2 (dSc (F := Ideal) (s T) (ix2 k q)) := by
  rw [dSc_at, hs]; unfold wgt mask
  have : (512 * (T % 16) + k.val) / 64 ≤ (512 * T + q.val) / 64 ↔ k.val / 64 ≤ q.val / 64 := by omega
  simp only [this]

/-- A weight of a tile past the diagonal. -/
theorem wgt_past (j : ℕ) (hj : T < j) (hj' : j < 16) (k : Fin 512) : wgt Q K b n ⟨512 * (j % 16) + k.val, by omega⟩ ⟨512 * T + q.val, by omega⟩ = 0 := by
  unfold wgt mask; rw [if_neg (by simp only; omega)]; rfl

include hs in
/-- The denominators summed over the tiles up to the diagonal are the denominator over all the keys. -/
theorem allS_eq : allS s q T = den Q K b n ⟨512 * T + q.val, by omega⟩ := by
  unfold den
  rw [sum_tiles, sum_upto _ T hT (fun j h h' => Finset.sum_eq_zero fun k _ => wgt_past Q K b n T q j h h' k)]
  unfold allS tS
  congr 1
  · exact Finset.sum_congr rfl fun k _ => (wgt_diag Q K s b n T hT q hs k).symm
  · refine Finset.sum_congr rfl fun j hj => Finset.sum_congr rfl fun k _ => (wgt_before Q K s b n T hT q hs j (Finset.mem_range.mp hj) k).symm

include hs hv in
/-- The weighted values summed over the tiles up to the diagonal are the weighted sum over all the keys. -/
theorem allA_eq : allA s v d q T = num Q K V b n d ⟨512 * T + q.val, by omega⟩ := by
  unfold num
  rw [sum_tiles, sum_upto _ T hT (fun j h h' => Finset.sum_eq_zero fun k _ => by rw [wgt_past Q K b n T q j h h' k, mul_zero])]
  have e : ∀ j (k : Fin 512), V (ix5 b n ⟨(512 * (j % 16) + k.val) / 512, by omega⟩ d ⟨(512 * (j % 16) + k.val) % 512, by omega⟩) = v j (ix5 0 0 0 d k) := fun j k => by
    rw [hv]; congr 2
    · apply Fin.ext; simp only; omega
    · apply Fin.ext; simp only; omega
  unfold allA tA
  congr 1
  · exact Finset.sum_congr rfl fun k _ => by rw [wgt_diag Q K s b n T hT q hs k, e]
  · refine Finset.sum_congr rfl fun j hj => Finset.sum_congr rfl fun k _ => by rw [wgt_before Q K s b n T hT q hs j (Finset.mem_range.mp hj) k, e]

end

/-- A tile of keys, of a whole block. -/
theorem kTile_at (arg3 : Memref sig .tc .vmem S1x8x8192x128 .bf16) (harg3 : arg3.IsWhole) (x : Vec Ideal S1x8x8192x128 .bf16) (j : ℕ) (n : Fin 8) (k : Fin 512) (e : Fin 128) :
    kTile (F := Ideal) arg3 (harg3.unread x) j n (ix4 0 0 k e) = x (ix4 0 n ⟨512 * (j % 16) + k.val, by omega⟩ e) := by
  unfold kTile kT
  rw [View.readAt_eq_ld, harg3.read_unread]
  show x _ = x _
  congr 1; funext a; apply Fin.ext
  fin_cases a <;> simp [Rect.unit, ix4]

/-- A head's queries, of a whole block. -/
theorem qT_at (arg2 : Memref sig .tc .vmem S1x8x128x512 .bf16) (harg2 : arg2.IsWhole) (x : Vec Ideal S1x8x128x512 .bf16) (n : Fin 8) (e : Fin 128) (q : Fin 512) :
    qT (F := Ideal) arg2 (harg2.unread x) n (ix4 0 0 e q) = x (ix4 0 n e q) := by
  unfold qT
  rw [View.readAt_eq_ld, harg2.read_unread]
  show x _ = x _
  congr 1; funext a; apply Fin.ext
  fin_cases a <;> simp [Rect.unit, ix4]

/-- A tile of values, of a whole block. -/
theorem vTile_at (arg4 : Memref sig .tc .vmem S1x8x16x64x512 .bf16) (harg4 : arg4.IsWhole) (x : Vec Ideal S1x8x16x64x512 .bf16) (j : ℕ) (n : Fin 8) (d : Fin 64) (k : Fin 512) :
    vTile (F := Ideal) arg4 (harg4.unread x) j n (ix5 0 0 0 d k) = x (ix5 0 n ⟨j % 16, by omega⟩ d k) := by
  unfold vTile vT
  rw [View.readAt_eq_ld, harg4.read_unread]
  show x _ = x _
  congr 1; funext a; apply Fin.ext
  fin_cases a <;> simp [Rect.unit, ix5]

/-- One grid point's block of the result. -/
theorem block_at (Q : Vec Ideal S4x8x128x8192 .bf16) (K : Vec Ideal S4x8x8192x128 .bf16) (V : Vec Ideal S4x8x16x64x512 .bf16)
    (hQ : ∀ y, ∃ r : ℝ, Q y = r) (hK : ∀ y, ∃ r : ℝ, K y = r) (b : Fin 4)
    (𝒱 : Variants) (c : Dev nD) (bd : Option 𝒱.V) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole)
    (x0 : Vec Ideal S1x8x128x512 .bf16) (x1 : Vec Ideal S1x8x8192x128 .bf16) (x2 : Vec Ideal S1x8x16x64x512 .bf16)
    (h0 : ∀ n e (q : Fin 512), x0 (ix4 0 n e q) = Q (ix4 b n e ⟨512 * (i 1).val + q.val, by have := coord_lt i; omega⟩))
    (h1 : ∀ n k e, x1 (ix4 0 n k e) = K (ix4 b n k e)) (h2 : ∀ n j d k, x2 (ix5 0 n j d k) = V (ix5 b n j d k))
    (f5 : BufTy.Contents (Elt Ideal) arg5.view.ty) (f7 : BufTy.Contents (Elt Ideal) arg7.view.ty) (f8 : BufTy.Contents (Elt Ideal) arg8.view.ty) (q r : Fin 512) :
    arg5.view.read (Elt Ideal) (out5 (F := Ideal) 𝒱 c bd i arg2 harg2 arg3 harg3 arg4 harg4 arg5 harg5 arg6 harg6 arg7 harg7 arg8 harg8 (harg2.unread x0) (harg3.unread x1) (harg4.unread x2) f5 f7 f8) (ix3 0 q r)
      = outG Q K V (ix3 b ⟨512 * (i 1).val + q.val, by have := coord_lt i; omega⟩ r) := by
  have h16 := coord_lt i
  let n : Fin 8 := ⟨r.val / 64, by omega⟩
  let d : Fin 64 := ⟨r.val % 64, by omega⟩
  have hr : r.val = 64 * n.val + d.val := by simp only [n, d]; omega
  have hs : ∀ j (k : Fin 512), scT (F := Ideal) arg2 arg3 (harg2.unread x0) (harg3.unread x1) j n (ix2 k q) = scr Q K b n ⟨512 * (j % 16) + k.val, by omega⟩ ⟨512 * (i 1).val + q.val, by omega⟩ := fun j k => by
    unfold scT scr
    rw [pay292_at]
    refine Finset.sum_congr rfl fun e _ => ?_
    rw [kTile_at, qT_at, h0, h1]
  have hv : ∀ j (k : Fin 512), vTile (F := Ideal) arg4 (harg4.unread x2) j n (ix5 0 0 0 d k) = V (ix5 b n ⟨j % 16, by omega⟩ d k) := fun j k => by
    rw [vTile_at, h2]
  have eS := allS_eq Q K _ b n (i 1).val h16 q hs
  have eA := allA_eq Q K V _ _ b n d (i 1).val h16 q hs hv
  obtain ⟨w, hw, ew⟩ := den_pos Q K hQ hK b n ⟨512 * (i 1).val + q.val, by omega⟩
  have goal : Ideal.div (num Q K V b n d ⟨512 * (i 1).val + q.val, by omega⟩) (den Q K b n ⟨512 * (i 1).val + q.val, by omega⟩) = outG Q K V (ix3 b ⟨512 * (i 1).val + q.val, by omega⟩ r) := rfl
  rcases out5_read (F := Ideal) 𝒱 c bd i arg2 harg2 arg3 harg3 arg4 harg4 arg5 harg5 arg6 harg6 arg7 harg7 arg8 harg8 (harg2.unread x0) (harg3.unread x1) (harg4.unread x2) f5 f7 f8 with e | e
  · rw [e, quot_at _ _ q n d r hr, (safe_at _ (fun j => vTile (F := Ideal) arg4 (harg4.unread x2) j n) d q i).1, (safe_at _ _ d q i).2, eS, eA, goal]
  · rw [e, quot_at _ _ q n d r hr]
    obtain ⟨M, hM⟩ := onl_state (fun j => scT (F := Ideal) arg2 arg3 (harg2.unread x0) (harg3.unread x1) j n) (fun j => vTile (F := Ideal) arg4 (harg4.unread x2) j n) d q (fun j k => by rw [hs]; exact scr_real Q K hQ hK _ _ _ _) i n
    rw [hM.div w hw (eS.trans ew), eS, eA, goal]

end Cert.KernelIdeal.Attn
end
-- ==== Proof.Attn.AFrame.lean ====
module

public import proofs.«01_k».proof.Proof.Attn.Body
public import Idealize.ShloMosaic.Lib.Claim

/-! The attention kernel's run: it ends, its arguments as they were, every semaphore at zero. -/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on buffers whose contents are stated as what is read from them: the output's is `out5` of what was found. -/
theorem bodyOwns (c : Dev nD) (i : grid0.Coords) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (x0 : Vec F S1x8x128x512 .bf16) (x1 : Vec F S1x8x8192x128 .bf16) (x2 : Vec F S1x8x16x64x512 .bf16) (E : Set ℕ) (Q : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗
        (iprop(owns (c : Thread nD τ) arg2 fullShare x0 ∗ owns (c : Thread nD τ) arg3 fullShare x1 ∗ owns (c : Thread nD τ) arg4 fullShare x2 ∗ (∃ f5 f7 f8, owns (c : Thread nD τ) arg5 fullShare (arg5.view.read (Elt F) (out5 (F := F) Variants.none c none i arg2 harg2 arg3 harg3 arg4 harg4 arg5 harg5 arg6 harg6 arg7 harg7 arg8 harg8 (harg2.unread x0) (harg3.unread x1) (harg4.unread x2) f5 f7 f8))) ∗ (∃ d, owns (c : Thread nD τ) arg6 fullShare d) ∗ (∃ d, owns (c : Thread nD τ) arg7 fullShare d) ∗ (∃ d, owns (c : Thread nD τ) arg8 fullShare d)) -∗ Q ⟨⟩))
      ⊢ wp frame (wpE (defs₀ (F := F)) Variants.none c none) E (cc0_attn_b (F := F) i arg2 harg2 arg3 harg3 arg4 harg4 arg5 harg5 arg6 harg6 arg7 harg7 arg8 harg8) Q := by
  unfold owns
  iintro ⟨⟨%g2, %hg2, H2⟩, ⟨%g3, %hg3, H3⟩, ⟨%g4, %hg4, H4⟩, ⟨%d5, %f5, -, H5⟩, ⟨%d6, %f6, -, H6⟩, ⟨%d7, %f7, -, H7⟩, ⟨%d8, %f8, -, H8⟩, Hk⟩
  obtain rfl := harg2.eq_unread hg2; obtain rfl := harg3.eq_unread hg3; obtain rfl := harg4.eq_unread hg4
  iapply (bodyRaw (F := F) Variants.none c none i arg2 harg2 arg3 harg3 arg4 harg4 arg5 harg5 arg6 harg6 arg7 harg7 arg8 harg8 (harg2.unread x0) (harg3.unread x1) (harg4.unread x2) f5 f6 f7 f8 E Q)
  isplitl [H2 H3 H4 H6 H7 H8]
  · sl_close
  isplitl [H5]
  · iexact H5
  iintro ⟨⟨%g6, %g7, %g8, H2, H3, H4, H6, H7, H8⟩, H5⟩
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5, f7, f8, _; isplitr; swap; · iexact H5
    ipureintro; rfl
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

/-- Each window's buffer at a point. -/
abbrev ms0_0 (t : Fin cfg0.N) : Memref sig .tc .vmem S1x8x128x512 .bf16 := win0_0.stage (cfg0.slots t 0)
abbrev ms0_1 (t : Fin cfg0.N) : Memref sig .tc .vmem S1x8x8192x128 .bf16 := win0_1.stage (cfg0.slots t 1)
abbrev ms0_2 (t : Fin cfg0.N) : Memref sig .tc .vmem S1x8x16x64x512 .bf16 := win0_2.stage (cfg0.slots t 2)
abbrev ms0_3 (t : Fin cfg0.N) : Memref sig .tc .vmem S1x512x512 .bf16 := win0_3.stage (cfg0.slots t 3)

/-- The scratch of a core at some contents, and its generator's register. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- The output's window. -/
def forgets0 : Fin 4 → Bool := fun w => w.val == 3

/-- What the pipeline's buffers hold: the inputs' their blocks, of the output nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The arrays are those found at the launch. -/
theorem A_eq (c : Dev nD) (w : Fin cfg0.W) : (dats m 0 c).A w = V m c (Pipeline.arrRef spec0 w) := by
  dsimp only [dats]

/-- The body leaves each input's block in its buffer. -/
theorem after0_0 (c : Dev nD) (t : Fin cfg0.N) : (dats m 0 c).after 0 t = iblk m c 0 t := by dsimp only [dats]
/-- The body leaves the keys' block in its buffer. -/
theorem after0_1 (c : Dev nD) (t : Fin cfg0.N) : (dats m 0 c).after 1 t = iblk m c 1 t := by dsimp only [dats]
/-- The body leaves the values' block in its buffer. -/
theorem after0_2 (c : Dev nD) (t : Fin cfg0.N) : (dats m 0 c).after 2 t = iblk m c 2 t := by dsimp only [dats]

/-- The body finds each input's block in its buffer. -/
theorem before0_0 (c : Dev nD) (t : Fin cfg0.N) (d) : (dats m 0 c).before 0 t d = iblk m c 0 t :=
  before0_0_of m (dats m 0 c) (A_eq m c 0) (after0_0 m c) t d
/-- The body finds the keys' block in its buffer. -/
theorem before0_1 (c : Dev nD) (t : Fin cfg0.N) (d) : (dats m 0 c).before 1 t d = iblk m c 1 t :=
  before0_1_of m (dats m 0 c) (A_eq m c 1) (after0_1 m c) t d
/-- The body finds the values' block in its buffer. -/
theorem before0_2 (c : Dev nD) (t : Fin cfg0.N) (d) : (dats m 0 c).before 2 t d = iblk m c 2 t :=
  before0_2_of m (dats m 0 c) (A_eq m c 2) (after0_2 m c) t d

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d))

set_option maxHeartbeats 800000 in
/-- The body at any point gives back what it must. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩⟩
  iapply (bodyOwns (F := F) c (grid0.coords t) _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%f5, %f7, %f8, H3⟩, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  iexists _; iexact H3

/-- The body the pipeline calls at a point. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The whole run: every input array as it was, every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as they began and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨((congrFun (((dats m 0 c).toRForget forgets0).ArrAt_in 0 rfl _) _).mp ((h.1 c).1 0)).trans (A_eq m c 0), ((congrFun (((dats m 0 c).toRForget forgets0).ArrAt_in 1 rfl _) _).mp ((h.1 c).1 1)).trans (A_eq m c 1), ((congrFun (((dats m 0 c).toRForget forgets0).ArrAt_in 2 rfl _) _).mp ((h.1 c).1 2)).trans (A_eq m c 2)⟩, h.2⟩) (run_main_quiescent m ρ)

end Cert.KernelIdeal.Attn

end
-- ==== Proof.AttnIdeal.ValRun.lean ====
module

public import proofs.«01_k».proof.Proof.AttnIdeal.Block
public import proofs.«01_k».proof.Proof.Attn.AFrame
public import Idealize.ShloMosaic.Lib.Pipeline.ValueKit

/-! The attention kernel's run over the extended reals, from finite queries and keys: its result array is `outG` of its arguments. -/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The queries, the keys and the values as launched. -/
abbrev qM (c : Dev nD) : Vec Ideal S4x8x128x8192 .bf16 := m ((c : Thread nD τ).loc main_arg0)
abbrev kM (c : Dev nD) : Vec Ideal S4x8x8192x128 .bf16 := m ((c : Thread nD τ).loc main_arg1)
abbrev vM (c : Dev nD) : Vec Ideal S4x8x16x64x512 .bf16 := m ((c : Thread nD τ).loc main_arg2)

/-- The result array. -/
abbrev gM (c : Dev nD) : Vec Ideal S4x8192x512 .bf16 := outG (qM m c) (kM m c) (vM m c)

/-- Queries and keys are real numbers. -/
def Fin2 : Prop := ∀ c : Dev nD, (∀ y, ∃ r : ℝ, qM m c y = r) ∧ ∀ y, ∃ r : ℝ, kM m c y = r

/-- The block of each window at a point. -/
theorem idx : ∀ t : Fin cfg0.N, win0_0.index t = ![(grid0.coords t 0).val, 0, 0, (grid0.coords t 1).val]
    ∧ win0_1.index t = ![(grid0.coords t 0).val, 0, 0, 0] ∧ win0_2.index t = ![(grid0.coords t 0).val, 0, 0, 0, 0]
    ∧ win0_3.index t = ![(grid0.coords t 0).val, (grid0.coords t 1).val, 0] := by decide +kernel

/-- What a point writes of the result. -/
def oblk (c : Dev nD) (t : Fin cfg0.N) : Vec Ideal S1x512x512 .bf16 := fun y => gM m c (((cfg0.win 3).blk t).view.emb y)

/-- A point's block of queries. -/
theorem iblk0_at (c : Dev nD) (t : Fin cfg0.N) (n : Fin 8) (e : Fin 128) (q : Fin 512) :
    iblk m c 0 t (ix4 0 n e q) = qM m c (ix4 (grid0.coords t 0) n e ⟨512 * (grid0.coords t 1).val + q.val, by have := coord_lt (grid0.coords t); omega⟩) := by
  blk_ext [iblk, V, idx t]

/-- A point's block of keys. -/
theorem iblk1_at (c : Dev nD) (t : Fin cfg0.N) (n : Fin 8) (k : Fin 8192) (e : Fin 128) :
    iblk m c 1 t (ix4 0 n k e) = kM m c (ix4 (grid0.coords t 0) n k e) := by
  blk_ext [iblk, V, idx t]

/-- A point's block of values. -/
theorem iblk2_at (c : Dev nD) (t : Fin cfg0.N) (n : Fin 8) (j : Fin 16) (d : Fin 64) (k : Fin 512) :
    iblk m c 2 t (ix5 0 n j d k) = vM m c (ix5 (grid0.coords t 0) n j d k) := by
  blk_ext [iblk, V, idx t]

/-- A point's block of the result. -/
theorem oblk_at (c : Dev nD) (t : Fin cfg0.N) (q r : Fin 512) :
    oblk m c t (ix3 0 q r) = gM m c (ix3 (grid0.coords t 0) ⟨512 * (grid0.coords t 1).val + q.val, by have := coord_lt (grid0.coords t); omega⟩ r) := by
  unfold oblk
  blk_ext [idx t]

/-- What the body leaves in the output's buffer is its block of the result. -/
theorem block (hm : Fin2 m) (𝒱 : Variants) (c : Dev nD) (bd : Option 𝒱.V) (t : Fin cfg0.N) (arg2 : Memref sig .tc .vmem S1x8x128x512 .bf16) (harg2 : arg2.IsWhole) (arg3 : Memref sig .tc .vmem S1x8x8192x128 .bf16) (harg3 : arg3.IsWhole) (arg4 : Memref sig .tc .vmem S1x8x16x64x512 .bf16) (harg4 : arg4.IsWhole) (arg5 : Memref sig .tc .vmem S1x512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole)
    (f5 : BufTy.Contents (Elt Ideal) arg5.view.ty) (f7 : BufTy.Contents (Elt Ideal) arg7.view.ty) (f8 : BufTy.Contents (Elt Ideal) arg8.view.ty) :
    arg5.view.read (Elt Ideal) (out5 (F := Ideal) 𝒱 c bd (grid0.coords t) arg2 harg2 arg3 harg3 arg4 harg4 arg5 harg5 arg6 harg6 arg7 harg7 arg8 harg8 (harg2.unread (iblk m c 0 t)) (harg3.unread (iblk m c 1 t)) (harg4.unread (iblk m c 2 t)) f5 f7 f8) = oblk m c t := by
  funext y
  obtain ⟨q, r, rfl⟩ : ∃ q r : Fin 512, y = ix3 0 q r := ⟨y 1, y 2, by
    funext a; fin_cases a
    exacts [Subsingleton.elim (α := Fin 1) _ _, rfl, rfl]⟩
  rw [oblk_at]
  exact block_at (qM m c) (kM m c) (vM m c) (hm c).1 (hm c).2 (grid0.coords t 0) 𝒱 c bd (grid0.coords t) arg2 harg2 arg3 harg3 arg4 harg4 arg5 harg5 arg6 harg6 arg7 harg7 arg8 harg8 _ _ _
    (iblk0_at m c t) (iblk1_at m c t) (iblk2_at m c t) f5 f7 f8 q r

end Cert.KernelIdeal.Attn

namespace Cert.KernelIdeal.AttnVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

open Cert.KernelIdeal.Attn hiding frame dats A_eq after0_0 after0_1 after0_2 before0_0 before0_1 before0_2 bodyPre bodyPost sound_body body_obligation

/-- What the pipeline's buffers hold: the inputs' their blocks, the output's its block of the result. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => oblk m c t
  Φ _ := Pipeline.ΦA spec0 c
  q _ := fullShare
  owed _ := 0

/-- The arrays are those found at the launch. -/
theorem A_eq (c : Dev nD) (w : Fin cfg0.W) : (dats m 0 c).A w = V m c (Pipeline.arrRef spec0 w) := by
  dsimp only [dats]

/-- What the body leaves in each buffer. -/
theorem after0_0 (c : Dev nD) (t : Fin cfg0.N) : (dats m 0 c).after 0 t = iblk m c 0 t := by dsimp only [dats]
/-- The body leaves the keys' block in its buffer. -/
theorem after0_1 (c : Dev nD) (t : Fin cfg0.N) : (dats m 0 c).after 1 t = iblk m c 1 t := by dsimp only [dats]
/-- The body leaves the values' block in its buffer. -/
theorem after0_2 (c : Dev nD) (t : Fin cfg0.N) : (dats m 0 c).after 2 t = iblk m c 2 t := by dsimp only [dats]
/-- The body leaves its block of the result in the output's buffer. -/
theorem after0_3 (c : Dev nD) (t : Fin cfg0.N) : (dats m 0 c).after 3 t = oblk m c t := by dsimp only [dats]

/-- The body finds each input's block in its buffer. -/
theorem before0_0 (c : Dev nD) (t : Fin cfg0.N) (d) : (dats m 0 c).before 0 t d = iblk m c 0 t :=
  before0_0_of m (dats m 0 c) (A_eq m c 0) (after0_0 m c) t d
/-- The body finds the keys' block in its buffer. -/
theorem before0_1 (c : Dev nD) (t : Fin cfg0.N) (d) : (dats m 0 c).before 1 t d = iblk m c 1 t :=
  before0_1_of m (dats m 0 c) (A_eq m c 1) (after0_1 m c) t d
/-- The body finds the values' block in its buffer. -/
theorem before0_2 (c : Dev nD) (t : Fin cfg0.N) (d) : (dats m 0 c).before 2 t d = iblk m c 2 t :=
  before0_2_of m (dats m 0 c) (A_eq m c 2) (after0_2 m c) t d

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point gives back what it must. -/
theorem sound_body (hm : Fin2 m) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩⟩
  iapply (bodyOwns (F := Ideal) c (grid0.coords t) _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  simp only [block m hm]
  iintro ⟨H0, H1, H2, ⟨%f5, %f7, %f8, H3⟩, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  iexact H3

/-- The body meets its obligation at every point. -/
theorem body_obligation (hm : Fin2 m) (c : Dev nD) : BodyObligation (dats m 0 c) (defs₀ (F := Ideal)) Variants.none () Set.univ := fun t => by
  rw [bigSep_W0, bigSep_W0, defs₀_row]
  exact triple_restated (sound_body m hm c t) rfl .rfl fun _ => .rfl

set_option backward.isDefEq.respectTransparency.types false in
/-- The whole run. -/
theorem run_main (hm : Fin2 m) : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m hm c).loose) (hshare := fun c => (dats m 0 c).share_full fun _ => rfl)
    (howed := fun _ _ => rfl) (V := V m) (hmain := hmain m Variants.none) (hA := A_eq m) (hΦ := fun _ _ => rfl)

/-- The blocks written back make up the result. -/
theorem arr3 (c : Dev nD) : (dats m 0 c).arrAt 3 cfg0.N = gM m c := by
  refine (dats m 0 c).arrAt_eq_of_covers 3 _ (by decide +kernel) fun t hf y => ?_
  blk_simp
  rw [after0_3]
  rfl

/-- The run from finite queries and keys: the result array, and the arguments as they were. -/
theorem run (hm : Fin2 m) : θ_run defs (onTc (τ := τ) (main (F := Ideal))) ⟨m, fun _ => 0, ρ⟩ (fun r => ∀ c : Dev nD,
      r.2.mem ((c.tc : Thread nD τ).loc main_v0) = gM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (arr3 m c), (h.2 c).1, (h.2 c).2.1, (h.2 c).2.2⟩)
    (θ_run_and ((θ_run defs _ _).mono (fun _ h => h.1) (run_main m ρ hm)) ((θ_run defs _ _).mono (fun _ h => h.1) (Cert.KernelIdeal.Attn.frame (F := Ideal) m ρ)))

end Cert.KernelIdeal.AttnVal

end
-- ==== Proof.AttnIdeal.Ref.lean ====
module

public import proofs.«01_k».proof.Proof.AttnIdeal.Block
public import proofs.«01_k».proof.Proof.Gen.ReferenceIdeal.Run
public import Idealize.ShloMosaic.Lib.IdealHost
public import Idealize.ShloMosaic.Lib.Pointwise

/-! The attention's reference over the extended reals, stage by stage, from finite queries and keys. -/

@[expose] public section

set_option maxRecDepth 65536
set_option maxHeartbeats 4000000

noncomputable section

namespace Cert.ReferenceIdeal.Attn

open Idealize.ShloMosaic Idealize.ShloMosaic.TcCoe Idealize.ShloMosaic.Tactic
open Cert.ReferenceIdeal Cert.ReferenceIdeal.Gen
open Cert.KernelIdeal.Attn (scr wgt den num outG mask scr_real den_pos num_congr)
open Cert.Sums

variable (Q : Vec Ideal S4x8x128x8192 .bf16) (K : Vec Ideal S4x8x8192x128 .bf16) (V : Vec Ideal S4x8x16x64x512 .bf16)

/-- Each position's chunk. -/
def chunk : IVec S8192 32 :=
  select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32))))

/-- Which keys a query sees. -/
def seen : IVec S8192x8192 1 :=
  cmpi .sle (broadcastInDim S8192x8192 ![0, 1] bcast_S1x8192_S8192x8192_0_1 (broadcastInDim S1x8192 ![1] bcast_S8192_S1x8192_1 chunk)) (broadcastInDim S8192x8192 ![0, 1] bcast_S8192x1_S8192x8192_0_1 (broadcastInDim S8192x1 ![0] bcast_S8192_S8192x1_0 chunk))

/-- The scores. -/
def sc : FVec Ideal S4x8x8192x8192 .f32 :=
  mulf (Host.dotGeneral dot_S4x8192x8x128_S4x8192x8x128_S4x8x8192x8192_3_3_1_1_02_02 none (transpose S4x8192x8x128 [0, 3, 1, 2] (extf .f32 Q bitsLt_bf16_f32) transposes_S4x8x128x8192_S4x8192x8x128_0_3_1_2) (transpose S4x8192x8x128 [0, 2, 1, 3] (extf .f32 K bitsLt_bf16_f32) transposes_S4x8x8192x128_S4x8192x8x128_0_2_1_3)) (broadcastInDim S4x8x8192x8192 ![] bcast_S_S4x8x8192x8192 (Host.log (constant S_ .f32 0x40000000#32)))

/-- The masked scores. -/
def ms : FVec Ideal S4x8x8192x8192 .f32 :=
  select (broadcastInDim S4x8x8192x8192 ![0, 1, 2, 3] bcast_S1x1x8192x8192_S4x8x8192x8192_0_1_2_3 (broadcastInDim S1x1x8192x8192 ![2, 3] bcast_S8192x8192_S1x1x8192x8192_2_3 seen)) (sc Q K) (broadcastInDim S4x8x8192x8192 ![] bcast_S_S4x8x8192x8192 (id (constant S_ .f32 0xFF800000#32)))

/-- The greatest of a query's scores. -/
def mx : FVec Ideal S4x8x8192 .f32 :=
  maximumf (broadcastInDim S4x8x8192 ![] bcast_S_S4x8x8192 (constant S_ .f32 0xFF800000#32)) (Host.reduce FloatOps.maximumf (ms Q K) (constant S_ .f32 0xFF800000#32) reducesTo_S4x8x8192x8192_S4x8x8192_d3 h_S_)

/-- The exponentials. -/
def ex : FVec Ideal S4x8x8192x8192 .f32 :=
  Host.exp (subf (ms Q K) (broadcastInDim S4x8x8192x8192 ![0, 1, 2, 3] bcast_S4x8x8192x1_S4x8x8192x8192_0_1_2_3 (broadcastInDim S4x8x8192x1 ![0, 1, 2] bcast_S4x8x8192_S4x8x8192x1_0_1_2 (mx Q K))))

/-- Their sums. -/
def dn : FVec Ideal S4x8x8192 .f32 :=
  Host.reduceAdd (ex Q K) (constant S_ .f32 0x00000000#32) reducesTo_S4x8x8192x8192_S4x8x8192_d3 h_S_

/-- The softmax. -/
def sm : FVec Ideal S4x8x8192x8192 .f32 :=
  Host.divf (ex Q K) (broadcastInDim S4x8x8192x8192 ![0, 1, 2, 3] bcast_S4x8x8192x1_S4x8x8192x8192_0_1_2_3 (broadcastInDim S4x8x8192x1 ![0, 1, 2] bcast_S4x8x8192_S4x8x8192x1_0_1_2 (dn Q K)))

/-- The values, a row for each position. -/
def vr : FVec Ideal S4x8192x8x64 .f32 :=
  shapeCast _ (transpose S4x16x512x8x64 [0, 2, 4, 1, 3] (extf .f32 V bitsLt_bf16_f32) transposes_S4x8x16x64x512_S4x16x512x8x64_0_2_4_1_3) shapeCasts_S4x16x512x8x64_S4x8192x8x64

/-- The sums of the values by the softmax. -/
def ov : FVec Ideal S4x8x64x8192 .f32 :=
  Host.dotGeneral dot_S4x8192x8x64_S4x8x8192x8192_S4x8x64x8192_1_3_3_2_02_01 none (vr V) (sm Q K)

/-- The result. -/
def ot : FVec Ideal S4x8192x512 .bf16 :=
  truncf .bf16 (shapeCast _ (transpose S4x8192x8x64 [0, 3, 1, 2] (ov Q K V) transposes_S4x8x64x8192_S4x8192x8x64_0_3_1_2) shapeCasts_S4x8192x8x64_S4x8192x512) bitsLt_bf16_f32

/-- The reference's result is the last of these stages. -/
theorem res_eq (m : (ℓ : Loc nD τ sig) → Buf (Elt Ideal) ℓ) (c : Dev nD) :
    Cert.ReferenceIdeal.Value.res_main_v34 m c = ot (m ((c.tc : Thread nD τ).loc main_arg0)) (m ((c.tc : Thread nD τ).loc main_arg1)) (m ((c.tc : Thread nD τ).loc main_arg2)) := rfl

/-- A position's stretch of sixty-four. -/
theorem chunk_at (k : Fin 8192) : chunk (ix1 k) = BitVec.ofNat 32 (k.val / 64) := by
  pointwise [chunk]
  revert k; decide +kernel

/-- The signed comparison of two stretches' numbers. -/
theorem sle_at : ∀ a b : Fin 128, IntOp.cmpi CmpIPredicate.sle (BitVec.ofNat 32 a.val) (BitVec.ofNat 32 b.val) = if a.val ≤ b.val then 1#1 else 0#1 := by decide +kernel

/-- Which keys a query sees: those of its own stretch of sixty-four and before. -/
theorem seen_at (q k : Fin 8192) : seen (ix2 q k) = if k.val / 64 ≤ q.val / 64 then 1#1 else 0#1 := by
  pointwise [seen]
  rw [chunk_at, chunk_at]
  exact sle_at ⟨k.val / 64, by omega⟩ ⟨q.val / 64, by omega⟩

/-- The reference's score: the kernel's times the logarithm of two. -/
theorem sc_at (b : Fin 4) (n : Fin 8) (q k : Fin 8192) : sc Q K (ix4 b n q k) = scr Q K b n k q * Ideal.log (Ideal.ofBits .f32 0x40000000#32) := by
  pointwise [sc, scr]
  congr 1
  exact Finset.sum_congr rfl fun e _ => mul_comm _ _

/-- The masked score. -/
theorem ms_at (b : Fin 4) (n : Fin 8) (q k : Fin 8192) : ms Q K (ix4 b n q k) = mask (k.val / 64 ≤ q.val / 64) (sc Q K (ix4 b n q k)) := by
  pointwise [ms]
  rw [seen_at]
  have : Ideal.ofBits .f32 4286578688#32 = ⊥ := by decide +kernel
  by_cases h : k.val / 64 ≤ q.val / 64
  · simp [h, Scalar.select, mask]
  · simp [h, Scalar.select, mask]; exact this

/-- The greatest along one axis. -/
theorem reduce_max {s t u : Shape} {a : Fin s.rank} (X : FVec Ideal s .f32) (init : FVec Ideal u .f32) (h' : s.ReducesTo [a] t) (h : s.Reduces [a] t)
    (hu : 0 < u.numel) (j : t.Idx) (N : ℕ) (hN : s.size a = N) (f : Fin N → EReal) (hf : ∀ k : Fin N, X (h.lift j (Fin.cast hN.symm k)) = f k) :
    Host.reduce FloatOps.maximumf X init h' hu j = Finset.univ.fold max (init (Shape.Idx.first hu)) f := by
  subst hN
  have e : X ∘ h.lift j = f := funext hf
  rw [← e]
  exact Host.reduce_eq_fold_single max X init h' h hu j

/-- The greater of two arrays, index by index. -/
theorem maxf_at {s : Shape} (x y : FVec Ideal s .f32) (j : s.Idx) : maximumf x y j = max (x j) (y j) := rfl

/-- The constant of minus infinity. -/
theorem bot_at {s : Shape} (j : s.Idx) : constant (F := Ideal) s .f32 0xFF800000#32 j = ⊥ := by
  have hb : Ideal.ofBits .f32 4286578688#32 = ⊥ := by decide +kernel
  exact hb

/-- The greatest along the last axis. -/
theorem mx_at (b : Fin 4) (n : Fin 8) (q : Fin 8192) : mx Q K (ix3 b n q) = max ⊥ (Finset.univ.fold max ⊥ fun k : Fin 8192 => ms Q K (ix4 b n q k)) := by
  unfold mx
  have h : S4x8x8192x8192.Reduces [3] S4x8x8192 := ⟨rfl, by decide⟩
  rw [maxf_at, reduce_max (ms Q K) _ _ h h_S_ (ix3 b n q) 8192 rfl (fun k : Fin 8192 => ms Q K (ix4 b n q k)) (fun k => by
    congr 1; funext a; apply Fin.ext; rw [Shape.Reduces.lift_val]
    fin_cases a <;> rfl), bot_at]
  congr 1

/-- The exponential of a masked score less the greatest. -/
theorem ex_at (b : Fin 4) (n : Fin 8) (q k : Fin 8192) : ex Q K (ix4 b n q k) = Ideal.exp (ms Q K (ix4 b n q k) - mx Q K (ix3 b n q)) := by
  pointwise [ex]

/-- The softmax's denominator. -/
theorem dn_at (b : Fin 4) (n : Fin 8) (q : Fin 8192) : dn Q K (ix3 b n q) = ∑ k : Fin 8192, ex Q K (ix4 b n q k) := by
  pointwise [dn]

/-- The softmax: an exponential by the denominator. -/
theorem sm_at (b : Fin 4) (n : Fin 8) (q k : Fin 8192) : sm Q K (ix4 b n q k) = Ideal.div (ex Q K (ix4 b n q k)) (dn Q K (ix3 b n q)) := by
  pointwise [sm]

/-- The values, a row for each position, index by index. -/
theorem vr_at (b : Fin 4) (n : Fin 8) (k : Fin 8192) (d : Fin 64) : vr V (ix4 b k n d) = V (ix5 b n ⟨k.val / 512, by omega⟩ d ⟨k.val % 512, by omega⟩) := by
  pointwise [vr]

/-- The sum of the values by the softmax, index by index. -/
theorem ov_at (b : Fin 4) (n : Fin 8) (d : Fin 64) (q : Fin 8192) : ov Q K V (ix4 b n d q) = ∑ k : Fin 8192, vr V (ix4 b k n d) * sm Q K (ix4 b n q k) := by
  pointwise [ov]

/-- The result, index by index. -/
theorem ot_at (b : Fin 4) (q : Fin 8192) (r : Fin 512) : ot Q K V (ix3 b q r) = ov Q K V (ix4 b ⟨r.val / 64, by omega⟩ ⟨r.val % 64, by omega⟩ q) := by
  pointwise [ot]

/-- The exponential of a real, and of the masked score. -/
theorem exp_coe (r : ℝ) : Ideal.exp (r : EReal) = (Real.exp r : ℝ) := rfl
/-- The exponential of the masked score is zero. -/
theorem exp_bot : Ideal.exp ⊥ = 0 := rfl

/-- The logarithm of two. -/
theorem log_two : Ideal.log (Ideal.ofBits .f32 0x40000000#32) = (Real.log 2 : ℝ) := by
  have h : Ideal.ofBits .f32 0x40000000#32 = ((2 : ℝ) : EReal) := by
    simp [Ideal.ofBits, Ideal.ieee, -EReal.coe_mul]; norm_num
  rw [h]
  show (if (2 : ℝ) ≤ 0 then ⊥ else ((Real.log 2 : ℝ) : EReal)) = _
  rw [if_neg (by norm_num)]

section
variable (hQ : ∀ y, ∃ r : ℝ, Q y = r) (hK : ∀ y, ∃ r : ℝ, K y = r) (b : Fin 4) (n : Fin 8) (q : Fin 8192)
include hQ hK

/-- The exponentials are the weights times one positive real. -/
theorem ex_eq : ∃ c : ℝ, 0 < c ∧ ∀ k, ex Q K (ix4 b n q k) = c * wgt Q K b n k q := by
  choose σ hσ using fun k => scr_real Q K hQ hK b n k q
  have hs : ∀ k, ms Q K (ix4 b n q k) = mask (k.val / 64 ≤ q.val / 64) ((σ k * Real.log 2 : ℝ) : EReal) := fun k => by
    rw [ms_at, sc_at, hσ, log_two, EReal.coe_mul]
  obtain ⟨μ, hμ⟩ := fold_max_real (fun k => ms Q K (ix4 b n q k))
    (fun k => by
      rw [hs]; unfold mask; split
      · exact .inr ⟨_, rfl⟩
      · exact .inl rfl)
    ⟨q, _, by rw [hs]; unfold mask; rw [if_pos le_rfl]⟩ ⊥ (.inl rfl)
  rw [← mx_at] at hμ
  refine ⟨Real.exp (-μ), Real.exp_pos _, fun k => ?_⟩
  rw [ex_at, hμ, hs]
  unfold wgt mask
  split
  · rw [hσ, exp2_coe, ← EReal.coe_sub, ← EReal.coe_mul, exp_coe, EReal.coe_eq_coe_iff, Real.rpow_def_of_pos two_pos, ← Real.exp_add, Real.exp_eq_exp]
    ring
  · rw [exp2_bot, EReal.bot_sub, mul_zero, exp_bot]

/-- The softmax is the weight by the denominator. -/
theorem sm_eq (k : Fin 8192) : sm Q K (ix4 b n q k) = Ideal.div (wgt Q K b n k q) (den Q K b n q) := by
  obtain ⟨c, hc, h⟩ := ex_eq Q K hQ hK b n q
  obtain ⟨s, hs, e⟩ := den_pos Q K hQ hK b n q
  rw [sm_at, dn_at, h]
  simp only [h]
  rw [← mul_sum_pos c hc]
  change Ideal.div _ (_ * den Q K b n q) = _
  rw [e]; exact div_scale c hc _ s hs

/-- The sum of the values by the softmax is the weighted sum by the denominator. -/
theorem ov_eq (d : Fin 64) : ov Q K V (ix4 b n d q) = Ideal.div (num Q K V b n d q) (den Q K b n q) := by
  obtain ⟨s, hs, e⟩ := den_pos Q K hQ hK b n q
  rw [ov_at]
  simp only [sm_eq Q K hQ hK b n q, vr_at, e]
  have hd : ∀ x : EReal, Ideal.div x (s : EReal) = ((s⁻¹ : ℝ) : EReal) * x := fun x => by
    unfold Ideal.div
    rw [if_neg (by exact_mod_cast hs.ne'), mul_comm, ← EReal.coe_inv]
  simp only [hd]
  unfold num
  rw [mul_sum_pos _ (inv_pos.mpr hs)]
  exact Finset.sum_congr rfl fun k _ => mul_left_comm _ _ _

end

/-- From finite queries and keys the reference computes the kernel's result. -/
theorem ot_eq (hQ : ∀ y, ∃ r : ℝ, Q y = r) (hK : ∀ y, ∃ r : ℝ, K y = r) : ot Q K V = outG Q K V := by
  funext y
  obtain ⟨b, q, r, rfl⟩ : ∃ (b : Fin 4) (q : Fin 8192) (r : Fin 512), y = ix3 b q r := ⟨y 0, y 1, y 2, by
    funext a; fin_cases a <;> rfl⟩
  rw [ot_at, ov_eq Q K V hQ hK]
  rfl

end Cert.ReferenceIdeal.Attn
end
-- ==== Proof.AttnIdeal.Pre.lean ====
module

public import proofs.«01_k».proof.Defs
public import proofs.«01_k».proof.Proof.Gen.Pre_finite
public import proofs.«01_k».proof.Proof.AttnIdeal.ValRun
public import Idealize.ShloMosaic.Lib.ReduceAll

/-! The precondition read at an element: every query and every key is a real number. -/

@[expose] public section

set_option maxRecDepth 16384

noncomputable section

namespace Cert.KernelIdeal.Attn

open Idealize.ShloMosaic Idealize.ShloMosaic.TcCoe

/-- An extended real whose absolute value is below infinity is a real. -/
theorem real_of_abs (x : EReal) (h : max x (-x) < ⊤) : ∃ r : ℝ, x = r := by
  induction x using EReal.rec with
  | bot => simp at h
  | top => simp at h
  | coe r => exact ⟨r, rfl⟩

/-- The comparison of an absolute value with infinity. -/
theorem real_of_cmp {s : Shape} (x : FVec Ideal s .bf16) (hb : FTy.bits .bf16 < FTy.bits .f32) (hc : (⟨0, ![]⟩ : Shape).BroadcastsInDim s (![] : Fin 0 → Fin s.rank)) (y : s.Idx)
    (h : cmpf .olt (Host.absf (extf .f32 x hb)) (broadcastInDim s ![] hc (constant (F := Ideal) ⟨0, ![]⟩ .f32 0x7F800000#32)) y = 1#1) : ∃ r : ℝ, x y = r := by
  have hi : Ideal.ofBits .f32 0x7F800000#32 = ⊤ := by decide +kernel
  have h' : BitVec.ofBool (decide (max (x y) (-(x y)) < Ideal.ofBits .f32 0x7F800000#32)) = 1#1 := h
  rw [hi] at h'
  refine real_of_abs _ ?_
  by_contra hn
  rw [decide_eq_false hn] at h'
  exact absurd h' (by decide)

/-- The precondition makes every query and every key a real number. -/
theorem fin2 (m : (ℓ : Loc nD τ sig) → Buf (Elt Ideal) ℓ)
    (h : Cert.Pre_KernelIdeal_finite (hPre_finite := Cert.Pre_finite.Gen.facts) m) : Fin2 m := fun c => by
  have h1 := congrFun (h c) ix0
  dsimp only [Cert.Pre_finite.fn] at h1
  obtain ⟨ha, hb⟩ := IntOp.andi_eq_one.mp h1
  exact ⟨fun y => real_of_cmp (qM m c) _ _ y (Host.reduce_andi_all _ _ _ _ _ ha y),
    fun y => real_of_cmp (kM m c) _ _ y (Host.reduce_andi_all _ _ _ _ _ hb y)⟩

end Cert.KernelIdeal.Attn

end
-- ==== Proof.PostVal.Body.lean ====
module

public import proofs.«01_k».proof.Proof.Gen.PostIdeal.Value
public import Idealize.ShloMosaic.Lib.Pipeline.ValueKit
public import Idealize.ShloMosaic.Lib.Pipeline.ReadBack
public import Idealize.ShloMosaic.Lib.Pointwise
public import Idealize.ShloMosaic.Lib.IdealHost

/-! What a grid point of the last call leaves in its output block: the feed-forward's inner array, stored in
eleven blocks of columns, reads back as one array, and the block is the final payload over it. -/

@[expose] public section

set_option maxRecDepth 65536
set_option maxHeartbeats 4000000

noncomputable section

namespace Cert.PostIdeal.Val

open Idealize.ShloMosaic Idealize.ShloMosaic.TcCoe Idealize.ShloMosaic.Tactic
open Cert.PostIdeal Cert.PostIdeal.Gen

variable (m : (ℓ : Loc nD τ sig) → Buf (Elt Ideal) ℓ)

section Inner

variable (v18 : FVec Ideal S1024x1024 .bf16) (v26 : FVec Ideal S1024x1 .f32) (x5 x6 : Vec Ideal S1024x2816 .bf16)

/-- A gated unit: the gate's product times its logistic, times the other product. -/
def unit (a b : EReal) : EReal := a * Ideal.logistic a * b

/-- A row's product with a column of weights, times the row's factor. -/
def proj (w : Vec Ideal S1024x2816 .bf16) (i : Fin 1024) (j : Fin 2816) : EReal :=
  (∑ k : Fin 1024, v18 (ix2 i k) * w (ix2 k j)) * v26 (ix2 i 0)

/-- The inner array of the feed-forward. -/
def inner : Vec Ideal S1024x2816 .bf16 := fun y => unit (proj v18 v26 x5 (y 0) (y 1)) (proj v18 v26 x6 (y 0) (y 1))

/-- A stored block of columns is the inner array's. -/
theorem tile_at (o : ℕ) (inb : ∀ a, (![0, o] : Fin 2 → ℕ) a + (![1024, 256] : Fin 2 → ℕ) a ≤ S1024x2816.size a)
    (x : (Rect.unit (s := S1024x2816) ![0, o] ![1024, 256] inb).shape.Idx) :
    k0_pay23 v18 v26 (View.ld x5 (Rect.unit ![0, o] ![1024, 256] inb)) (View.ld x6 (Rect.unit ![0, o] ![1024, 256] inb)) x
      = inner v18 v26 x5 x6 ((Rect.unit (s := S1024x2816) ![0, o] ![1024, 256] inb).emb x) := by
  have e0 : ((Rect.unit (s := S1024x2816) ![0, o] ![1024, 256] inb).emb x) 0 = x 0 := Fin.ext (by simp)
  have e1 : ((Rect.unit (s := S1024x2816) ![0, o] ![1024, 256] inb).emb x) 1 = ⟨o + (x 1).val, by have := inb 1; have := (x 1).isLt; simp at *; omega⟩ := Fin.ext (by simp)
  dsimp only [inner]
  rw [e0, e1]
  pointwise [k0_pay23, proj, unit]

/-- The stored block of columns from `o` on. -/
def piece (o : ℕ) (inb : ∀ a, (![0, o] : Fin 2 → ℕ) a + (![1024, 256] : Fin 2 → ℕ) a ≤ S1024x2816.size a) : View.Piece (Elt Ideal) S1024x2816 .bf16 :=
  ⟨Rect.unit ![0, o] ![1024, 256] inb, k0_pay23 v18 v26 (View.ld x5 (Rect.unit ![0, o] ![1024, 256] inb)) (View.ld x6 (Rect.unit ![0, o] ![1024, 256] inb))⟩

/-- Each stored block is the inner array's. -/
theorem piece_at (o : ℕ) (inb : ∀ a, (![0, o] : Fin 2 → ℕ) a + (![1024, 256] : Fin 2 → ℕ) a ≤ S1024x2816.size a)
    (x : (piece v18 v26 x5 x6 o inb).1.shape.Idx) : (piece v18 v26 x5 x6 o inb).2 x = inner v18 v26 x5 x6 ((piece v18 v26 x5 x6 o inb).1.emb x) :=
  tile_at v18 v26 x5 x6 o inb x

/-- The eleven stored blocks. -/
def pieces : List (View.Piece (Elt Ideal) S1024x2816 .bf16) :=
   [piece v18 v26 x5 x6 2560 inb_S1024x2816_S1024x256_0_2560,
    piece v18 v26 x5 x6 2304 inb_S1024x2816_S1024x256_0_2304,
    piece v18 v26 x5 x6 2048 inb_S1024x2816_S1024x256_0_2048,
    piece v18 v26 x5 x6 1792 inb_S1024x2816_S1024x256_0_1792,
    piece v18 v26 x5 x6 1536 inb_S1024x2816_S1024x256_0_1536,
    piece v18 v26 x5 x6 1280 inb_S1024x2816_S1024x256_0_1280,
    piece v18 v26 x5 x6 1024 inb_S1024x2816_S1024x256_0_1024,
    piece v18 v26 x5 x6 768 inb_S1024x2816_S1024x256_0_768,
    piece v18 v26 x5 x6 512 inb_S1024x2816_S1024x256_0_512,
    piece v18 v26 x5 x6 256 inb_S1024x2816_S1024x256_0_256,
    piece v18 v26 x5 x6 0 inb_S1024x2816_S1024x256_0_0]

/-- The blocks read back as the inner array. -/
theorem read_inner : (View.whole cc0_scratch0).readCov (pieces v18 v26 x5 x6) (Rect.unit ![0, 0] ![1024, 2816] inb_S1024x2816_S1024x2816_0_0).toLoadRect = inner v18 v26 x5 x6 := by
  have hc : ∀ y : S1024x2816.Idx, ∃ p ∈ pieces v18 v26 x5 x6, y ∈ p.1.set := View.cover_of_tiledL (pieces v18 v26 x5 x6) ![1024, 256] (by rfl)
  rw [View.readCov_eq_canon_ld _ _ _ hc, View.ld_unit_lit _ _ (by decide)]
  funext y
  have h : View.PiecesOf (inner v18 v26 x5 x6) (pieces v18 v26 x5 x6) := by
    unfold pieces
    exact ⟨fun x => piece_at _ _ _ _ _ _ x, fun x => piece_at _ _ _ _ _ _ x, fun x => piece_at _ _ _ _ _ _ x, fun x => piece_at _ _ _ _ _ _ x, fun x => piece_at _ _ _ _ _ _ x, fun x => piece_at _ _ _ _ _ _ x, fun x => piece_at _ _ _ _ _ _ x, fun x => piece_at _ _ _ _ _ _ x, fun x => piece_at _ _ _ _ _ _ x, fun x => piece_at _ _ _ _ _ _ x, fun x => piece_at _ _ _ _ _ _ x, trivial⟩
  have := View.canon_append_of_piecesOf (inner v18 v26 x5 x6) [] (pieces v18 v26 x5 x6) h y (hc y)
  rwa [List.append_nil] at this

end Inner

section Block

variable (x0 : Vec Ideal S1024x1024 .f32) (x1 x2 : Vec Ideal S1024x512 .bf16) (x3 : Vec Ideal S1024x1024 .bf16) (x4 : Vec Ideal S1x1024 .f32)
  (x5 x6 : Vec Ideal S1024x2816 .bf16) (x7 : Vec Ideal S2816x1024 .bf16) (x8 : Vec Ideal S1x1024 .f32)

/-- The upper and the lower half of the output weights. -/
def top : Vec Ideal S512x1024 .bf16 := View.ld x3 (Rect.unit ![0, 0] ![512, 1024] inb_S1024x1024_S512x1024_0_0)
def bot : Vec Ideal S512x1024 .bf16 := View.ld x3 (Rect.unit ![512, 0] ![512, 1024] inb_S1024x1024_S512x1024_512_0)

/-- The inner array of a block. -/
def innerB : Vec Ideal S1024x2816 .bf16 := inner (k0_pay3 x0 x1 (top x3) x2 (bot x3) x4) (k0_pay4 x0 x1 (top x3) x2 (bot x3)) x5 x6

/-- The block a grid point writes. -/
def blockB : Vec Ideal S1024x1024 .f32 :=
  k0_pay1 (k0_pay24 (k0_pay2 x0 x1 (top x3) x2 (bot x3)) (innerB x0 x1 x2 x3 x4 x5 x6) x7) (k0_pay25 x8)
    (k0_pay26 (k0_pay2 x0 x1 (top x3) x2 (bot x3)) (innerB x0 x1 x2 x3 x4 x5 x6) x7)

end Block

/-- After a grid point its output buffer holds `blockB` of its input blocks. -/
theorem body_out (c : Dev nD) (t : Fin cfg0.N) : outsAt0 m c t = blockB (iblk m c 0 t) (iblk m c 1 t) (iblk m c 2 t) (iblk m c 3 t) (iblk m c 4 t)
    (iblk m c 5 t) (iblk m c 6 t) (iblk m c 7 t) (iblk m c 8 t) := by
  unfold outsAt0
  generalize iblk m c 0 t = x0, iblk m c 1 t = x1, iblk m c 2 t = x2, iblk m c 3 t = x3, iblk m c 4 t = x4, iblk m c 5 t = x5, iblk m c 6 t = x6, iblk m c 7 t = x7, iblk m c 8 t = x8
  frame_open
  simp (disch := decide) only [↓ View.readCov_skip, ↓ View.readCov_cons_toLoadRect, ↓ View.readCov_fill]
  frame_out
  exact congrArg (fun z => k0_pay1 (k0_pay24 (k0_pay2 x0 x1 (top x3) x2 (bot x3)) z x7) (k0_pay25 x8) (k0_pay26 (k0_pay2 x0 x1 (top x3) x2 (bot x3)) z x7))
    (read_inner (k0_pay3 x0 x1 (top x3) x2 (bot x3) x4) (k0_pay4 x0 x1 (top x3) x2 (bot x3)) x5 x6)

end Cert.PostIdeal.Val

end
-- ==== Proof.PostVal.Spec.lean ====
module

public import Idealize.ShloMosaic.Lib.IdealHost

/-! The layer's last part on one row, over the extended reals: the row's norm, the residual of the output
projection, the gated feed-forward, the final norm. -/

@[expose] public section

noncomputable section

namespace Cert.Rows

open Idealize.ShloMosaic

/-- The literal of the row length, of the norm's small constant and of the half. -/
def len : EReal := Ideal.ofBits .f32 0x44800000#32
def eps : EReal := Ideal.ofBits .f32 0x358637BD#32
def half : EReal := Ideal.ofBits .f32 0x3F000000#32

/-- A row's factor in its norm. -/
def fac (x : Fin 1024 → EReal) : EReal := Ideal.rsqrt (Ideal.div (∑ d, x d * x d) len + eps)

/-- A gated unit: the gate's product times its logistic, times the other product. -/
def unit (a b : EReal) : EReal := a * Ideal.logistic a * b

/-- The row after the output projection of the two attentions' rows. -/
def res (a : Fin 1024 → EReal) (p q : Fin 512 → EReal) (W : Fin 1024 → Fin 1024 → EReal) (d : Fin 1024) : EReal :=
  a d + (∑ k : Fin 512, p k * W ⟨k.val, by omega⟩ d) + ∑ k : Fin 512, q k * W ⟨512 + k.val, by omega⟩ d

/-- The normed row's product with a column of weights, the row's factor drawn out. -/
def proj (x g w : Fin 1024 → EReal) : EReal := (∑ k, x k * g k * w k) * fac x

/-- The row after the feed-forward's half step. -/
def ffn (x g : Fin 1024 → EReal) (wg wu : Fin 1024 → Fin 2816 → EReal) (wd : Fin 2816 → Fin 1024 → EReal) (d : Fin 1024) : EReal :=
  x d + half * ∑ j : Fin 2816, unit (proj x g fun k => wg k j) (proj x g fun k => wu k j) * wd j d

/-- The final norm. -/
def norm (y g : Fin 1024 → EReal) (d : Fin 1024) : EReal := y d * fac y * g d

/-- The whole row. -/
def row (a : Fin 1024 → EReal) (p q : Fin 512 → EReal) (W : Fin 1024 → Fin 1024 → EReal) (g : Fin 1024 → EReal)
    (wg wu : Fin 1024 → Fin 2816 → EReal) (wd : Fin 2816 → Fin 1024 → EReal) (gf : Fin 1024 → EReal) : Fin 1024 → EReal :=
  norm (ffn (res a p q W) g wg wu wd) gf

end Cert.Rows

end
-- ==== Proof.PostVal.Block.lean ====
module

public import proofs.«01_k».proof.Proof.PostVal.Body
public import proofs.«01_k».proof.Proof.PostVal.Spec

/-! A grid point's output block, index by index: each of its rows is `Rows.row` of the input blocks' rows. -/

@[expose] public section

set_option maxRecDepth 65536
set_option maxHeartbeats 4000000

noncomputable section

namespace Cert.PostIdeal.Val

open Idealize.ShloMosaic Idealize.ShloMosaic.TcCoe Idealize.ShloMosaic.Tactic
open Cert.PostIdeal Cert.PostIdeal.Gen
open Cert

variable (x0 : Vec Ideal S1024x1024 .f32) (x1 x2 : Vec Ideal S1024x512 .bf16) (x3 : Vec Ideal S1024x1024 .bf16) (x4 : Vec Ideal S1x1024 .f32)
  (x5 x6 : Vec Ideal S1024x2816 .bf16) (x7 : Vec Ideal S2816x1024 .bf16) (x8 : Vec Ideal S1x1024 .f32)

/-- The row after the projection. -/
def resB (i : Fin 1024) : Fin 1024 → EReal :=
  Rows.res (fun d => x0 (ix2 i d)) (fun k => x1 (ix2 i k)) (fun k => x2 (ix2 i k)) (fun k d => x3 (ix2 k d))

/-- The row after the feed-forward. -/
def ffnB (i : Fin 1024) : Fin 1024 → EReal :=
  Rows.ffn (resB x0 x1 x2 x3 i) (fun k => x4 (ix2 0 k)) (fun k j => x5 (ix2 k j)) (fun k j => x6 (ix2 k j)) (fun j d => x7 (ix2 j d))

/-- The row after the output projection and the residual. -/
theorem pay2_at (i d : Fin 1024) : k0_pay2 x0 x1 (top x3) x2 (bot x3) (ix2 i d) = resB x0 x1 x2 x3 i d := by
  pointwise [k0_pay2, top, bot, resB, Rows.res]

/-- That row times the norm's gain. -/
theorem pay3_at (i d : Fin 1024) : k0_pay3 x0 x1 (top x3) x2 (bot x3) x4 (ix2 i d) = resB x0 x1 x2 x3 i d * x4 (ix2 0 d) := by
  pointwise [k0_pay3, pay2_at]

/-- That row's norm factor. -/
theorem pay4_at (i : Fin 1024) : k0_pay4 x0 x1 (top x3) x2 (bot x3) (ix2 i 0) = Rows.fac (resB x0 x1 x2 x3 i) := by
  pointwise [k0_pay4, pay2_at, Rows.fac, Rows.len, Rows.eps]

/-- The feed-forward's inner row: the gated unit of the two projections. -/
theorem innerB_at (i : Fin 1024) (j : Fin 2816) : innerB x0 x1 x2 x3 x4 x5 x6 (ix2 i j)
    = Rows.unit (Rows.proj (resB x0 x1 x2 x3 i) (fun k => x4 (ix2 0 k)) fun k => x5 (ix2 k j))
        (Rows.proj (resB x0 x1 x2 x3 i) (fun k => x4 (ix2 0 k)) fun k => x6 (ix2 k j)) := by
  show unit (proj _ _ _ i j) (proj _ _ _ i j) = _
  simp only [unit, proj, pay3_at, pay4_at, Rows.unit, Rows.proj]

/-- The row after the feed-forward. -/
theorem pay24_at (i d : Fin 1024) : k0_pay24 (k0_pay2 x0 x1 (top x3) x2 (bot x3)) (innerB x0 x1 x2 x3 x4 x5 x6) x7 (ix2 i d) = ffnB x0 x1 x2 x3 x4 x5 x6 x7 i d := by
  pointwise [k0_pay24, pay2_at, innerB_at, ffnB, Rows.ffn, Rows.half]

/-- The norm factor of the row after the feed-forward. -/
theorem pay26_at (i d : Fin 1024) : k0_pay26 (k0_pay2 x0 x1 (top x3) x2 (bot x3)) (innerB x0 x1 x2 x3 x4 x5 x6) x7 (ix2 i d) = Rows.fac (ffnB x0 x1 x2 x3 x4 x5 x6 x7 i) := by
  pointwise [k0_pay26, pay24_at, Rows.fac, Rows.len, Rows.eps]

/-- The block, index by index. -/
theorem blockB_at (i d : Fin 1024) : blockB x0 x1 x2 x3 x4 x5 x6 x7 x8 (ix2 i d)
    = Rows.row (fun d => x0 (ix2 i d)) (fun k => x1 (ix2 i k)) (fun k => x2 (ix2 i k)) (fun k d => x3 (ix2 k d)) (fun k => x4 (ix2 0 k))
        (fun k j => x5 (ix2 k j)) (fun k j => x6 (ix2 k j)) (fun j d => x7 (ix2 j d)) (fun k => x8 (ix2 0 k)) d := by
  pointwise [blockB, k0_pay1, k0_pay25, pay24_at, pay26_at, Rows.row, Rows.norm, ffnB, resB]

end Cert.PostIdeal.Val

end
-- ==== Proof.PostVal.ValRun.lean ====
module

public import proofs.«01_k».proof.Proof.PostVal.Block

/-! The last call's run over the extended reals: its result array is `outP` of its arguments, row by row. -/

@[expose] public section

set_option maxRecDepth 16384

noncomputable section

namespace Cert.PostIdeal.Val

open Idealize.ShloMosaic Idealize.ShloMosaic.TcCoe Idealize.ShloMosaic.Tactic
open Idealize.SL.Sem
open Cert.PostIdeal Cert.PostIdeal.Gen
open Cert

/-- The result: row `n` is position `n % 8192` of sequence `n / 8192`. -/
def outP (A : Vec Ideal S4x8192x1024 .f32) (P Q : Vec Ideal S4x8192x512 .bf16) (W : Vec Ideal S1x1024x1024 .f32) (g : Vec Ideal S1x1024 .f32)
    (wg wu : Vec Ideal S1x1024x2816 .f32) (wd : Vec Ideal S1x2816x1024 .f32) (gf : Vec Ideal S1x1024 .f32) (n : Fin 32768) (d : Fin 1024) : EReal :=
  Rows.row (fun d => A (ix3 ⟨n.val / 8192, by omega⟩ ⟨n.val % 8192, by omega⟩ d)) (fun k => P (ix3 ⟨n.val / 8192, by omega⟩ ⟨n.val % 8192, by omega⟩ k))
    (fun k => Q (ix3 ⟨n.val / 8192, by omega⟩ ⟨n.val % 8192, by omega⟩ k)) (fun k d => W (ix3 0 k d)) (fun k => g (ix2 0 k))
    (fun k j => wg (ix3 0 k j)) (fun k j => wu (ix3 0 k j)) (fun j d => wd (ix3 0 j d)) (fun k => gf (ix2 0 k)) d

variable (m : (ℓ : Loc nD τ sig) → Buf (Elt Ideal) ℓ) (ρ : Dev nD → PrngReg)

/-- The result of the arguments as launched. -/
def gP (c : Dev nD) : Vec Ideal S32768x1024 .f32 := fun y =>
  outP (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (y 0) (y 1)

/-- Which block each window shows at a point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![t.val, 0] := by decide +kernel

/-- A point's block of rows. -/
theorem row_lt (t : Fin cfg0.N) (i : Fin 1024) : 1024 * t.val + i.val < 32768 := by have : t.val < 32 := t.isLt; omega

/-- A point's block of the call's first argument. -/
theorem iblk0_at (c : Dev nD) (t : Fin cfg0.N) (i d : Fin 1024) : iblk m c 0 t (ix2 i d)
    = m ((c : Thread nD τ).loc main_arg0) (ix3 ⟨(1024 * t.val + i.val) / 8192, by have := row_lt t i; omega⟩ ⟨(1024 * t.val + i.val) % 8192, by omega⟩ d) := by
  blk_ext! [iblk, V, idx t]

/-- A point's block of the call's second argument. -/
theorem iblk1_at (c : Dev nD) (t : Fin cfg0.N) (i : Fin 1024) (k : Fin 512) : iblk m c 1 t (ix2 i k)
    = m ((c : Thread nD τ).loc main_arg1) (ix3 ⟨(1024 * t.val + i.val) / 8192, by have := row_lt t i; omega⟩ ⟨(1024 * t.val + i.val) % 8192, by omega⟩ k) := by
  blk_ext! [iblk, V, idx t]

/-- A point's block of the call's third argument. -/
theorem iblk2_at (c : Dev nD) (t : Fin cfg0.N) (i : Fin 1024) (k : Fin 512) : iblk m c 2 t (ix2 i k)
    = m ((c : Thread nD τ).loc main_arg2) (ix3 ⟨(1024 * t.val + i.val) / 8192, by have := row_lt t i; omega⟩ ⟨(1024 * t.val + i.val) % 8192, by omega⟩ k) := by
  blk_ext! [iblk, V, idx t]

/-- A point's block of the call's fourth argument. -/
theorem iblk3_at (c : Dev nD) (t : Fin cfg0.N) (k d : Fin 1024) : iblk m c 3 t (ix2 k d) = m ((c : Thread nD τ).loc main_arg3) (ix3 0 k d) := by
  blk_ext! [iblk, V, idx t]

/-- A point's block of the call's fifth argument. -/
theorem iblk4_at (c : Dev nD) (t : Fin cfg0.N) (k : Fin 1024) : iblk m c 4 t (ix2 0 k) = m ((c : Thread nD τ).loc main_arg4) (ix2 0 k) := by
  blk_ext! [iblk, V, idx t]

/-- A point's block of the call's sixth argument. -/
theorem iblk5_at (c : Dev nD) (t : Fin cfg0.N) (k : Fin 1024) (j : Fin 2816) : iblk m c 5 t (ix2 k j) = m ((c : Thread nD τ).loc main_arg5) (ix3 0 k j) := by
  blk_ext! [iblk, V, idx t]

/-- A point's block of the call's seventh argument. -/
theorem iblk6_at (c : Dev nD) (t : Fin cfg0.N) (k : Fin 1024) (j : Fin 2816) : iblk m c 6 t (ix2 k j) = m ((c : Thread nD τ).loc main_arg6) (ix3 0 k j) := by
  blk_ext! [iblk, V, idx t]

/-- A point's block of the call's eighth argument. -/
theorem iblk7_at (c : Dev nD) (t : Fin cfg0.N) (j : Fin 2816) (d : Fin 1024) : iblk m c 7 t (ix2 j d) = m ((c : Thread nD τ).loc main_arg7) (ix3 0 j d) := by
  blk_ext! [iblk, V, idx t]

/-- A point's block of the call's ninth argument. -/
theorem iblk8_at (c : Dev nD) (t : Fin cfg0.N) (k : Fin 1024) : iblk m c 8 t (ix2 0 k) = m ((c : Thread nD τ).loc main_arg8) (ix2 0 k) := by
  blk_ext! [iblk, V, idx t]

/-- A point's output block is its block of the result. -/
theorem out_at (c : Dev nD) (t : Fin cfg0.N) (i d : Fin 1024) :
    outsAt0 m c t (ix2 i d) = gP m c (ix2 ⟨1024 * t.val + i.val, row_lt t i⟩ d) := by
  rw [body_out, blockB_at]
  simp only [iblk0_at, iblk1_at, iblk2_at, iblk3_at, iblk4_at, iblk5_at, iblk6_at, iblk7_at, iblk8_at]
  rfl

/-- The blocks written back make up the result. -/
theorem arr9 (c : Dev nD) : (dats m 0 c).arrAt 9 cfg0.N = gP m c := by
  refine (dats m 0 c).arrAt_eq_of_covers 9 _ (by decide +kernel) fun t hf y => ?_
  blk_simp
  rw [after0_9]
  obtain ⟨i, d, rfl⟩ : ∃ i d : Fin 1024, y = ix2 i d := ⟨y 0, y 1, by
    funext a; fin_cases a
    exacts [rfl, rfl]⟩
  rw [out_at]
  symm
  blk_ext [idx t]

/-- The run: the result array, and the arguments as they were. -/
theorem run : θ_run defs (onTc (τ := τ) (main (F := Ideal))) ⟨m, fun _ => 0, ρ⟩ (fun r => ∀ c : Dev nD,
      r.2.mem ((c.tc : Thread nD τ).loc main_v15) = gP m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (arr9 m c), (h c).2⟩) (Cert.PostIdeal.Value.run_blocks (F := Ideal) m ρ)

end Cert.PostIdeal.Val

end
-- ==== Proof.PostVal.Fac.lean ====
module

public import proofs.«01_k».proof.Proof.PostVal.Spec

/-! A row's factor is zero or a positive real, so that it may be drawn out of a sum of any extended reals. -/

@[expose] public section

noncomputable section

namespace Cert.Rows

open Idealize.ShloMosaic

/-- The row length as a real. -/
theorem len_eq : len = ((1024 : ℝ) : EReal) := by
  simp [len, Ideal.ofBits, Ideal.ieee, -EReal.coe_mul]; norm_num

/-- The small constant is a positive real. -/
theorem eps_pos : ∃ e : ℝ, 0 < e ∧ eps = (e : EReal) := by
  refine ⟨8796093 * 2 ^ (-43 : ℤ), by positivity, ?_⟩
  simp [eps, Ideal.ofBits, Ideal.ieee, -EReal.coe_mul]

/-- A square is not negative. -/
theorem sq_nonneg (x : EReal) : 0 ≤ x * x := by
  induction x with
  | bot => simp
  | top => simp
  | coe x => exact_mod_cast mul_self_nonneg x

/-- The argument of the root is positive. -/
theorem arg_pos (x : Fin 1024 → EReal) : 0 < Ideal.div (∑ d, x d * x d) len + eps := by
  obtain ⟨e, he, h⟩ := eps_pos
  have hs : 0 ≤ ∑ d, x d * x d := Finset.sum_nonneg fun d _ => sq_nonneg (x d)
  have hd : 0 ≤ Ideal.div (∑ d, x d * x d) len := by
    have hl : len ≠ 0 := by rw [len_eq]; norm_num
    rw [Ideal.div, if_neg hl]
    refine EReal.mul_nonneg hs ?_
    rw [len_eq, ← EReal.coe_inv]
    exact_mod_cast (by positivity : (0 : ℝ) ≤ (1024 : ℝ)⁻¹)
  have he' : (0 : EReal) < eps := by rw [h]; exact_mod_cast he
  exact lt_of_lt_of_le he' (le_add_of_nonneg_left hd)

/-- A row's factor is zero or a positive real. -/
theorem fac_real (x : Fin 1024 → EReal) : 0 ≤ fac x ∧ fac x ≠ ⊤ := by
  have h := arg_pos x
  unfold fac
  generalize Ideal.div (∑ d, x d * x d) len + eps = a at h
  induction a with
  | bot => simp at h
  | top =>
    have e : Ideal.rsqrt ⊤ = 0 := rfl
    rw [e]
    exact ⟨le_refl _, EReal.zero_ne_top⟩
  | coe a =>
    have ha : 0 < a := by exact_mod_cast h
    have e : Ideal.rsqrt (a : EReal) = (((Real.sqrt a)⁻¹ : ℝ) : EReal) := by
      have e' : Ideal.rsqrt (a : EReal) = if a < 0 then ⊥ else if a = 0 then ⊤ else (((Real.sqrt a)⁻¹ : ℝ) : EReal) := rfl
      rw [e', if_neg (not_lt.mpr ha.le), if_neg ha.ne']
    rw [e]
    exact ⟨by exact_mod_cast inv_nonneg.mpr (Real.sqrt_nonneg a), EReal.coe_ne_top _⟩

/-- Such a factor is drawn out of a sum. -/
theorem sum_mul_fac {ι : Type} (s : Finset ι) (f : ι → EReal) (r : EReal) (h : 0 ≤ r ∧ r ≠ ⊤) : (∑ k ∈ s, f k) * r = ∑ k ∈ s, f k * r := by
  classical
  induction s using Finset.induction_on with
  | empty => simp
  | insert a s ha ih => rw [Finset.sum_insert ha, Finset.sum_insert ha, EReal.right_distrib_of_nonneg_of_ne_top h.1 h.2, ih]

/-- The product of the normed row is the row's product times its factor. -/
theorem proj_eq (x g w : Fin 1024 → EReal) : ∑ k, x k * fac x * g k * w k = proj x g w := by
  rw [proj, sum_mul_fac _ _ _ (fac_real x)]
  exact Finset.sum_congr rfl fun k _ => by ac_rfl

end Cert.Rows

end
-- ==== Proof.PostVal.Ref.lean ====
module

public import proofs.«01_k».proof.Proof.PostVal.Fac
public import proofs.«01_k».proof.Proof.Gen.PostRefIdeal.Run
public import Idealize.ShloMosaic.Lib.IdealHost
public import Idealize.ShloMosaic.Lib.Pointwise

/-! The last call's reference over the extended reals, stage by stage. -/

@[expose] public section

set_option maxRecDepth 65536
set_option maxHeartbeats 4000000

noncomputable section

namespace Cert.PostRefIdeal.Rows

open Idealize.ShloMosaic Idealize.ShloMosaic.TcCoe Idealize.ShloMosaic.Tactic
open Cert.PostRefIdeal Cert.PostRefIdeal.Gen
open Cert.Rows (fac unit proj res ffn row len eps half)

/-- The residual of the output projection. -/
def xr (A : FVec Ideal S4x8192x1024 .f32) (P Q : FVec Ideal S4x8192x512 .bf16) (W : FVec Ideal S1x1024x1024 .f32) : FVec Ideal S4x8192x1024 .f32 :=
  addf A (Host.dotGeneral dot_S4x8192x1024_S1024x1024_S4x8192x1024_2_0_01_1_n_n none (concatenate S4x8192x1024 2 [⟨S4x8192x512, (extf .f32 P bitsLt_bf16_f32)⟩, ⟨S4x8192x512, (extf .f32 Q bitsLt_bf16_f32)⟩] concatenates_S4x8192x512_S4x8192x512_S4x8192x1024_d2) (shapeCast _ W shapeCasts_S1x1024x1024_S1024x1024))

/-- The rows' factors. -/
def rs (X : FVec Ideal S4x8192x1024 .f32) : FVec Ideal S4x8192x1 .f32 :=
  Host.rsqrt (addf (Host.divf (broadcastInDim S4x8192x1 ![0, 1] bcast_S4x8192_S4x8192x1_0_1 (Host.reduceAdd (mulf X X) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))

/-- The norm. -/
def nr (X : FVec Ideal S4x8192x1024 .f32) (g : FVec Ideal S1x1024 .f32) : FVec Ideal S4x8192x1024 .f32 :=
  mulf (mulf X (broadcastInDim S4x8192x1024 ![0, 1, 2] bcast_S4x8192x1_S4x8192x1024_0_1_2 (rs X))) (broadcastInDim S4x8192x1024 ![0, 1, 2] bcast_S1x1x1024_S4x8192x1024_0_1_2 (broadcastInDim S1x1x1024 ![2] bcast_S1024_S1x1x1024_2 (shapeCast _ g shapeCasts_S1x1024_S1024)))

/-- A product with the feed-forward's weights. -/
def pj (N : FVec Ideal S4x8192x1024 .f32) (w : FVec Ideal S1x1024x2816 .f32) : FVec Ideal S4x8192x2816 .f32 :=
  Host.dotGeneral dot_S4x8192x1024_S1024x2816_S4x8192x2816_2_0_01_1_n_n none N (shapeCast _ w shapeCasts_S1x1024x2816_S1024x2816)

/-- The gated units. -/
def gu (G U : FVec Ideal S4x8192x2816 .f32) : FVec Ideal S4x8192x2816 .f32 :=
  mulf (mulf G (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf G))))) U

/-- The feed-forward's half step. -/
def yr (X : FVec Ideal S4x8192x1024 .f32) (H : FVec Ideal S4x8192x2816 .f32) (wd : FVec Ideal S1x2816x1024 .f32) : FVec Ideal S4x8192x1024 .f32 :=
  addf X (mulf (broadcastInDim S4x8192x1024 ![] bcast_S_S4x8192x1024 (constant S_ .f32 0x3F000000#32)) (Host.dotGeneral dot_S4x8192x2816_S2816x1024_S4x8192x1024_2_0_01_1_n_n none H (shapeCast _ wd shapeCasts_S1x2816x1024_S2816x1024)))

/-- The feed-forward of the residual. -/
def ff (X : FVec Ideal S4x8192x1024 .f32) (g : FVec Ideal S1x1024 .f32) (wg wu : FVec Ideal S1x1024x2816 .f32) (wd : FVec Ideal S1x2816x1024 .f32) : FVec Ideal S4x8192x1024 .f32 :=
  yr X (gu (pj (nr X g) wg) (pj (nr X g) wu)) wd

/-- The result. -/
def ot (A : FVec Ideal S4x8192x1024 .f32) (P Q : FVec Ideal S4x8192x512 .bf16) (W : FVec Ideal S1x1024x1024 .f32) (g : FVec Ideal S1x1024 .f32)
    (wg wu : FVec Ideal S1x1024x2816 .f32) (wd : FVec Ideal S1x2816x1024 .f32) (gf : FVec Ideal S1x1024 .f32) : FVec Ideal S32768x1024 .f32 :=
  shapeCast _ (nr (ff (xr A P Q W) g wg wu wd) gf) shapeCasts_S4x8192x1024_S32768x1024

/-- The generated term is the last stage. -/
theorem res_eq (m : (ℓ : Loc nD τ sig) → Buf (Elt Ideal) ℓ) (c : Dev nD) :
    Cert.PostRefIdeal.Value.res_main_v45 m c = ot (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) := rfl

/-- The residual, row by row. -/
theorem xr_at (A : FVec Ideal S4x8192x1024 .f32) (P Q : FVec Ideal S4x8192x512 .bf16) (W : FVec Ideal S1x1024x1024 .f32) (b : Fin 4) (s : Fin 8192) (d : Fin 1024) :
    xr A P Q W (ix3 b s d) = res (fun d => A (ix3 b s d)) (fun k => P (ix3 b s k)) (fun k => Q (ix3 b s k)) (fun k d => W (ix3 0 k d)) d := by
  pointwise [xr, res]
  rw [add_assoc]

/-- A row's factor. -/
theorem rs_at (X : FVec Ideal S4x8192x1024 .f32) (b : Fin 4) (s : Fin 8192) : rs X (ix3 b s 0) = fac fun d => X (ix3 b s d) := by
  pointwise [rs, fac, len, eps]

/-- The norm, row by row. -/
theorem nr_at (X : FVec Ideal S4x8192x1024 .f32) (g : FVec Ideal S1x1024 .f32) (b : Fin 4) (s : Fin 8192) (d : Fin 1024) :
    nr X g (ix3 b s d) = Cert.Rows.norm (fun d => X (ix3 b s d)) (fun k => g (ix2 0 k)) d := by
  pointwise [nr, rs_at, Cert.Rows.norm]

/-- The feed-forward's products, row by row. -/
theorem pj_at (X : FVec Ideal S4x8192x1024 .f32) (g : FVec Ideal S1x1024 .f32) (w : FVec Ideal S1x1024x2816 .f32) (b : Fin 4) (s : Fin 8192) (j : Fin 2816) :
    pj (nr X g) w (ix3 b s j) = proj (fun d => X (ix3 b s d)) (fun k => g (ix2 0 k)) (fun k => w (ix3 0 k j)) := by
  rw [← Cert.Rows.proj_eq]
  pointwise [pj, nr_at, Cert.Rows.norm]

/-- The literal one. -/
theorem one_eq : Ideal.ofBits .f32 0x3F800000#32 = 1 := by
  simp [Ideal.ofBits, Ideal.ieee, -EReal.coe_mul]; norm_num

/-- The gated units, one by one. -/
theorem gu_at (G U : FVec Ideal S4x8192x2816 .f32) (b : Fin 4) (s : Fin 8192) (j : Fin 2816) :
    gu G U (ix3 b s j) = unit (G (ix3 b s j)) (U (ix3 b s j)) := by
  pointwise [gu, unit, Ideal.logistic, one_eq]

/-- The feed-forward, row by row. -/
theorem ff_at (X : FVec Ideal S4x8192x1024 .f32) (g : FVec Ideal S1x1024 .f32) (wg wu : FVec Ideal S1x1024x2816 .f32) (wd : FVec Ideal S1x2816x1024 .f32) (b : Fin 4) (s : Fin 8192) (d : Fin 1024) :
    ff X g wg wu wd (ix3 b s d) = ffn (fun d => X (ix3 b s d)) (fun k => g (ix2 0 k)) (fun k j => wg (ix3 0 k j)) (fun k j => wu (ix3 0 k j)) (fun j d => wd (ix3 0 j d)) d := by
  pointwise [ff, yr, gu_at, pj_at, ffn, half]

/-- The result, row by row. -/
theorem ot_at (A : FVec Ideal S4x8192x1024 .f32) (P Q : FVec Ideal S4x8192x512 .bf16) (W : FVec Ideal S1x1024x1024 .f32) (g : FVec Ideal S1x1024 .f32)
    (wg wu : FVec Ideal S1x1024x2816 .f32) (wd : FVec Ideal S1x2816x1024 .f32) (gf : FVec Ideal S1x1024 .f32) (n : Fin 32768) (d : Fin 1024) :
    ot A P Q W g wg wu wd gf (ix2 n d) = row (fun d => A (ix3 ⟨n.val / 8192, by omega⟩ ⟨n.val % 8192, by omega⟩ d)) (fun k => P (ix3 ⟨n.val / 8192, by omega⟩ ⟨n.val % 8192, by omega⟩ k))
      (fun k => Q (ix3 ⟨n.val / 8192, by omega⟩ ⟨n.val % 8192, by omega⟩ k)) (fun k d => W (ix3 0 k d)) (fun k => g (ix2 0 k))
      (fun k j => wg (ix3 0 k j)) (fun k j => wu (ix3 0 k j)) (fun j d => wd (ix3 0 j d)) (fun k => gf (ix2 0 k)) d := by
  pointwise [ot, nr_at, ff_at, xr_at, row]

end Cert.PostRefIdeal.Rows

end
-- ==== Proof.FirstVal.Body.lean ====
module

public import proofs.«01_k».proof.Proof.Gen.FirstIdeal.Value
public import Idealize.ShloMosaic.Lib.Pipeline.ValueKit
public import Idealize.ShloMosaic.Lib.Pipeline.ReadBack
public import Idealize.ShloMosaic.Lib.Pointwise
public import Idealize.ShloMosaic.Lib.IdealHost

/-! The feed-forward's inner array of a grid point of the first call: stored in eleven blocks of columns, it reads
back as one array. -/

@[expose] public section

set_option maxRecDepth 65536
set_option maxHeartbeats 4000000

noncomputable section

namespace Cert.FirstIdeal.Val

open Idealize.ShloMosaic Idealize.ShloMosaic.TcCoe Idealize.ShloMosaic.Tactic
open Cert.FirstIdeal Cert.FirstIdeal.Gen

section Inner

variable (h : FVec Ideal S512x1024 .bf16) (r : FVec Ideal S512x1 .f32) (x2 x3 : Vec Ideal S1024x2816 .bf16)

/-- A gated unit: the gate's product times its logistic, times the other product. -/
def unit (a b : EReal) : EReal := a * Ideal.logistic a * b

/-- A row's product with a column of weights, times the row's factor. -/
def proj (w : Vec Ideal S1024x2816 .bf16) (i : Fin 512) (j : Fin 2816) : EReal :=
  (∑ k : Fin 1024, h (ix2 i k) * w (ix2 k j)) * r (ix2 i 0)

/-- The inner array of the feed-forward. -/
def inner : Vec Ideal S512x2816 .bf16 := fun y => unit (proj h r x2 (y 0) (y 1)) (proj h r x3 (y 0) (y 1))

/-- A row's product with a column of a block of weights, times the row's factor. -/
def projT (w : Vec Ideal S1024x256 .bf16) (i : Fin 512) (j : Fin 256) : EReal :=
  (∑ k : Fin 1024, h (ix2 i k) * w (ix2 k j)) * r (ix2 i 0)

/-- A block of columns of the inner array, of the blocks of weights. -/
def tile (a b : Vec Ideal S1024x256 .bf16) : Vec Ideal S512x256 .bf16 := fun y => unit (projT h r a (y 0) (y 1)) (projT h r b (y 0) (y 1))

/-- A stored block of columns is the inner array's. -/
theorem tile_at (o : ℕ) (inw : ∀ a, (![0, o] : Fin 2 → ℕ) a + (![1024, 256] : Fin 2 → ℕ) a ≤ S1024x2816.size a)
    (inb : ∀ a, (![0, o] : Fin 2 → ℕ) a + (![512, 256] : Fin 2 → ℕ) a ≤ S512x2816.size a)
    (x : (Rect.unit (s := S512x2816) ![0, o] ![512, 256] inb).shape.Idx) :
    tile h r (View.ld x2 (Rect.unit ![0, o] ![1024, 256] inw)) (View.ld x3 (Rect.unit ![0, o] ![1024, 256] inw)) x
      = inner h r x2 x3 ((Rect.unit (s := S512x2816) ![0, o] ![512, 256] inb).emb x) := by
  have e0 : ((Rect.unit (s := S512x2816) ![0, o] ![512, 256] inb).emb x) 0 = x 0 := Fin.ext (by simp)
  have e1 : ((Rect.unit (s := S512x2816) ![0, o] ![512, 256] inb).emb x) 1 = ⟨o + (x 1).val, by have := inb 1; have := (x 1).isLt; simp at *; omega⟩ := Fin.ext (by simp)
  dsimp only [inner]
  rw [e0, e1]
  pointwise [tile, projT, proj, unit]

/-- The stored block of columns from `o` on. -/
def piece (o : ℕ) (inw : ∀ a, (![0, o] : Fin 2 → ℕ) a + (![1024, 256] : Fin 2 → ℕ) a ≤ S1024x2816.size a)
    (inb : ∀ a, (![0, o] : Fin 2 → ℕ) a + (![512, 256] : Fin 2 → ℕ) a ≤ S512x2816.size a) : View.Piece (Elt Ideal) S512x2816 .bf16 :=
  ⟨Rect.unit ![0, o] ![512, 256] inb, tile h r (View.ld x2 (Rect.unit ![0, o] ![1024, 256] inw)) (View.ld x3 (Rect.unit ![0, o] ![1024, 256] inw))⟩

/-- The eleven stored blocks. -/
def pieces : List (View.Piece (Elt Ideal) S512x2816 .bf16) :=
  [piece h r x2 x3 2560 inb_S1024x2816_S1024x256_0_2560 inb_S512x2816_S512x256_0_2560,
   piece h r x2 x3 2304 inb_S1024x2816_S1024x256_0_2304 inb_S512x2816_S512x256_0_2304,
   piece h r x2 x3 2048 inb_S1024x2816_S1024x256_0_2048 inb_S512x2816_S512x256_0_2048,
   piece h r x2 x3 1792 inb_S1024x2816_S1024x256_0_1792 inb_S512x2816_S512x256_0_1792,
   piece h r x2 x3 1536 inb_S1024x2816_S1024x256_0_1536 inb_S512x2816_S512x256_0_1536,
   piece h r x2 x3 1280 inb_S1024x2816_S1024x256_0_1280 inb_S512x2816_S512x256_0_1280,
   piece h r x2 x3 1024 inb_S1024x2816_S1024x256_0_1024 inb_S512x2816_S512x256_0_1024,
   piece h r x2 x3 768 inb_S1024x2816_S1024x256_0_768 inb_S512x2816_S512x256_0_768,
   piece h r x2 x3 512 inb_S1024x2816_S1024x256_0_512 inb_S512x2816_S512x256_0_512,
   piece h r x2 x3 256 inb_S1024x2816_S1024x256_0_256 inb_S512x2816_S512x256_0_256,
   piece h r x2 x3 0 inb_S1024x2816_S1024x256_0_0 inb_S512x2816_S512x256_0_0]

/-- The blocks read back as the inner array. -/
theorem read_inner : (View.whole cc0_scratch0).readCov (pieces h r x2 x3) (Rect.unit ![0, 0] ![512, 2816] inb_S512x2816_S512x2816_0_0).toLoadRect = inner h r x2 x3 := by
  have hc : ∀ y : S512x2816.Idx, ∃ p ∈ pieces h r x2 x3, y ∈ p.1.set := View.cover_of_tiledL (pieces h r x2 x3) ![512, 256] (by rfl)
  rw [View.readCov_eq_canon_ld _ _ _ hc, View.ld_unit_lit _ _ (by decide)]
  funext y
  have hp : View.PiecesOf (inner h r x2 x3) (pieces h r x2 x3) := by
    unfold pieces
    exact ⟨fun x => tile_at _ _ _ _ 2560 inb_S1024x2816_S1024x256_0_2560 inb_S512x2816_S512x256_0_2560 x, fun x => tile_at _ _ _ _ 2304 inb_S1024x2816_S1024x256_0_2304 inb_S512x2816_S512x256_0_2304 x, fun x => tile_at _ _ _ _ 2048 inb_S1024x2816_S1024x256_0_2048 inb_S512x2816_S512x256_0_2048 x, fun x => tile_at _ _ _ _ 1792 inb_S1024x2816_S1024x256_0_1792 inb_S512x2816_S512x256_0_1792 x, fun x => tile_at _ _ _ _ 1536 inb_S1024x2816_S1024x256_0_1536 inb_S512x2816_S512x256_0_1536 x, fun x => tile_at _ _ _ _ 1280 inb_S1024x2816_S1024x256_0_1280 inb_S512x2816_S512x256_0_1280 x, fun x => tile_at _ _ _ _ 1024 inb_S1024x2816_S1024x256_0_1024 inb_S512x2816_S512x256_0_1024 x, fun x => tile_at _ _ _ _ 768 inb_S1024x2816_S1024x256_0_768 inb_S512x2816_S512x256_0_768 x, fun x => tile_at _ _ _ _ 512 inb_S1024x2816_S1024x256_0_512 inb_S512x2816_S512x256_0_512 x, fun x => tile_at _ _ _ _ 256 inb_S1024x2816_S1024x256_0_256 inb_S512x2816_S512x256_0_256 x, fun x => tile_at _ _ _ _ 0 inb_S1024x2816_S1024x256_0_0 inb_S512x2816_S512x256_0_0 x, trivial⟩
  have := View.canon_append_of_piecesOf (inner h r x2 x3) [] (pieces h r x2 x3) hp y (hc y)
  rwa [List.append_nil] at this

end Inner

section Stores

variable (x0 : Vec Ideal S1x512x1024 .f32) (x1 : Vec Ideal S1x1024 .f32) (a b : Vec Ideal S1024x256 .bf16)

/-- One of the stored blocks of columns. -/
theorem store5 : k0_pay5 x0 x1 a b = tile (k0_pay3 x0 x1) (k0_pay4 x0) a b := by
  funext y
  pointwise [k0_pay5, tile, projT, unit]

/-- One of the stored blocks of columns. -/
theorem store7 : k0_pay7 (k0_pay3 x0 x1) (k0_pay4 x0) (k0_pay6 x0 x1 a) b = tile (k0_pay3 x0 x1) (k0_pay4 x0) a b := by
  funext y
  pointwise [k0_pay7, k0_pay6, tile, projT, unit]

/-- One of the stored blocks of columns. -/
theorem store8 : k0_pay8 (k0_pay3 x0 x1) (k0_pay4 x0) a b = tile (k0_pay3 x0 x1) (k0_pay4 x0) a b := by
  funext y
  pointwise [k0_pay8, tile, projT, unit]

/-- One of the stored blocks of columns. -/
theorem store12 : k0_pay12 (k0_pay9 (k0_pay3 x0 x1) (k0_pay4 x0) a) (k0_pay10 (k0_pay3 x0 x1) (k0_pay4 x0) b) (k0_pay11 (k0_pay3 x0 x1) (k0_pay4 x0) a) = tile (k0_pay3 x0 x1) (k0_pay4 x0) a b := by
  funext y
  pointwise [k0_pay12, k0_pay9, k0_pay10, k0_pay11, tile, projT, unit]

/-- One of the stored blocks of columns. -/
theorem store13 : k0_pay13 (k0_pay3 x0 x1) (k0_pay4 x0) a b = tile (k0_pay3 x0 x1) (k0_pay4 x0) a b := by
  funext y
  pointwise [k0_pay13, tile, projT, unit]

/-- One of the stored blocks of columns. -/
theorem store14 : k0_pay14 (k0_pay3 x0 x1) (k0_pay4 x0) a b = tile (k0_pay3 x0 x1) (k0_pay4 x0) a b := by
  funext y
  pointwise [k0_pay14, tile, projT, unit]

/-- One of the stored blocks of columns. -/
theorem store15 : k0_pay15 (k0_pay3 x0 x1) (k0_pay4 x0) a b = tile (k0_pay3 x0 x1) (k0_pay4 x0) a b := by
  funext y
  pointwise [k0_pay15, tile, projT, unit]

/-- One of the stored blocks of columns. -/
theorem store16 : k0_pay16 (k0_pay3 x0 x1) (k0_pay4 x0) a b = tile (k0_pay3 x0 x1) (k0_pay4 x0) a b := by
  funext y
  pointwise [k0_pay16, tile, projT, unit]

/-- One of the stored blocks of columns. -/
theorem store19 : k0_pay19 (k0_pay3 x0 x1) (k0_pay4 x0) (k0_pay17 (k0_pay3 x0 x1) a) (k0_pay18 (k0_pay4 x0)) b = tile (k0_pay3 x0 x1) (k0_pay4 x0) a b := by
  funext y
  pointwise [k0_pay19, k0_pay17, k0_pay18, tile, projT, unit]

/-- One of the stored blocks of columns. -/
theorem store20 : k0_pay20 (k0_pay3 x0 x1) (k0_pay4 x0) a b = tile (k0_pay3 x0 x1) (k0_pay4 x0) a b := by
  funext y
  pointwise [k0_pay20, tile, projT, unit]

/-- One of the stored blocks of columns. -/
theorem store24 : k0_pay24 (k0_pay21 (k0_pay3 x0 x1) (k0_pay4 x0) a) (k0_pay22 (k0_pay3 x0 x1) b) (k0_pay23 (k0_pay4 x0)) = tile (k0_pay3 x0 x1) (k0_pay4 x0) a b := by
  funext y
  pointwise [k0_pay24, k0_pay21, k0_pay22, k0_pay23, tile, projT, unit]

end Stores

end Cert.FirstIdeal.Val

end
-- ==== Proof.FirstVal.Out1.lean ====
module

public import proofs.«01_k».proof.Proof.FirstVal.Body
public import proofs.«01_k».proof.Proof.PostVal.Spec

/-! The first output of a grid point of the first call: the block after the feed-forward's half step. -/

@[expose] public section

set_option maxRecDepth 65536
set_option maxHeartbeats 4000000

noncomputable section

namespace Cert.FirstIdeal.Val

open Idealize.ShloMosaic Idealize.ShloMosaic.TcCoe Idealize.ShloMosaic.Tactic
open Cert.FirstIdeal Cert.FirstIdeal.Gen
open Cert

variable (m : (ℓ : Loc nD τ sig) → Buf (Elt Ideal) ℓ)

section Block

variable (x0 : Vec Ideal S1x512x1024 .f32) (x1 : Vec Ideal S1x1024 .f32) (x2 x3 : Vec Ideal S1024x2816 .bf16) (x4 : Vec Ideal S2816x1024 .bf16)

/-- The inner array of a block. -/
def innerB : Vec Ideal S512x2816 .bf16 := inner (k0_pay3 x0 x1) (k0_pay4 x0) x2 x3

/-- The row after the feed-forward. -/
def ffnB (i : Fin 512) : Fin 1024 → EReal :=
  Rows.ffn (fun d => x0 (ix3 0 i d)) (fun k => x1 (ix2 0 k)) (fun k j => x2 (ix2 k j)) (fun k j => x3 (ix2 k j)) (fun j d => x4 (ix2 j d))

/-- The row's factor. -/
theorem pay4_at (i : Fin 512) : k0_pay4 x0 (ix2 i 0) = Rows.fac fun d => x0 (ix3 0 i d) := by
  pointwise [k0_pay4, k0_pay2, Rows.fac, Rows.len, Rows.eps]

/-- The inner array, one by one. -/
theorem innerB_at (i : Fin 512) (j : Fin 2816) : innerB x0 x1 x2 x3 (ix2 i j)
    = Rows.unit (Rows.proj (fun d => x0 (ix3 0 i d)) (fun k => x1 (ix2 0 k)) fun k => x2 (ix2 k j))
        (Rows.proj (fun d => x0 (ix3 0 i d)) (fun k => x1 (ix2 0 k)) fun k => x3 (ix2 k j)) := by
  have h3 : ∀ k, k0_pay3 x0 x1 (ix2 i k) = x0 (ix3 0 i k) * x1 (ix2 0 k) := fun k => by pointwise [k0_pay3, k0_pay2]
  show unit (proj _ _ _ i j) (proj _ _ _ i j) = _
  simp only [unit, proj, h3, pay4_at, Rows.unit, Rows.proj]

/-- The rows after the feed-forward, one by one. -/
theorem pay25_at (i : Fin 512) (d : Fin 1024) : k0_pay25 (k0_pay2 x0) (innerB x0 x1 x2 x3) x4 (ix2 i d) = ffnB x0 x1 x2 x3 x4 i d := by
  pointwise [k0_pay25, k0_pay2, innerB_at, ffnB, Rows.ffn, Rows.half]

/-- The stored block, one by one. -/
theorem pay26_at (i : Fin 512) (d : Fin 1024) : k0_pay26 (k0_pay2 x0) (innerB x0 x1 x2 x3) x4 (ix3 0 i d) = ffnB x0 x1 x2 x3 x4 i d := by
  pointwise [k0_pay26, pay25_at]

end Block

/-- After a grid point its first output buffer holds the block after the feed-forward. -/
theorem body_out1 (c : Dev nD) (t : Fin cfg0.N) : (outsAt0 m c t).1 = k0_pay26 (k0_pay2 (iblk m c 0 t))
    (innerB (iblk m c 0 t) (iblk m c 1 t) (iblk m c 2 t) (iblk m c 3 t)) (iblk m c 4 t) := by
  unfold outsAt0
  dsimp only
  generalize iblk m c 0 t = x0, iblk m c 1 t = x1, iblk m c 2 t = x2, iblk m c 3 t = x3, iblk m c 4 t = x4
  frame_open
  simp (disch := decide) only [↓ View.readCov_skip, ↓ View.readCov_cons_toLoadRect, ↓ View.readCov_fill]
  frame_out
  simp only [store5, store7, store8, store12, store13, store14, store15, store16, store19, store20, store24]
  exact congrArg (fun z => k0_pay26 (k0_pay2 x0) z x4) (read_inner (k0_pay3 x0 x1) (k0_pay4 x0) x2 x3)

end Cert.FirstIdeal.Val

end
-- ==== Proof.FirstVal.Spec.lean ====
module

public import proofs.«01_k».proof.Proof.PostVal.Spec

/-! The heads' queries, keys and values of a layer, over the extended reals, from the normed rows of its stream. -/

@[expose] public section

noncomputable section

namespace Cert.Rows

open Idealize.ShloMosaic

/-- A head's norm: its entries times the factor of their mean square, times the gains. -/
def hn (p g : Fin 64 → EReal) (e : Fin 64) : EReal :=
  p e * Ideal.rsqrt (Ideal.div (∑ e, p e * p e) (Ideal.ofBits .f32 0x42800000#32) + eps) * g e

/-- The latent's norm. -/
def lat (p g : Fin 128 → EReal) (l : Fin 128) : EReal :=
  p l * Ideal.rsqrt (Ideal.div (∑ l, p l * p l) (Ideal.ofBits .f32 0x43000000#32) + eps) * g l

section Heads

variable (n : Fin 4 → Fin 8192 → Fin 1024 → EReal) (W : Fin 1024 → Fin 1952 → EReal) (g : Fin 64 → EReal)

/-- The normed rows' product with a column of the projection. -/
def col (b : Fin 4) (s : Fin 8192) (j : Fin 1952) : EReal := ∑ k, n b s k * W k j

/-- The first attention's queries: sequence, block of positions, feature, position in the block. -/
def qh (b : Fin 4) (a : Fin 32) (f : Fin 512) (r : Fin 256) : EReal :=
  hn (fun e => col n W b ⟨256 * a.val + r.val, by omega⟩ ⟨64 * (f.val / 64) + e.val, by omega⟩) (fun e => g e * Ideal.ofBits .f32 0x3E38AA3B#32)
    ⟨f.val % 64, by omega⟩

/-- The first attention's keys: sequence, position, feature. -/
def kh (b : Fin 4) (s : Fin 8192) (f : Fin 512) : EReal :=
  hn (fun e => col n W b s ⟨512 + (64 * (f.val / 64) + e.val), by omega⟩) g ⟨f.val % 64, by omega⟩

/-- The first attention's values: sequence, head, block of positions, feature, position in the block. -/
def vh (b : Fin 4) (h : Fin 8) (a : Fin 32) (e : Fin 64) (r : Fin 256) : EReal :=
  col n W b ⟨256 * a.val + r.val, by omega⟩ ⟨1024 + (64 * h.val + e.val), by omega⟩

/-- The second attention's values: sequence, head, block of positions, feature, position in the block. -/
def bh (gl : Fin 128 → EReal) (V : Fin 128 → Fin 1024 → EReal) (b : Fin 4) (h : Fin 8) (a : Fin 16) (e : Fin 64) (r : Fin 512) : EReal :=
  ∑ l, lat (fun l => col n W b ⟨512 * a.val + r.val, by omega⟩ ⟨1792 + l.val, by omega⟩) gl l * V l ⟨128 * h.val + 64 + e.val, by omega⟩

end Heads

end Cert.Rows

end
-- ==== Proof.FirstVal.Pay.lean ====
module

public import proofs.«01_k».proof.Proof.FirstVal.Out1
public import proofs.«01_k».proof.Proof.FirstVal.Spec

/-! The heads' norms of the first call's queries and keys, and the values, entry by entry, as the body stores them. -/

@[expose] public section

set_option maxRecDepth 65536
set_option maxHeartbeats 4000000

noncomputable section

namespace Cert.FirstIdeal.Val

open Idealize.ShloMosaic Idealize.ShloMosaic.TcCoe Idealize.ShloMosaic.Tactic
open Cert.FirstIdeal Cert.FirstIdeal.Gen
open Cert
open Cert.Rows (hn)

section Heads

variable (w : Vec Ideal S512x1024 .bf16) (x : FVec Ideal S512x1024 .bf16) (F : FVec Ideal S512x512 .f32) (G : FVec Ideal S64x512 .f32)

/-- The products with the projection's rows of the keys. -/
theorem pay32_at (f i : Fin 512) : k0_pay32 x w (ix2 f i) = ∑ k : Fin 1024, w (ix2 f k) * x (ix2 i k) := by pointwise [k0_pay32]
/-- The products with the projection's rows of the queries. -/
theorem pay34_at (f i : Fin 512) : k0_pay34 x (k0_pay33 w) (ix2 f i) = ∑ k : Fin 1024, w (ix2 f k) * x (ix2 i k) := by pointwise [k0_pay34, k0_pay33]
/-- The products with the projection's rows of the values. -/
theorem pay35_at (f i : Fin 512) : k0_pay35 x w (ix2 f i) = ∑ k : Fin 1024, w (ix2 f k) * x (ix2 i k) := by pointwise [k0_pay35]

/-- Head 0 of the keys is the norm of its products. -/
theorem key0_at (e : Fin 64) (i : Fin 512) : k0_pay43 F G (ix2 e i) = hn (fun e => F (ix2 ⟨0 + e.val, by omega⟩ i)) (fun e => G (ix2 e i)) e := by
  pointwise [k0_pay43, hn, Rows.eps]
/-- Head 1 of the keys is the norm of its products. -/
theorem key1_at (e : Fin 64) (i : Fin 512) : k0_pay50 F G (ix2 e i) = hn (fun e => F (ix2 ⟨64 + e.val, by omega⟩ i)) (fun e => G (ix2 e i)) e := by
  pointwise [k0_pay50, hn, Rows.eps]
/-- Head 2 of the keys is the norm of its products. -/
theorem key2_at (e : Fin 64) (i : Fin 512) : k0_pay57 F G (ix2 e i) = hn (fun e => F (ix2 ⟨128 + e.val, by omega⟩ i)) (fun e => G (ix2 e i)) e := by
  pointwise [k0_pay57, hn, Rows.eps]
/-- Head 3 of the keys is the norm of its products. -/
theorem key3_at (e : Fin 64) (i : Fin 512) : k0_pay65 F G (ix2 e i) = hn (fun e => F (ix2 ⟨192 + e.val, by omega⟩ i)) (fun e => G (ix2 e i)) e := by
  pointwise [k0_pay65, hn, Rows.eps]
/-- Head 4 of the keys is the norm of its products. -/
theorem key4_at (e : Fin 64) (i : Fin 512) : k0_pay73 G (k0_pay71 F) (k0_pay72 F) (ix2 e i) = hn (fun e => F (ix2 ⟨256 + e.val, by omega⟩ i)) (fun e => G (ix2 e i)) e := by
  pointwise [k0_pay71, k0_pay72, k0_pay73, hn, Rows.eps]
/-- Head 5 of the keys is the norm of its products. -/
theorem key5_at (e : Fin 64) (i : Fin 512) : k0_pay80 F G (ix2 e i) = hn (fun e => F (ix2 ⟨320 + e.val, by omega⟩ i)) (fun e => G (ix2 e i)) e := by
  pointwise [k0_pay80, hn, Rows.eps]
/-- Head 6 of the keys is the norm of its products. -/
theorem key6_at (e : Fin 64) (i : Fin 512) : k0_pay87 F G (ix2 e i) = hn (fun e => F (ix2 ⟨384 + e.val, by omega⟩ i)) (fun e => G (ix2 e i)) e := by
  pointwise [k0_pay87, hn, Rows.eps]
/-- The stored block of keys, entry by entry: feature `f` belongs to head `f / 64`. -/
def keyB : Vec Ideal S1x512x512 .bf16 := fun y =>
  hn (fun e => F (ix2 ⟨64 * ((y 2).val / 64) + e.val, by have : (y 2).val < 512 := (y 2).isLt; omega⟩ (y 1))) (fun e => G (ix2 e (y 1)))
    ⟨(y 2).val % 64, by omega⟩

/-- Head 0 of the keys, in the stored block. -/
theorem keyS0_at (i : Fin 512) (e : Fin 64) : k0_pay94 F G (k0_pay43 F G) (k0_pay50 F G) (k0_pay57 F G) (k0_pay65 F G) (k0_pay73 G (k0_pay71 F) (k0_pay72 F)) (k0_pay80 F G) (k0_pay87 F G) (ix3 0 i ⟨0 + e.val, by omega⟩)
    = hn (fun e => F (ix2 ⟨0 + e.val, by omega⟩ i)) (fun e => G (ix2 e i)) e := by
  pointwise [k0_pay94, key0_at]
/-- Head 1 of the keys, in the stored block. -/
theorem keyS1_at (i : Fin 512) (e : Fin 64) : k0_pay94 F G (k0_pay43 F G) (k0_pay50 F G) (k0_pay57 F G) (k0_pay65 F G) (k0_pay73 G (k0_pay71 F) (k0_pay72 F)) (k0_pay80 F G) (k0_pay87 F G) (ix3 0 i ⟨64 + e.val, by omega⟩)
    = hn (fun e => F (ix2 ⟨64 + e.val, by omega⟩ i)) (fun e => G (ix2 e i)) e := by
  pointwise [k0_pay94, key1_at]
/-- Head 2 of the keys, in the stored block. -/
theorem keyS2_at (i : Fin 512) (e : Fin 64) : k0_pay94 F G (k0_pay43 F G) (k0_pay50 F G) (k0_pay57 F G) (k0_pay65 F G) (k0_pay73 G (k0_pay71 F) (k0_pay72 F)) (k0_pay80 F G) (k0_pay87 F G) (ix3 0 i ⟨128 + e.val, by omega⟩)
    = hn (fun e => F (ix2 ⟨128 + e.val, by omega⟩ i)) (fun e => G (ix2 e i)) e := by
  pointwise [k0_pay94, key2_at]
  split_ifs <;> first | omega | exact congrArg _ (Fin.ext (by dsimp only; omega))
/-- Head 3 of the keys, in the stored block. -/
theorem keyS3_at (i : Fin 512) (e : Fin 64) : k0_pay94 F G (k0_pay43 F G) (k0_pay50 F G) (k0_pay57 F G) (k0_pay65 F G) (k0_pay73 G (k0_pay71 F) (k0_pay72 F)) (k0_pay80 F G) (k0_pay87 F G) (ix3 0 i ⟨192 + e.val, by omega⟩)
    = hn (fun e => F (ix2 ⟨192 + e.val, by omega⟩ i)) (fun e => G (ix2 e i)) e := by
  pointwise [k0_pay94, key3_at]
  split_ifs <;> first | omega | exact congrArg _ (Fin.ext (by dsimp only; omega))
/-- Head 4 of the keys, in the stored block. -/
theorem keyS4_at (i : Fin 512) (e : Fin 64) : k0_pay94 F G (k0_pay43 F G) (k0_pay50 F G) (k0_pay57 F G) (k0_pay65 F G) (k0_pay73 G (k0_pay71 F) (k0_pay72 F)) (k0_pay80 F G) (k0_pay87 F G) (ix3 0 i ⟨256 + e.val, by omega⟩)
    = hn (fun e => F (ix2 ⟨256 + e.val, by omega⟩ i)) (fun e => G (ix2 e i)) e := by
  pointwise [k0_pay94, key4_at]
  split_ifs <;> first | omega | exact congrArg _ (Fin.ext (by dsimp only; omega))
/-- Head 5 of the keys, in the stored block. -/
theorem keyS5_at (i : Fin 512) (e : Fin 64) : k0_pay94 F G (k0_pay43 F G) (k0_pay50 F G) (k0_pay57 F G) (k0_pay65 F G) (k0_pay73 G (k0_pay71 F) (k0_pay72 F)) (k0_pay80 F G) (k0_pay87 F G) (ix3 0 i ⟨320 + e.val, by omega⟩)
    = hn (fun e => F (ix2 ⟨320 + e.val, by omega⟩ i)) (fun e => G (ix2 e i)) e := by
  pointwise [k0_pay94, key5_at]
  split_ifs <;> first | omega | exact congrArg _ (Fin.ext (by dsimp only; omega))
/-- Head 6 of the keys, in the stored block. -/
theorem keyS6_at (i : Fin 512) (e : Fin 64) : k0_pay94 F G (k0_pay43 F G) (k0_pay50 F G) (k0_pay57 F G) (k0_pay65 F G) (k0_pay73 G (k0_pay71 F) (k0_pay72 F)) (k0_pay80 F G) (k0_pay87 F G) (ix3 0 i ⟨384 + e.val, by omega⟩)
    = hn (fun e => F (ix2 ⟨384 + e.val, by omega⟩ i)) (fun e => G (ix2 e i)) e := by
  pointwise [k0_pay94, key6_at]
  split_ifs <;> first | omega | exact congrArg _ (Fin.ext (by dsimp only; omega))
/-- Head 7 of the keys, in the stored block. -/
theorem keyS7_at (i : Fin 512) (e : Fin 64) : k0_pay94 F G (k0_pay43 F G) (k0_pay50 F G) (k0_pay57 F G) (k0_pay65 F G) (k0_pay73 G (k0_pay71 F) (k0_pay72 F)) (k0_pay80 F G) (k0_pay87 F G) (ix3 0 i ⟨448 + e.val, by omega⟩)
    = hn (fun e => F (ix2 ⟨448 + e.val, by omega⟩ i)) (fun e => G (ix2 e i)) e := by
  pointwise [k0_pay94, hn, Rows.eps]
  have q : 448 + e.val - 64 - 64 - 64 - 64 - 64 - 64 - 64 = e.val := by omega
  rw [dif_neg (by omega), dif_neg (by omega), dif_neg (by omega), dif_neg (by omega), dif_neg (by omega), dif_neg (by omega), dif_neg (by omega)]
  simp only [q]
variable (g : Vec Ideal S64x512 .f32)

/-- The stored tile of head 0 of the queries, block 0 of positions. -/
theorem q00_at (z : S1x1x64x256.Idx) : k0_pay39 x (k0_pay33 w) g z
    = hn (fun e => (k0_pay34 x (k0_pay33 w)) (ix2 ⟨0 + e.val, by omega⟩ ⟨0 + (z 3).val, by have : (z 3).val < 256 := (z 3).isLt; omega⟩)) (fun e => g (ix2 e ⟨0 + (z 3).val, by have : (z 3).val < 256 := (z 3).isLt; omega⟩)) (z 2) := by
  obtain ⟨a, b, e, r, rfl⟩ : ∃ (a b : Fin 1) (e : Fin 64) (r : Fin 256), z = ix4 a b e r := ⟨z 0, z 1, z 2, z 3, by
    funext a; fin_cases a
    exacts [rfl, rfl, rfl, rfl]⟩
  pointwise [k0_pay39, k0_pay38, k0_pay36, hn, Rows.eps]
/-- The stored tile of head 0 of the queries, block 1 of positions. -/
theorem q01_at (z : S1x1x64x256.Idx) : k0_pay41 x (k0_pay33 w) g z
    = hn (fun e => (k0_pay34 x (k0_pay33 w)) (ix2 ⟨0 + e.val, by omega⟩ ⟨256 + (z 3).val, by have : (z 3).val < 256 := (z 3).isLt; omega⟩)) (fun e => g (ix2 e ⟨256 + (z 3).val, by have : (z 3).val < 256 := (z 3).isLt; omega⟩)) (z 2) := by
  obtain ⟨a, b, e, r, rfl⟩ : ∃ (a b : Fin 1) (e : Fin 64) (r : Fin 256), z = ix4 a b e r := ⟨z 0, z 1, z 2, z 3, by
    funext a; fin_cases a
    exacts [rfl, rfl, rfl, rfl]⟩
  pointwise [k0_pay41, k0_pay38, k0_pay36, hn, Rows.eps]
/-- The stored tile of head 1 of the queries, block 0 of positions. -/
theorem q10_at (z : S1x1x64x256.Idx) : k0_pay45 F (k0_pay36 g) z
    = hn (fun e => F (ix2 ⟨64 + e.val, by omega⟩ ⟨0 + (z 3).val, by have : (z 3).val < 256 := (z 3).isLt; omega⟩)) (fun e => g (ix2 e ⟨0 + (z 3).val, by have : (z 3).val < 256 := (z 3).isLt; omega⟩)) (z 2) := by
  obtain ⟨a, b, e, r, rfl⟩ : ∃ (a b : Fin 1) (e : Fin 64) (r : Fin 256), z = ix4 a b e r := ⟨z 0, z 1, z 2, z 3, by
    funext a; fin_cases a
    exacts [rfl, rfl, rfl, rfl]⟩
  pointwise [k0_pay45, k0_pay44, k0_pay36, hn, Rows.eps]
/-- The stored tile of head 1 of the queries, block 1 of positions. -/
theorem q11_at (z : S1x1x64x256.Idx) : k0_pay48 (k0_pay44 F (k0_pay36 g)) z
    = hn (fun e => F (ix2 ⟨64 + e.val, by omega⟩ ⟨256 + (z 3).val, by have : (z 3).val < 256 := (z 3).isLt; omega⟩)) (fun e => g (ix2 e ⟨256 + (z 3).val, by have : (z 3).val < 256 := (z 3).isLt; omega⟩)) (z 2) := by
  obtain ⟨a, b, e, r, rfl⟩ : ∃ (a b : Fin 1) (e : Fin 64) (r : Fin 256), z = ix4 a b e r := ⟨z 0, z 1, z 2, z 3, by
    funext a; fin_cases a
    exacts [rfl, rfl, rfl, rfl]⟩
  pointwise [k0_pay48, k0_pay44, k0_pay36, hn, Rows.eps]
/-- The stored tile of head 2 of the queries, block 0 of positions. -/
theorem q20_at (z : S1x1x64x256.Idx) : k0_pay53 (k0_pay52 F (k0_pay36 g)) z
    = hn (fun e => F (ix2 ⟨128 + e.val, by omega⟩ ⟨0 + (z 3).val, by have : (z 3).val < 256 := (z 3).isLt; omega⟩)) (fun e => g (ix2 e ⟨0 + (z 3).val, by have : (z 3).val < 256 := (z 3).isLt; omega⟩)) (z 2) := by
  obtain ⟨a, b, e, r, rfl⟩ : ∃ (a b : Fin 1) (e : Fin 64) (r : Fin 256), z = ix4 a b e r := ⟨z 0, z 1, z 2, z 3, by
    funext a; fin_cases a
    exacts [rfl, rfl, rfl, rfl]⟩
  pointwise [k0_pay53, k0_pay52, k0_pay51, k0_pay36, hn, Rows.eps]
/-- The stored tile of head 2 of the queries, block 1 of positions. -/
theorem q21_at (z : S1x1x64x256.Idx) : k0_pay55 (k0_pay51 F (k0_pay36 g)) z
    = hn (fun e => F (ix2 ⟨128 + e.val, by omega⟩ ⟨256 + (z 3).val, by have : (z 3).val < 256 := (z 3).isLt; omega⟩)) (fun e => g (ix2 e ⟨256 + (z 3).val, by have : (z 3).val < 256 := (z 3).isLt; omega⟩)) (z 2) := by
  obtain ⟨a, b, e, r, rfl⟩ : ∃ (a b : Fin 1) (e : Fin 64) (r : Fin 256), z = ix4 a b e r := ⟨z 0, z 1, z 2, z 3, by
    funext a; fin_cases a
    exacts [rfl, rfl, rfl, rfl]⟩
  pointwise [k0_pay55, k0_pay51, k0_pay36, hn, Rows.eps]
/-- The stored tile of head 3 of the queries, block 0 of positions. -/
theorem q30_at (z : S1x1x64x256.Idx) : k0_pay61 (k0_pay36 g) (k0_pay58 F) (k0_pay59 F) z
    = hn (fun e => F (ix2 ⟨192 + e.val, by omega⟩ ⟨0 + (z 3).val, by have : (z 3).val < 256 := (z 3).isLt; omega⟩)) (fun e => g (ix2 e ⟨0 + (z 3).val, by have : (z 3).val < 256 := (z 3).isLt; omega⟩)) (z 2) := by
  obtain ⟨a, b, e, r, rfl⟩ : ∃ (a b : Fin 1) (e : Fin 64) (r : Fin 256), z = ix4 a b e r := ⟨z 0, z 1, z 2, z 3, by
    funext a; fin_cases a
    exacts [rfl, rfl, rfl, rfl]⟩
  pointwise [k0_pay61, k0_pay60, k0_pay59, k0_pay58, k0_pay36, hn, Rows.eps]
/-- The stored tile of head 3 of the queries, block 1 of positions. -/
theorem q31_at (z : S1x1x64x256.Idx) : k0_pay63 (k0_pay36 g) (k0_pay58 F) (k0_pay59 F) z
    = hn (fun e => F (ix2 ⟨192 + e.val, by omega⟩ ⟨256 + (z 3).val, by have : (z 3).val < 256 := (z 3).isLt; omega⟩)) (fun e => g (ix2 e ⟨256 + (z 3).val, by have : (z 3).val < 256 := (z 3).isLt; omega⟩)) (z 2) := by
  obtain ⟨a, b, e, r, rfl⟩ : ∃ (a b : Fin 1) (e : Fin 64) (r : Fin 256), z = ix4 a b e r := ⟨z 0, z 1, z 2, z 3, by
    funext a; fin_cases a
    exacts [rfl, rfl, rfl, rfl]⟩
  pointwise [k0_pay63, k0_pay60, k0_pay59, k0_pay58, k0_pay36, hn, Rows.eps]
/-- The stored tile of head 4 of the queries, block 0 of positions. -/
theorem q40_at (z : S1x1x64x256.Idx) : k0_pay67 F (k0_pay36 g) z
    = hn (fun e => F (ix2 ⟨256 + e.val, by omega⟩ ⟨0 + (z 3).val, by have : (z 3).val < 256 := (z 3).isLt; omega⟩)) (fun e => g (ix2 e ⟨0 + (z 3).val, by have : (z 3).val < 256 := (z 3).isLt; omega⟩)) (z 2) := by
  obtain ⟨a, b, e, r, rfl⟩ : ∃ (a b : Fin 1) (e : Fin 64) (r : Fin 256), z = ix4 a b e r := ⟨z 0, z 1, z 2, z 3, by
    funext a; fin_cases a
    exacts [rfl, rfl, rfl, rfl]⟩
  pointwise [k0_pay67, k0_pay66, k0_pay36, hn, Rows.eps]
/-- The stored tile of head 4 of the queries, block 1 of positions. -/
theorem q41_at (z : S1x1x64x256.Idx) : k0_pay69 F (k0_pay36 g) z
    = hn (fun e => F (ix2 ⟨256 + e.val, by omega⟩ ⟨256 + (z 3).val, by have : (z 3).val < 256 := (z 3).isLt; omega⟩)) (fun e => g (ix2 e ⟨256 + (z 3).val, by have : (z 3).val < 256 := (z 3).isLt; omega⟩)) (z 2) := by
  obtain ⟨a, b, e, r, rfl⟩ : ∃ (a b : Fin 1) (e : Fin 64) (r : Fin 256), z = ix4 a b e r := ⟨z 0, z 1, z 2, z 3, by
    funext a; fin_cases a
    exacts [rfl, rfl, rfl, rfl]⟩
  pointwise [k0_pay69, k0_pay66, k0_pay36, hn, Rows.eps]
/-- The stored tile of head 5 of the queries, block 0 of positions. -/
theorem q50_at (z : S1x1x64x256.Idx) : k0_pay75 F (k0_pay36 g) z
    = hn (fun e => F (ix2 ⟨320 + e.val, by omega⟩ ⟨0 + (z 3).val, by have : (z 3).val < 256 := (z 3).isLt; omega⟩)) (fun e => g (ix2 e ⟨0 + (z 3).val, by have : (z 3).val < 256 := (z 3).isLt; omega⟩)) (z 2) := by
  obtain ⟨a, b, e, r, rfl⟩ : ∃ (a b : Fin 1) (e : Fin 64) (r : Fin 256), z = ix4 a b e r := ⟨z 0, z 1, z 2, z 3, by
    funext a; fin_cases a
    exacts [rfl, rfl, rfl, rfl]⟩
  pointwise [k0_pay75, k0_pay74, k0_pay36, hn, Rows.eps]
/-- The stored tile of head 5 of the queries, block 1 of positions. -/
theorem q51_at (z : S1x1x64x256.Idx) : k0_pay77 F (k0_pay36 g) z
    = hn (fun e => F (ix2 ⟨320 + e.val, by omega⟩ ⟨256 + (z 3).val, by have : (z 3).val < 256 := (z 3).isLt; omega⟩)) (fun e => g (ix2 e ⟨256 + (z 3).val, by have : (z 3).val < 256 := (z 3).isLt; omega⟩)) (z 2) := by
  obtain ⟨a, b, e, r, rfl⟩ : ∃ (a b : Fin 1) (e : Fin 64) (r : Fin 256), z = ix4 a b e r := ⟨z 0, z 1, z 2, z 3, by
    funext a; fin_cases a
    exacts [rfl, rfl, rfl, rfl]⟩
  pointwise [k0_pay77, k0_pay74, k0_pay36, hn, Rows.eps]
/-- The stored tile of head 6 of the queries, block 0 of positions. -/
theorem q60_at (z : S1x1x64x256.Idx) : k0_pay82 F (k0_pay36 g) z
    = hn (fun e => F (ix2 ⟨384 + e.val, by omega⟩ ⟨0 + (z 3).val, by have : (z 3).val < 256 := (z 3).isLt; omega⟩)) (fun e => g (ix2 e ⟨0 + (z 3).val, by have : (z 3).val < 256 := (z 3).isLt; omega⟩)) (z 2) := by
  obtain ⟨a, b, e, r, rfl⟩ : ∃ (a b : Fin 1) (e : Fin 64) (r : Fin 256), z = ix4 a b e r := ⟨z 0, z 1, z 2, z 3, by
    funext a; fin_cases a
    exacts [rfl, rfl, rfl, rfl]⟩
  pointwise [k0_pay82, k0_pay81, k0_pay36, hn, Rows.eps]
/-- The stored tile of head 6 of the queries, block 1 of positions. -/
theorem q61_at (z : S1x1x64x256.Idx) : k0_pay85 (k0_pay84 F (k0_pay36 g)) z
    = hn (fun e => F (ix2 ⟨384 + e.val, by omega⟩ ⟨256 + (z 3).val, by have : (z 3).val < 256 := (z 3).isLt; omega⟩)) (fun e => g (ix2 e ⟨256 + (z 3).val, by have : (z 3).val < 256 := (z 3).isLt; omega⟩)) (z 2) := by
  obtain ⟨a, b, e, r, rfl⟩ : ∃ (a b : Fin 1) (e : Fin 64) (r : Fin 256), z = ix4 a b e r := ⟨z 0, z 1, z 2, z 3, by
    funext a; fin_cases a
    exacts [rfl, rfl, rfl, rfl]⟩
  pointwise [k0_pay85, k0_pay84, k0_pay81, k0_pay36, hn, Rows.eps]
/-- The stored tile of head 7 of the queries, block 0 of positions. -/
theorem q70_at (z : S1x1x64x256.Idx) : k0_pay89 F (k0_pay36 g) z
    = hn (fun e => F (ix2 ⟨448 + e.val, by omega⟩ ⟨0 + (z 3).val, by have : (z 3).val < 256 := (z 3).isLt; omega⟩)) (fun e => g (ix2 e ⟨0 + (z 3).val, by have : (z 3).val < 256 := (z 3).isLt; omega⟩)) (z 2) := by
  obtain ⟨a, b, e, r, rfl⟩ : ∃ (a b : Fin 1) (e : Fin 64) (r : Fin 256), z = ix4 a b e r := ⟨z 0, z 1, z 2, z 3, by
    funext a; fin_cases a
    exacts [rfl, rfl, rfl, rfl]⟩
  pointwise [k0_pay89, k0_pay88, k0_pay36, hn, Rows.eps]
/-- The stored tile of head 7 of the queries, block 1 of positions. -/
theorem q71_at (z : S1x1x64x256.Idx) : k0_pay92 (k0_pay88 F (k0_pay36 g)) z
    = hn (fun e => F (ix2 ⟨448 + e.val, by omega⟩ ⟨256 + (z 3).val, by have : (z 3).val < 256 := (z 3).isLt; omega⟩)) (fun e => g (ix2 e ⟨256 + (z 3).val, by have : (z 3).val < 256 := (z 3).isLt; omega⟩)) (z 2) := by
  obtain ⟨a, b, e, r, rfl⟩ : ∃ (a b : Fin 1) (e : Fin 64) (r : Fin 256), z = ix4 a b e r := ⟨z 0, z 1, z 2, z 3, by
    funext a; fin_cases a
    exacts [rfl, rfl, rfl, rfl]⟩
  pointwise [k0_pay92, k0_pay88, k0_pay36, hn, Rows.eps]
/-- The stored tile of head 0 of the values, block 0 of positions. -/
theorem v00_at (z : S1x1x1x64x256.Idx) : k0_pay40 x w z
    = k0_pay35 x w (ix2 ⟨0 + (z 3).val, by have : (z 3).val < 64 := (z 3).isLt; omega⟩ ⟨0 + (z 4).val, by have : (z 4).val < 256 := (z 4).isLt; omega⟩) := by
  obtain ⟨a, b, d, e, r, rfl⟩ : ∃ (a b d : Fin 1) (e : Fin 64) (r : Fin 256), z = ix5 a b d e r := ⟨z 0, z 1, z 2, z 3, z 4, by
    funext a; fin_cases a
    exacts [rfl, rfl, rfl, rfl, rfl]⟩
  pointwise [k0_pay40]
/-- The stored tile of head 0 of the values, block 1 of positions. -/
theorem v01_at (z : S1x1x1x64x256.Idx) : k0_pay42 F z
    = F (ix2 ⟨0 + (z 3).val, by have : (z 3).val < 64 := (z 3).isLt; omega⟩ ⟨256 + (z 4).val, by have : (z 4).val < 256 := (z 4).isLt; omega⟩) := by
  obtain ⟨a, b, d, e, r, rfl⟩ : ∃ (a b d : Fin 1) (e : Fin 64) (r : Fin 256), z = ix5 a b d e r := ⟨z 0, z 1, z 2, z 3, z 4, by
    funext a; fin_cases a
    exacts [rfl, rfl, rfl, rfl, rfl]⟩
  pointwise [k0_pay42]
/-- The stored tile of head 1 of the values, block 0 of positions. -/
theorem v10_at (z : S1x1x1x64x256.Idx) : k0_pay47 (k0_pay46 F) z
    = F (ix2 ⟨64 + (z 3).val, by have : (z 3).val < 64 := (z 3).isLt; omega⟩ ⟨0 + (z 4).val, by have : (z 4).val < 256 := (z 4).isLt; omega⟩) := by
  obtain ⟨a, b, d, e, r, rfl⟩ : ∃ (a b d : Fin 1) (e : Fin 64) (r : Fin 256), z = ix5 a b d e r := ⟨z 0, z 1, z 2, z 3, z 4, by
    funext a; fin_cases a
    exacts [rfl, rfl, rfl, rfl, rfl]⟩
  pointwise [k0_pay47, k0_pay46]
/-- The stored tile of head 1 of the values, block 1 of positions. -/
theorem v11_at (z : S1x1x1x64x256.Idx) : k0_pay49 F z
    = F (ix2 ⟨64 + (z 3).val, by have : (z 3).val < 64 := (z 3).isLt; omega⟩ ⟨256 + (z 4).val, by have : (z 4).val < 256 := (z 4).isLt; omega⟩) := by
  obtain ⟨a, b, d, e, r, rfl⟩ : ∃ (a b d : Fin 1) (e : Fin 64) (r : Fin 256), z = ix5 a b d e r := ⟨z 0, z 1, z 2, z 3, z 4, by
    funext a; fin_cases a
    exacts [rfl, rfl, rfl, rfl, rfl]⟩
  pointwise [k0_pay49]
/-- The stored tile of head 2 of the values, block 0 of positions. -/
theorem v20_at (z : S1x1x1x64x256.Idx) : k0_pay54 F z
    = F (ix2 ⟨128 + (z 3).val, by have : (z 3).val < 64 := (z 3).isLt; omega⟩ ⟨0 + (z 4).val, by have : (z 4).val < 256 := (z 4).isLt; omega⟩) := by
  obtain ⟨a, b, d, e, r, rfl⟩ : ∃ (a b d : Fin 1) (e : Fin 64) (r : Fin 256), z = ix5 a b d e r := ⟨z 0, z 1, z 2, z 3, z 4, by
    funext a; fin_cases a
    exacts [rfl, rfl, rfl, rfl, rfl]⟩
  pointwise [k0_pay54]
/-- The stored tile of head 2 of the values, block 1 of positions. -/
theorem v21_at (z : S1x1x1x64x256.Idx) : k0_pay56 F z
    = F (ix2 ⟨128 + (z 3).val, by have : (z 3).val < 64 := (z 3).isLt; omega⟩ ⟨256 + (z 4).val, by have : (z 4).val < 256 := (z 4).isLt; omega⟩) := by
  obtain ⟨a, b, d, e, r, rfl⟩ : ∃ (a b d : Fin 1) (e : Fin 64) (r : Fin 256), z = ix5 a b d e r := ⟨z 0, z 1, z 2, z 3, z 4, by
    funext a; fin_cases a
    exacts [rfl, rfl, rfl, rfl, rfl]⟩
  pointwise [k0_pay56]
/-- The stored tile of head 3 of the values, block 0 of positions. -/
theorem v30_at (z : S1x1x1x64x256.Idx) : k0_pay62 F z
    = F (ix2 ⟨192 + (z 3).val, by have : (z 3).val < 64 := (z 3).isLt; omega⟩ ⟨0 + (z 4).val, by have : (z 4).val < 256 := (z 4).isLt; omega⟩) := by
  obtain ⟨a, b, d, e, r, rfl⟩ : ∃ (a b d : Fin 1) (e : Fin 64) (r : Fin 256), z = ix5 a b d e r := ⟨z 0, z 1, z 2, z 3, z 4, by
    funext a; fin_cases a
    exacts [rfl, rfl, rfl, rfl, rfl]⟩
  pointwise [k0_pay62]
/-- The stored tile of head 3 of the values, block 1 of positions. -/
theorem v31_at (z : S1x1x1x64x256.Idx) : k0_pay64 F z
    = F (ix2 ⟨192 + (z 3).val, by have : (z 3).val < 64 := (z 3).isLt; omega⟩ ⟨256 + (z 4).val, by have : (z 4).val < 256 := (z 4).isLt; omega⟩) := by
  obtain ⟨a, b, d, e, r, rfl⟩ : ∃ (a b d : Fin 1) (e : Fin 64) (r : Fin 256), z = ix5 a b d e r := ⟨z 0, z 1, z 2, z 3, z 4, by
    funext a; fin_cases a
    exacts [rfl, rfl, rfl, rfl, rfl]⟩
  pointwise [k0_pay64]
/-- The stored tile of head 4 of the values, block 0 of positions. -/
theorem v40_at (z : S1x1x1x64x256.Idx) : k0_pay68 F z
    = F (ix2 ⟨256 + (z 3).val, by have : (z 3).val < 64 := (z 3).isLt; omega⟩ ⟨0 + (z 4).val, by have : (z 4).val < 256 := (z 4).isLt; omega⟩) := by
  obtain ⟨a, b, d, e, r, rfl⟩ : ∃ (a b d : Fin 1) (e : Fin 64) (r : Fin 256), z = ix5 a b d e r := ⟨z 0, z 1, z 2, z 3, z 4, by
    funext a; fin_cases a
    exacts [rfl, rfl, rfl, rfl, rfl]⟩
  pointwise [k0_pay68]
/-- The stored tile of head 4 of the values, block 1 of positions. -/
theorem v41_at (z : S1x1x1x64x256.Idx) : k0_pay70 F z
    = F (ix2 ⟨256 + (z 3).val, by have : (z 3).val < 64 := (z 3).isLt; omega⟩ ⟨256 + (z 4).val, by have : (z 4).val < 256 := (z 4).isLt; omega⟩) := by
  obtain ⟨a, b, d, e, r, rfl⟩ : ∃ (a b d : Fin 1) (e : Fin 64) (r : Fin 256), z = ix5 a b d e r := ⟨z 0, z 1, z 2, z 3, z 4, by
    funext a; fin_cases a
    exacts [rfl, rfl, rfl, rfl, rfl]⟩
  pointwise [k0_pay70]
/-- The stored tile of head 5 of the values, block 0 of positions. -/
theorem v50_at (z : S1x1x1x64x256.Idx) : k0_pay76 F z
    = F (ix2 ⟨320 + (z 3).val, by have : (z 3).val < 64 := (z 3).isLt; omega⟩ ⟨0 + (z 4).val, by have : (z 4).val < 256 := (z 4).isLt; omega⟩) := by
  obtain ⟨a, b, d, e, r, rfl⟩ : ∃ (a b d : Fin 1) (e : Fin 64) (r : Fin 256), z = ix5 a b d e r := ⟨z 0, z 1, z 2, z 3, z 4, by
    funext a; fin_cases a
    exacts [rfl, rfl, rfl, rfl, rfl]⟩
  pointwise [k0_pay76]
/-- The stored tile of head 5 of the values, block 1 of positions. -/
theorem v51_at (z : S1x1x1x64x256.Idx) : k0_pay79 (k0_pay78 F) z
    = F (ix2 ⟨320 + (z 3).val, by have : (z 3).val < 64 := (z 3).isLt; omega⟩ ⟨256 + (z 4).val, by have : (z 4).val < 256 := (z 4).isLt; omega⟩) := by
  obtain ⟨a, b, d, e, r, rfl⟩ : ∃ (a b d : Fin 1) (e : Fin 64) (r : Fin 256), z = ix5 a b d e r := ⟨z 0, z 1, z 2, z 3, z 4, by
    funext a; fin_cases a
    exacts [rfl, rfl, rfl, rfl, rfl]⟩
  pointwise [k0_pay79, k0_pay78]
/-- The stored tile of head 6 of the values, block 0 of positions. -/
theorem v60_at (z : S1x1x1x64x256.Idx) : k0_pay83 F z
    = F (ix2 ⟨384 + (z 3).val, by have : (z 3).val < 64 := (z 3).isLt; omega⟩ ⟨0 + (z 4).val, by have : (z 4).val < 256 := (z 4).isLt; omega⟩) := by
  obtain ⟨a, b, d, e, r, rfl⟩ : ∃ (a b d : Fin 1) (e : Fin 64) (r : Fin 256), z = ix5 a b d e r := ⟨z 0, z 1, z 2, z 3, z 4, by
    funext a; fin_cases a
    exacts [rfl, rfl, rfl, rfl, rfl]⟩
  pointwise [k0_pay83]
/-- The stored tile of head 6 of the values, block 1 of positions. -/
theorem v61_at (z : S1x1x1x64x256.Idx) : k0_pay86 F z
    = F (ix2 ⟨384 + (z 3).val, by have : (z 3).val < 64 := (z 3).isLt; omega⟩ ⟨256 + (z 4).val, by have : (z 4).val < 256 := (z 4).isLt; omega⟩) := by
  obtain ⟨a, b, d, e, r, rfl⟩ : ∃ (a b d : Fin 1) (e : Fin 64) (r : Fin 256), z = ix5 a b d e r := ⟨z 0, z 1, z 2, z 3, z 4, by
    funext a; fin_cases a
    exacts [rfl, rfl, rfl, rfl, rfl]⟩
  pointwise [k0_pay86]
/-- The stored tile of head 7 of the values, block 0 of positions. -/
theorem v70_at (z : S1x1x1x64x256.Idx) : k0_pay91 (k0_pay90 F) z
    = F (ix2 ⟨448 + (z 3).val, by have : (z 3).val < 64 := (z 3).isLt; omega⟩ ⟨0 + (z 4).val, by have : (z 4).val < 256 := (z 4).isLt; omega⟩) := by
  obtain ⟨a, b, d, e, r, rfl⟩ : ∃ (a b d : Fin 1) (e : Fin 64) (r : Fin 256), z = ix5 a b d e r := ⟨z 0, z 1, z 2, z 3, z 4, by
    funext a; fin_cases a
    exacts [rfl, rfl, rfl, rfl, rfl]⟩
  pointwise [k0_pay91, k0_pay90]
/-- The stored tile of head 7 of the values, block 1 of positions. -/
theorem v71_at (z : S1x1x1x64x256.Idx) : k0_pay93 F z
    = F (ix2 ⟨448 + (z 3).val, by have : (z 3).val < 64 := (z 3).isLt; omega⟩ ⟨256 + (z 4).val, by have : (z 4).val < 256 := (z 4).isLt; omega⟩) := by
  obtain ⟨a, b, d, e, r, rfl⟩ : ∃ (a b d : Fin 1) (e : Fin 64) (r : Fin 256), z = ix5 a b d e r := ⟨z 0, z 1, z 2, z 3, z 4, by
    funext a; fin_cases a
    exacts [rfl, rfl, rfl, rfl, rfl]⟩
  pointwise [k0_pay93]
variable (E : FVec Ideal S1024x512 .f32)

/-- The stored tile of head 0 of the second attention's values. -/
theorem b0_at (z : S1x1x1x64x512.Idx) : k0_pay125 E z = E (ix2 ⟨0 + (z 3).val, by have : (z 3).val < 64 := (z 3).isLt; omega⟩ (z 4)) := by
  obtain ⟨a, b, d, e, r, rfl⟩ : ∃ (a b d : Fin 1) (e : Fin 64) (r : Fin 512), z = ix5 a b d e r := ⟨z 0, z 1, z 2, z 3, z 4, by
    funext a; fin_cases a
    exacts [rfl, rfl, rfl, rfl, rfl]⟩
  pointwise [k0_pay125]
/-- The stored tile of head 1 of the second attention's values. -/
theorem b1_at (z : S1x1x1x64x512.Idx) : k0_pay127 E z = E (ix2 ⟨64 + (z 3).val, by have : (z 3).val < 64 := (z 3).isLt; omega⟩ (z 4)) := by
  obtain ⟨a, b, d, e, r, rfl⟩ : ∃ (a b d : Fin 1) (e : Fin 64) (r : Fin 512), z = ix5 a b d e r := ⟨z 0, z 1, z 2, z 3, z 4, by
    funext a; fin_cases a
    exacts [rfl, rfl, rfl, rfl, rfl]⟩
  pointwise [k0_pay127]
/-- The stored tile of head 2 of the second attention's values. -/
theorem b2_at (z : S1x1x1x64x512.Idx) : k0_pay131 E z = E (ix2 ⟨128 + (z 3).val, by have : (z 3).val < 64 := (z 3).isLt; omega⟩ (z 4)) := by
  obtain ⟨a, b, d, e, r, rfl⟩ : ∃ (a b d : Fin 1) (e : Fin 64) (r : Fin 512), z = ix5 a b d e r := ⟨z 0, z 1, z 2, z 3, z 4, by
    funext a; fin_cases a
    exacts [rfl, rfl, rfl, rfl, rfl]⟩
  pointwise [k0_pay131]
/-- The stored tile of head 3 of the second attention's values. -/
theorem b3_at (z : S1x1x1x64x512.Idx) : k0_pay133 E z = E (ix2 ⟨192 + (z 3).val, by have : (z 3).val < 64 := (z 3).isLt; omega⟩ (z 4)) := by
  obtain ⟨a, b, d, e, r, rfl⟩ : ∃ (a b d : Fin 1) (e : Fin 64) (r : Fin 512), z = ix5 a b d e r := ⟨z 0, z 1, z 2, z 3, z 4, by
    funext a; fin_cases a
    exacts [rfl, rfl, rfl, rfl, rfl]⟩
  pointwise [k0_pay133]
/-- The stored tile of head 4 of the second attention's values. -/
theorem b4_at (z : S1x1x1x64x512.Idx) : k0_pay137 E z = E (ix2 ⟨256 + (z 3).val, by have : (z 3).val < 64 := (z 3).isLt; omega⟩ (z 4)) := by
  obtain ⟨a, b, d, e, r, rfl⟩ : ∃ (a b d : Fin 1) (e : Fin 64) (r : Fin 512), z = ix5 a b d e r := ⟨z 0, z 1, z 2, z 3, z 4, by
    funext a; fin_cases a
    exacts [rfl, rfl, rfl, rfl, rfl]⟩
  pointwise [k0_pay137]
/-- The stored tile of head 5 of the second attention's values. -/
theorem b5_at (z : S1x1x1x64x512.Idx) : k0_pay139 E z = E (ix2 ⟨320 + (z 3).val, by have : (z 3).val < 64 := (z 3).isLt; omega⟩ (z 4)) := by
  obtain ⟨a, b, d, e, r, rfl⟩ : ∃ (a b d : Fin 1) (e : Fin 64) (r : Fin 512), z = ix5 a b d e r := ⟨z 0, z 1, z 2, z 3, z 4, by
    funext a; fin_cases a
    exacts [rfl, rfl, rfl, rfl, rfl]⟩
  pointwise [k0_pay139]
/-- The stored tile of head 6 of the second attention's values. -/
theorem b6_at (z : S1x1x1x64x512.Idx) : k0_pay142 (k0_pay141 E) z = E (ix2 ⟨384 + (z 3).val, by have : (z 3).val < 64 := (z 3).isLt; omega⟩ (z 4)) := by
  obtain ⟨a, b, d, e, r, rfl⟩ : ∃ (a b d : Fin 1) (e : Fin 64) (r : Fin 512), z = ix5 a b d e r := ⟨z 0, z 1, z 2, z 3, z 4, by
    funext a; fin_cases a
    exacts [rfl, rfl, rfl, rfl, rfl]⟩
  pointwise [k0_pay142, k0_pay141]
/-- The stored tile of head 7 of the second attention's values. -/
theorem b7_at (z : S1x1x1x64x512.Idx) : k0_pay143 E z = E (ix2 ⟨448 + (z 3).val, by have : (z 3).val < 64 := (z 3).isLt; omega⟩ (z 4)) := by
  obtain ⟨a, b, d, e, r, rfl⟩ : ∃ (a b d : Fin 1) (e : Fin 64) (r : Fin 512), z = ix5 a b d e r := ⟨z 0, z 1, z 2, z 3, z 4, by
    funext a; fin_cases a
    exacts [rfl, rfl, rfl, rfl, rfl]⟩
  pointwise [k0_pay143]
end Heads

end Cert.FirstIdeal.Val

end
-- ==== Proof.FirstVal.Out2.lean ====
module

public import proofs.«01_k».proof.Proof.FirstVal.Pay
public import Idealize.ShloMosaic.Lib.Pipeline.ValueKit.Tiles

/-! The other outputs of a grid point of the first call: the heads of the queries, keys and values. -/

@[expose] public section

set_option maxRecDepth 65536
set_option maxHeartbeats 4000000

noncomputable section

namespace Cert.FirstIdeal.Val

open Idealize.ShloMosaic Idealize.ShloMosaic.TcCoe Idealize.ShloMosaic.Tactic
open Cert.FirstIdeal Cert.FirstIdeal.Gen
open Cert
open Cert.Rows (hn)

section Blocks

variable (F : FVec Ideal S512x512 .f32) (g : Vec Ideal S64x512 .f32) (E : FVec Ideal S1024x512 .f32)

/-- The block of queries: head `f / 64` of feature `f`, position `256 * j + r`. -/
def qB : Vec Ideal S1x2x512x256 .bf16 := fun y =>
  hn (fun e => F (ix2 ⟨64 * ((y 2).val / 64) + e.val, by have : (y 2).val < 512 := (y 2).isLt; omega⟩
      ⟨256 * (y 1).val + (y 3).val, by have : (y 1).val < 2 := (y 1).isLt; have : (y 3).val < 256 := (y 3).isLt; omega⟩))
    (fun e => g (ix2 e ⟨256 * (y 1).val + (y 3).val, by have : (y 1).val < 2 := (y 1).isLt; have : (y 3).val < 256 := (y 3).isLt; omega⟩))
    ⟨(y 2).val % 64, by omega⟩

/-- The block of the first attention's values. -/
def vB : Vec Ideal S1x8x2x64x256 .bf16 := fun y =>
  F (ix2 ⟨64 * (y 1).val + (y 3).val, by have : (y 1).val < 8 := (y 1).isLt; have : (y 3).val < 64 := (y 3).isLt; omega⟩
    ⟨256 * (y 2).val + (y 4).val, by have : (y 2).val < 2 := (y 2).isLt; have : (y 4).val < 256 := (y 4).isLt; omega⟩)

/-- The block of the second attention's values. -/
def bB : Vec Ideal S1x8x1x64x512 .bf16 := fun y =>
  E (ix2 ⟨64 * (y 1).val + (y 3).val, by have : (y 1).val < 8 := (y 1).isLt; have : (y 3).val < 64 := (y 3).isLt; omega⟩ (y 4))

/-- A stored head of queries lies where the block of queries has it. -/
theorem q_place (o c : ℕ) (ho : o + 64 ≤ 512) (hc : c + 256 ≤ 512) (ho' : o % 64 = 0) (z : S1x1x64x256.Idx) (y : S1x2x512x256.Idx)
    (h1 : 256 * (y 1).val = c) (h2 : (y 2).val = o + (z 2).val) (h3 : (y 3).val = (z 3).val) :
    hn (fun e => F (ix2 ⟨o + e.val, by omega⟩ ⟨c + (z 3).val, by have : (z 3).val < 256 := (z 3).isLt; omega⟩))
      (fun e => g (ix2 e ⟨c + (z 3).val, by have : (z 3).val < 256 := (z 3).isLt; omega⟩)) (z 2) = qB F g y := by
  have hz : (z 2).val < 64 := (z 2).isLt
  have e1 : 64 * ((y 2).val / 64) = o := by omega
  have e2 : (y 2).val % 64 = (z 2).val := by omega
  simp only [qB, e1, e2, h1, h3]
  rfl

/-- A stored head of values lies where the block of values has it. -/
theorem v_place (o c : ℕ) (ho : o + 64 ≤ 512) (hc : c + 256 ≤ 512) (z : S1x1x1x64x256.Idx) (y : S1x8x2x64x256.Idx)
    (h1 : 64 * (y 1).val = o) (h2 : 256 * (y 2).val = c) (h3 : (y 3).val = (z 3).val) (h4 : (y 4).val = (z 4).val) :
    F (ix2 ⟨o + (z 3).val, by have : (z 3).val < 64 := (z 3).isLt; omega⟩ ⟨c + (z 4).val, by have : (z 4).val < 256 := (z 4).isLt; omega⟩) = vB F y := by
  simp only [vB, h1, h2, h3, h4]

/-- A stored head of the second attention's values lies where the block of them has it. -/
theorem b_place (o : ℕ) (ho : o + 64 ≤ 512) (z : S1x1x1x64x512.Idx) (y : S1x8x1x64x512.Idx)
    (h1 : 64 * (y 1).val = o) (h3 : (y 3).val = (z 3).val) (h4 : (y 4).val = (z 4).val) :
    E (ix2 ⟨o + (z 3).val, by have : (z 3).val < 64 := (z 3).isLt; omega⟩ (z 4)) = bB E y := by
  have e4 : y 4 = z 4 := Fin.ext h4
  simp only [bB, h1, h3, e4]

/-- The stored block of keys. -/
theorem key_place (G : FVec Ideal S64x512 .f32) : k0_pay94 F G (k0_pay43 F G) (k0_pay50 F G) (k0_pay57 F G) (k0_pay65 F G) (k0_pay73 G (k0_pay71 F) (k0_pay72 F)) (k0_pay80 F G) (k0_pay87 F G) = keyB F G := by
  funext y
  obtain ⟨a, i, f, rfl⟩ : ∃ (a : Fin 1) (i f : Fin 512), y = ix3 a i f := ⟨y 0, y 1, y 2, by
    funext a; fin_cases a
    exacts [rfl, rfl, rfl]⟩
  obtain rfl : a = 0 := Subsingleton.elim _ _
  have key : ∀ (o : ℕ) (ho : o + 64 ≤ 512) (h : ℕ) (hh : o = 64 * h) (hf : f.val / 64 = h)
      (hP : ∀ e : Fin 64, k0_pay94 F G (k0_pay43 F G) (k0_pay50 F G) (k0_pay57 F G) (k0_pay65 F G) (k0_pay73 G (k0_pay71 F) (k0_pay72 F)) (k0_pay80 F G) (k0_pay87 F G) (ix3 0 i ⟨o + e.val, by omega⟩) = hn (fun e => F (ix2 ⟨o + e.val, by omega⟩ i)) (fun e => G (ix2 e i)) e),
      k0_pay94 F G (k0_pay43 F G) (k0_pay50 F G) (k0_pay57 F G) (k0_pay65 F G) (k0_pay73 G (k0_pay71 F) (k0_pay72 F)) (k0_pay80 F G) (k0_pay87 F G) (ix3 0 i f) = keyB F G (ix3 0 i f) := by
    intro o ho h hh hf hP
    have hv : f = ⟨o + f.val % 64, by omega⟩ := Fin.ext (by dsimp only; omega)
    have e1 : 64 * (f.val / 64) = o := by omega
    rw [congrArg (fun q => k0_pay94 F G (k0_pay43 F G) (k0_pay50 F G) (k0_pay57 F G) (k0_pay65 F G) (k0_pay73 G (k0_pay71 F) (k0_pay72 F)) (k0_pay80 F G) (k0_pay87 F G) (ix3 0 i q)) hv]
    refine (hP ⟨f.val % 64, by omega⟩).trans ?_
    show _ = hn (fun e => F (ix2 ⟨64 * (f.val / 64) + e.val, _⟩ i)) (fun e => G (ix2 e i)) ⟨f.val % 64, _⟩
    simp only [e1]
  rcases (show f.val / 64 = 0 ∨ f.val / 64 = 1 ∨ f.val / 64 = 2 ∨ f.val / 64 = 3 ∨ f.val / 64 = 4 ∨ f.val / 64 = 5 ∨ f.val / 64 = 6 ∨ f.val / 64 = 7 by omega)
    with h | h | h | h | h | h | h | h
  · exact key 0 (by decide) 0 rfl h (keyS0_at F G i)
  · exact key 64 (by decide) 1 rfl h (keyS1_at F G i)
  · exact key 128 (by decide) 2 rfl h (keyS2_at F G i)
  · exact key 192 (by decide) 3 rfl h (keyS3_at F G i)
  · exact key 256 (by decide) 4 rfl h (keyS4_at F G i)
  · exact key 320 (by decide) 5 rfl h (keyS5_at F G i)
  · exact key 384 (by decide) 6 rfl h (keyS6_at F G i)
  · exact key 448 (by decide) 7 rfl h (keyS7_at F G i)
end Blocks

variable (m : (ℓ : Loc nD τ sig) → Buf (Elt Ideal) ℓ)

section Named

variable (x0 : Vec Ideal S1x512x1024 .f32) (x1 : Vec Ideal S1x1024 .f32) (x2 x3 : Vec Ideal S1024x2816 .bf16) (x4 : Vec Ideal S2816x1024 .bf16) (x5 : Vec Ideal S1x1024 .f32)
  (x6 : Vec Ideal S1792x1024 .bf16)

/-- The normed rows. -/
def h2B : FVec Ideal S512x1024 .bf16 := k0_pay27 (k0_pay2 x0) (innerB x0 x1 x2 x3) x4 x5

/-- The products with the projection's rows of the queries. -/
def qF (h : FVec Ideal S512x1024 .bf16) : FVec Ideal S512x512 .f32 := k0_pay34 h (k0_pay33 (View.ld x6 (Rect.unit ![0, 0] ![512, 1024] inb_S1792x1024_S512x1024_0_0)))

/-- The products with the rows of the values. -/
def vF (h : FVec Ideal S512x1024 .bf16) : FVec Ideal S512x512 .f32 := k0_pay35 h (View.ld x6 (Rect.unit ![512, 0] ![512, 1024] inb_S1792x1024_S512x1024_512_0))

/-- The products with the rows of the keys. -/
def kF (h : FVec Ideal S512x1024 .bf16) : FVec Ideal S512x512 .f32 := k0_pay32 h (View.ld x6 (Rect.unit ![1024, 0] ![512, 1024] inb_S1792x1024_S512x1024_1024_0))

/-- The products of the latent's norm with the weights of the second attention's values. -/
def bE (x7 : Vec Ideal S1024x256 .bf16) (x15 : Vec Ideal S1x128 .f32) (x16 : Vec Ideal S1024x128 .bf16) : FVec Ideal S1024x512 .f32 :=
  k0_pay30 (k0_pay29 (k0_pay2 x0) (innerB x0 x1 x2 x3) x4 x5 x7) x15 x16

end Named

/-- After a grid point its second output buffer holds the block of queries. -/
theorem body_out2 (c : Dev nD) (t : Fin cfg0.N) : (outsAt0 m c t).2.1
    = qB (qF (iblk m c 6 t) (h2B (iblk m c 0 t) (iblk m c 1 t) (iblk m c 2 t) (iblk m c 3 t) (iblk m c 4 t) (iblk m c 5 t))) (iblk m c 8 t) := by
  funext y
  unfold outsAt0
  dsimp only
  generalize iblk m c 0 t = x0, iblk m c 1 t = x1, iblk m c 2 t = x2, iblk m c 3 t = x3, iblk m c 4 t = x4, iblk m c 5 t = x5, iblk m c 6 t = x6, iblk m c 8 t = x8
  frame_open
  simp (disch := decide) only [↓ View.readCov_skip, ↓ View.readCov_cons_toLoadRect, ↓ View.readCov_fill]
  frame_out
  simp only [store5, store7, store8, store12, store13, store14, store15, store16, store19, store20, store24]
  have hi := read_inner (k0_pay3 x0 x1) (k0_pay4 x0) x2 x3
  unfold pieces piece at hi
  simp only [hi]
  clear hi
  canon_tiles x h
  · exact (q71_at _ _ x).trans (q_place _ _ 448 256 (by decide) (by decide) (by decide) x y (by omega) (by omega) (by omega))
  · exact (q70_at _ _ x).trans (q_place _ _ 448 0 (by decide) (by decide) (by decide) x y (by omega) (by omega) (by omega))
  · exact (q61_at _ _ x).trans (q_place _ _ 384 256 (by decide) (by decide) (by decide) x y (by omega) (by omega) (by omega))
  · exact (q60_at _ _ x).trans (q_place _ _ 384 0 (by decide) (by decide) (by decide) x y (by omega) (by omega) (by omega))
  · exact (q51_at _ _ x).trans (q_place _ _ 320 256 (by decide) (by decide) (by decide) x y (by omega) (by omega) (by omega))
  · exact (q50_at _ _ x).trans (q_place _ _ 320 0 (by decide) (by decide) (by decide) x y (by omega) (by omega) (by omega))
  · exact (q41_at _ _ x).trans (q_place _ _ 256 256 (by decide) (by decide) (by decide) x y (by omega) (by omega) (by omega))
  · exact (q40_at _ _ x).trans (q_place _ _ 256 0 (by decide) (by decide) (by decide) x y (by omega) (by omega) (by omega))
  · exact (q31_at _ _ x).trans (q_place _ _ 192 256 (by decide) (by decide) (by decide) x y (by omega) (by omega) (by omega))
  · exact (q30_at _ _ x).trans (q_place _ _ 192 0 (by decide) (by decide) (by decide) x y (by omega) (by omega) (by omega))
  · exact (q21_at _ _ x).trans (q_place _ _ 128 256 (by decide) (by decide) (by decide) x y (by omega) (by omega) (by omega))
  · exact (q20_at _ _ x).trans (q_place _ _ 128 0 (by decide) (by decide) (by decide) x y (by omega) (by omega) (by omega))
  · exact (q11_at _ _ x).trans (q_place _ _ 64 256 (by decide) (by decide) (by decide) x y (by omega) (by omega) (by omega))
  · exact (q10_at _ _ x).trans (q_place _ _ 64 0 (by decide) (by decide) (by decide) x y (by omega) (by omega) (by omega))
  · exact (q01_at _ _ _ x).trans (q_place _ _ 0 256 (by decide) (by decide) (by decide) x y (by omega) (by omega) (by omega))
  · exact (q00_at _ _ _ x).trans (q_place _ _ 0 0 (by decide) (by decide) (by decide) x y (by omega) (by omega) (by omega))

/-- After a grid point its third output buffer holds the block of keys. -/
theorem body_out3 (c : Dev nD) (t : Fin cfg0.N) : (outsAt0 m c t).2.2.1
    = keyB (kF (iblk m c 6 t) (h2B (iblk m c 0 t) (iblk m c 1 t) (iblk m c 2 t) (iblk m c 3 t) (iblk m c 4 t) (iblk m c 5 t))) (k0_pay37 (iblk m c 9 t)) := by
  funext y
  unfold outsAt0
  dsimp only
  generalize iblk m c 0 t = x0, iblk m c 1 t = x1, iblk m c 2 t = x2, iblk m c 3 t = x3, iblk m c 4 t = x4, iblk m c 5 t = x5, iblk m c 6 t = x6, iblk m c 9 t = x9
  frame_open
  simp (disch := decide) only [↓ View.readCov_skip, ↓ View.readCov_cons_toLoadRect, ↓ View.readCov_fill]
  frame_out
  simp only [store5, store7, store8, store12, store13, store14, store15, store16, store19, store20, store24]
  have hi := read_inner (k0_pay3 x0 x1) (k0_pay4 x0) x2 x3
  unfold pieces piece at hi
  simp only [hi]
  clear hi
  exact congrFun (key_place _ _) y

/-- After a grid point its fourth output buffer holds the block of the first attention's values. -/
theorem body_out4 (c : Dev nD) (t : Fin cfg0.N) : (outsAt0 m c t).2.2.2.1
    = vB (vF (iblk m c 6 t) (h2B (iblk m c 0 t) (iblk m c 1 t) (iblk m c 2 t) (iblk m c 3 t) (iblk m c 4 t) (iblk m c 5 t))) := by
  funext y
  unfold outsAt0
  dsimp only
  generalize iblk m c 0 t = x0, iblk m c 1 t = x1, iblk m c 2 t = x2, iblk m c 3 t = x3, iblk m c 4 t = x4, iblk m c 5 t = x5, iblk m c 6 t = x6
  frame_open
  simp (disch := decide) only [↓ View.readCov_skip, ↓ View.readCov_cons_toLoadRect, ↓ View.readCov_fill]
  frame_out
  simp only [store5, store7, store8, store12, store13, store14, store15, store16, store19, store20, store24]
  have hi := read_inner (k0_pay3 x0 x1) (k0_pay4 x0) x2 x3
  unfold pieces piece at hi
  simp only [hi]
  clear hi
  canon_tiles x h
  · exact (v71_at _ x).trans (v_place _ 448 256 (by decide) (by decide) x y (by omega) (by omega) (by omega) (by omega))
  · exact (v70_at _ x).trans (v_place _ 448 0 (by decide) (by decide) x y (by omega) (by omega) (by omega) (by omega))
  · exact (v61_at _ x).trans (v_place _ 384 256 (by decide) (by decide) x y (by omega) (by omega) (by omega) (by omega))
  · exact (v60_at _ x).trans (v_place _ 384 0 (by decide) (by decide) x y (by omega) (by omega) (by omega) (by omega))
  · exact (v51_at _ x).trans (v_place _ 320 256 (by decide) (by decide) x y (by omega) (by omega) (by omega) (by omega))
  · exact (v50_at _ x).trans (v_place _ 320 0 (by decide) (by decide) x y (by omega) (by omega) (by omega) (by omega))
  · exact (v41_at _ x).trans (v_place _ 256 256 (by decide) (by decide) x y (by omega) (by omega) (by omega) (by omega))
  · exact (v40_at _ x).trans (v_place _ 256 0 (by decide) (by decide) x y (by omega) (by omega) (by omega) (by omega))
  · exact (v31_at _ x).trans (v_place _ 192 256 (by decide) (by decide) x y (by omega) (by omega) (by omega) (by omega))
  · exact (v30_at _ x).trans (v_place _ 192 0 (by decide) (by decide) x y (by omega) (by omega) (by omega) (by omega))
  · exact (v21_at _ x).trans (v_place _ 128 256 (by decide) (by decide) x y (by omega) (by omega) (by omega) (by omega))
  · exact (v20_at _ x).trans (v_place _ 128 0 (by decide) (by decide) x y (by omega) (by omega) (by omega) (by omega))
  · exact (v11_at _ x).trans (v_place _ 64 256 (by decide) (by decide) x y (by omega) (by omega) (by omega) (by omega))
  · exact (v10_at _ x).trans (v_place _ 64 0 (by decide) (by decide) x y (by omega) (by omega) (by omega) (by omega))
  · exact (v01_at _ x).trans (v_place _ 0 256 (by decide) (by decide) x y (by omega) (by omega) (by omega) (by omega))
  · exact (v00_at _ _ x).trans (v_place _ 0 0 (by decide) (by decide) x y (by omega) (by omega) (by omega) (by omega))

/-- After a grid point its seventh output buffer holds the block of the second attention's values. -/
theorem body_out7 (c : Dev nD) (t : Fin cfg0.N) : (outsAt0 m c t).2.2.2.2.2.2
    = bB (bE (iblk m c 0 t) (iblk m c 1 t) (iblk m c 2 t) (iblk m c 3 t) (iblk m c 4 t) (iblk m c 5 t) (iblk m c 7 t) (iblk m c 15 t) (iblk m c 16 t)) := by
  funext y
  unfold outsAt0
  dsimp only
  generalize iblk m c 0 t = x0, iblk m c 1 t = x1, iblk m c 2 t = x2, iblk m c 3 t = x3, iblk m c 4 t = x4, iblk m c 5 t = x5, iblk m c 7 t = x7, iblk m c 15 t = x15, iblk m c 16 t = x16
  frame_open
  simp (disch := decide) only [↓ View.readCov_skip, ↓ View.readCov_cons_toLoadRect, ↓ View.readCov_fill]
  frame_out
  simp only [store5, store7, store8, store12, store13, store14, store15, store16, store19, store20, store24]
  have hi := read_inner (k0_pay3 x0 x1) (k0_pay4 x0) x2 x3
  unfold pieces piece at hi
  simp only [hi]
  clear hi
  canon_tiles x h
  · exact (b7_at _ x).trans (b_place _ 448 (by decide) x y (by omega) (by omega) (by omega))
  · exact (b6_at _ x).trans (b_place _ 384 (by decide) x y (by omega) (by omega) (by omega))
  · exact (b5_at _ x).trans (b_place _ 320 (by decide) x y (by omega) (by omega) (by omega))
  · exact (b4_at _ x).trans (b_place _ 256 (by decide) x y (by omega) (by omega) (by omega))
  · exact (b3_at _ x).trans (b_place _ 192 (by decide) x y (by omega) (by omega) (by omega))
  · exact (b2_at _ x).trans (b_place _ 128 (by decide) x y (by omega) (by omega) (by omega))
  · exact (b1_at _ x).trans (b_place _ 64 (by decide) x y (by omega) (by omega) (by omega))
  · exact (b0_at _ x).trans (b_place _ 0 (by decide) x y (by omega) (by omega) (by omega))

end Cert.FirstIdeal.Val

end
-- ==== Proof.FirstVal.Read.lean ====
module

public import proofs.«01_k».proof.Proof.FirstVal.Body
public import Idealize.ShloMosaic.Lib.StableHlo.RunRead

/-! Which entries of the arguments a grid point of the first call finds in its input blocks. -/

@[expose] public section

set_option maxRecDepth 65536
set_option maxHeartbeats 4000000

noncomputable section

namespace Cert.FirstIdeal.Val

open Idealize.ShloMosaic Idealize.ShloMosaic.TcCoe Idealize.ShloMosaic.Tactic
open Cert.FirstIdeal Cert.FirstIdeal.Gen

variable (m : (ℓ : Loc nD τ sig) → Buf (Elt Ideal) ℓ)

/-- Which block each window shows at a point. -/
theorem idx : ∀ t : Fin cfg0.N, win0_0.index t = ![t.val / 16, t.val % 16, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_15.index t = ![0, 0] ∧ win0_16.index t = ![0, 0]
    ∧ win0_22.index t = ![t.val / 16, t.val % 16, 0] ∧ win0_23.index t = ![t.val / 16, t.val % 16, 0, 0] ∧ win0_24.index t = ![t.val / 16, t.val % 16, 0]
    ∧ win0_25.index t = ![t.val / 16, 0, t.val % 16, 0, 0] ∧ win0_28.index t = ![t.val / 16, 0, t.val % 16, 0, 0] := by decide +kernel

/-- A point's sequence. -/
theorem seq_lt (t : Fin cfg0.N) : t.val / 16 < 4 := by have : t.val < 64 := t.isLt; omega

/-- A point's rows. -/
theorem pos_lt (t : Fin cfg0.N) (i : Fin 512) : 512 * (t.val % 16) + i.val < 8192 := by omega

/-- The stream's block. -/
theorem iblk0_at (c : Dev nD) (t : Fin cfg0.N) (i : Fin 512) (d : Fin 1024) : iblk m c 0 t (ix3 0 i d) = m ((c : Thread nD τ).loc main_arg0) (ix3 ⟨t.val / 16, seq_lt t⟩ ⟨512 * (t.val % 16) + i.val, pos_lt t i⟩ d) := by
  blk_ext! [iblk, V, idx t]

/-- The feed-forward's gains. -/
theorem iblk1_at (c : Dev nD) (t : Fin cfg0.N) (k : Fin 1024) : iblk m c 1 t (ix2 0 k) = m ((c : Thread nD τ).loc main_arg1) (ix2 0 k) := by
  have e : iblk m c 1 t (ix2 0 k) = V m c main_v95 (ix2 0 k) := by blk_ext [iblk, idx t]
  rw [e]
  dsimp only [V]
  simp only [List.flatten_cons, List.flatten_nil, List.append_nil]
  after_reads_simp
  pointwise []

/-- The gate's weights. -/
theorem iblk2_at (c : Dev nD) (t : Fin cfg0.N) (k : Fin 1024) (j : Fin 2816) : iblk m c 2 t (ix2 k j) = m ((c : Thread nD τ).loc main_arg2) (ix3 0 k j) := by
  have e : iblk m c 2 t (ix2 k j) = V m c main_v97 (ix2 k j) := by blk_ext [iblk, idx t]
  rw [e]
  dsimp only [V]
  simp only [List.flatten_cons, List.flatten_nil, List.append_nil]
  after_reads_simp
  pointwise []

/-- The other weights of the inner array. -/
theorem iblk3_at (c : Dev nD) (t : Fin cfg0.N) (k : Fin 1024) (j : Fin 2816) : iblk m c 3 t (ix2 k j) = m ((c : Thread nD τ).loc main_arg3) (ix3 0 k j) := by
  have e : iblk m c 3 t (ix2 k j) = V m c main_v99 (ix2 k j) := by blk_ext [iblk, idx t]
  rw [e]
  dsimp only [V]
  simp only [List.flatten_cons, List.flatten_nil, List.append_nil]
  after_reads_simp
  pointwise []

/-- The weights out of the inner array. -/
theorem iblk4_at (c : Dev nD) (t : Fin cfg0.N) (j : Fin 2816) (d : Fin 1024) : iblk m c 4 t (ix2 j d) = m ((c : Thread nD τ).loc main_arg4) (ix3 0 j d) := by
  have e : iblk m c 4 t (ix2 j d) = V m c main_v101 (ix2 j d) := by blk_ext [iblk, idx t]
  rw [e]
  dsimp only [V]
  simp only [List.flatten_cons, List.flatten_nil, List.append_nil]
  after_reads_simp
  pointwise []

/-- The second norm's gains. -/
theorem iblk5_at (c : Dev nD) (t : Fin cfg0.N) (k : Fin 1024) : iblk m c 5 t (ix2 0 k) = m ((c : Thread nD τ).loc main_arg5) (ix2 0 k) := by
  have e : iblk m c 5 t (ix2 0 k) = V m c main_v103 (ix2 0 k) := by blk_ext [iblk, idx t]
  rw [e]
  dsimp only [V]
  simp only [List.flatten_cons, List.flatten_nil, List.append_nil]
  after_reads_simp
  pointwise []

end Cert.FirstIdeal.Val

end
-- ==== Proof.FirstVal.Read2.lean ====
module

public import proofs.«01_k».proof.Proof.FirstVal.Read
public import Idealize.ShloMosaic.Lib.StableHlo.RunRead

/-! Which entries of the other arguments a grid point of the first call finds in its input blocks: the projections and the gains of the heads. -/

@[expose] public section

set_option maxRecDepth 65536
set_option maxHeartbeats 4000000

noncomputable section

namespace Cert.FirstIdeal.Val

open Idealize.ShloMosaic Idealize.ShloMosaic.TcCoe Idealize.ShloMosaic.Tactic
open Cert.FirstIdeal Cert.FirstIdeal.Gen

variable (m : (ℓ : Loc nD τ sig) → Buf (Elt Ideal) ℓ)

/-- The projection's rows of the first attention's queries. -/
theorem iblk6a_at (c : Dev nD) (t : Fin cfg0.N) (i : Fin 512) (k : Fin 1024) : iblk m c 6 t (ix2 ⟨0 + i.val, by omega⟩ k) = m ((c : Thread nD τ).loc main_arg6) (ix3 0 k ⟨0 + i.val, by omega⟩) := by
  have e : iblk m c 6 t (ix2 ⟨0 + i.val, by omega⟩ k) = V m c main_v7 (ix2 ⟨0 + i.val, by omega⟩ k) := by blk_ext [iblk, idx t]
  rw [e]
  dsimp only [V]
  simp only [List.flatten_cons, List.flatten_nil, List.append_nil]
  after_reads_simp
  pointwise []
  after_reads_simp
  pointwise []

/-- The projection's rows of the first attention's values. -/
theorem iblk6b_at (c : Dev nD) (t : Fin cfg0.N) (i : Fin 512) (k : Fin 1024) : iblk m c 6 t (ix2 ⟨512 + i.val, by omega⟩ k) = m ((c : Thread nD τ).loc main_arg6) (ix3 0 k ⟨1024 + i.val, by omega⟩) := by
  have e : iblk m c 6 t (ix2 ⟨512 + i.val, by omega⟩ k) = V m c main_v7 (ix2 ⟨512 + i.val, by omega⟩ k) := by blk_ext [iblk, idx t]
  rw [e]
  dsimp only [V]
  simp only [List.flatten_cons, List.flatten_nil, List.append_nil]
  after_reads_simp
  pointwise []
  after_reads_simp
  pointwise []

/-- The projection's rows of the first attention's keys. -/
theorem iblk6c_at (c : Dev nD) (t : Fin cfg0.N) (i : Fin 512) (k : Fin 1024) : iblk m c 6 t (ix2 ⟨1024 + i.val, by omega⟩ k) = m ((c : Thread nD τ).loc main_arg6) (ix3 0 k ⟨512 + i.val, by omega⟩) := by
  have e : iblk m c 6 t (ix2 ⟨1024 + i.val, by omega⟩ k) = V m c main_v7 (ix2 ⟨1024 + i.val, by omega⟩ k) := by blk_ext [iblk, idx t]
  rw [e]
  dsimp only [V]
  simp only [List.flatten_cons, List.flatten_nil, List.append_nil]
  after_reads_simp
  pointwise []
  split_ifs <;> first | omega | skip
  after_reads_simp
  pointwise []
  exact congrArg (fun q => m ((c : Thread nD τ).loc main_arg6) (ix3 0 k q)) (Fin.ext (by dsimp only; omega))

/-- The projection's columns of the second attention's latent keys and values. -/
theorem iblk7_at (c : Dev nD) (t : Fin cfg0.N) (k : Fin 1024) (l : Fin 128) : iblk m c 7 t (ix2 k ⟨l.val, by omega⟩) = m ((c : Thread nD τ).loc main_arg6) (ix3 0 k ⟨1792 + l.val, by omega⟩) := by
  have e : iblk m c 7 t (ix2 k ⟨l.val, by omega⟩) = V m c main_v14 (ix2 k ⟨l.val, by omega⟩) := by blk_ext [iblk, idx t]
  rw [e]
  dsimp only [V]
  simp only [List.flatten_cons, List.flatten_nil, List.append_nil]
  after_reads_simp
  pointwise []
  after_reads_simp
  pointwise []

/-- The queries' gains, scaled. -/
theorem iblk8_at (c : Dev nD) (t : Fin cfg0.N) (e : Fin 64) (i : Fin 512) : iblk m c 8 t (ix2 e i) = (show EReal from m ((c : Thread nD τ).loc main_arg7) (ix2 0 e)) * Ideal.ofBits .f32 0x3E38AA3B#32 := by
  have e : iblk m c 8 t (ix2 e i) = V m c main_v19 (ix2 e i) := by blk_ext [iblk, idx t]
  rw [e]
  dsimp only [V]
  simp only [List.flatten_cons, List.flatten_nil, List.append_nil]
  after_reads_simp
  pointwise []

/-- The keys' gains. -/
theorem iblk9_at (c : Dev nD) (t : Fin cfg0.N) (e : Fin 64) (i : Fin 512) : iblk m c 9 t (ix2 e i) = m ((c : Thread nD τ).loc main_arg8) (ix2 0 e) := by
  have e : iblk m c 9 t (ix2 e i) = V m c main_v22 (ix2 e i) := by blk_ext [iblk, idx t]
  rw [e]
  dsimp only [V]
  simp only [List.flatten_cons, List.flatten_nil, List.append_nil]
  after_reads_simp
  pointwise []

/-- The latent's gains. -/
theorem iblk15_at (c : Dev nD) (t : Fin cfg0.N) (l : Fin 128) : iblk m c 15 t (ix2 0 l) = m ((c : Thread nD τ).loc main_arg11) (ix2 0 l) := by
  have e : iblk m c 15 t (ix2 0 l) = V m c main_v105 (ix2 0 l) := by blk_ext [iblk, idx t]
  rw [e]
  dsimp only [V]
  simp only [List.flatten_cons, List.flatten_nil, List.append_nil]
  after_reads_simp
  pointwise []

/-- The weights of the second attention's values. -/
theorem iblk16_at (c : Dev nD) (t : Fin cfg0.N) (h : Fin 8) (e : Fin 64) (l : Fin 128) : iblk m c 16 t (ix2 ⟨64 * h.val + e.val, by omega⟩ l) = m ((c : Thread nD τ).loc main_arg12) (ix3 0 l ⟨128 * h.val + 64 + e.val, by omega⟩) := by
  have e : iblk m c 16 t (ix2 ⟨64 * h.val + e.val, by omega⟩ l) = V m c main_v85 (ix2 ⟨64 * h.val + e.val, by omega⟩ l) := by blk_ext [iblk, idx t]
  rw [e]
  dsimp only [V]
  simp only [List.flatten_cons, List.flatten_nil, List.append_nil]
  after_reads_simp
  pointwise []
  split_ifs <;> first | omega | skip
  after_reads_simp
  pointwise []
  exact congrArg (fun q => m ((c : Thread nD τ).loc main_arg12) (ix3 0 l q)) (Fin.ext (by dsimp only; omega))

end Cert.FirstIdeal.Val

end
-- ==== Proof.FirstVal.ValRun.lean ====
module

public import proofs.«01_k».proof.Proof.FirstVal.Out1
public import proofs.«01_k».proof.Proof.FirstVal.Read
public import proofs.«01_k».proof.Proof.Gen.FirstIdeal.Value

/-! The first call's first result array over the extended reals: the feed-forward's half step, row by row. -/

@[expose] public section

set_option maxRecDepth 65536
set_option maxHeartbeats 4000000

noncomputable section

namespace Cert.FirstIdeal.Val

open Idealize.ShloMosaic Idealize.ShloMosaic.TcCoe Idealize.ShloMosaic.Tactic
open Cert.FirstIdeal Cert.FirstIdeal.Gen
open Cert

variable (m : (ℓ : Loc nD τ sig) → Buf (Elt Ideal) ℓ)

/-- The result of the arguments as launched: each row after the feed-forward's half step. -/
def gF (c : Dev nD) : Vec Ideal S4x8192x1024 .f32 := fun y =>
  Rows.ffn (fun d => m ((c : Thread nD τ).loc main_arg0) (ix3 (y 0) (y 1) d)) (fun k => m ((c : Thread nD τ).loc main_arg1) (ix2 0 k))
    (fun k j => m ((c : Thread nD τ).loc main_arg2) (ix3 0 k j)) (fun k j => m ((c : Thread nD τ).loc main_arg3) (ix3 0 k j))
    (fun j d => m ((c : Thread nD τ).loc main_arg4) (ix3 0 j d)) (y 2)

/-- A point's first output block is its block of the result. -/
theorem out_at (c : Dev nD) (t : Fin cfg0.N) (i : Fin 512) (d : Fin 1024) :
    (outsAt0 m c t).1 (ix3 0 i d) = gF m c (ix3 ⟨t.val / 16, seq_lt t⟩ ⟨512 * (t.val % 16) + i.val, pos_lt t i⟩ d) := by
  rw [body_out1, pay26_at, ffnB]
  simp only [iblk0_at, iblk1_at, iblk2_at, iblk3_at, iblk4_at]
  rfl

/-- The blocks written back make up the result. -/
theorem arr22 (c : Dev nD) : (dats m 0 c).arrAt 22 cfg0.N = gF m c := by
  refine (dats m 0 c).arrAt_eq_of_covers 22 _ (by decide +kernel) fun t hf y => ?_
  blk_simp
  rw [after0_22]
  obtain ⟨z, i, d, rfl⟩ : ∃ (z : Fin 1) (i : Fin 512) (d : Fin 1024), y = ix3 z i d := ⟨y 0, y 1, y 2, by
    funext a; fin_cases a
    exacts [rfl, rfl, rfl]⟩
  obtain rfl : z = 0 := Subsingleton.elim _ _
  rw [out_at]
  symm
  blk_ext [idx t]

end Cert.FirstIdeal.Val

end
-- ==== Proof.FirstVal.Val2.lean ====
module

public import proofs.«01_k».proof.Proof.FirstVal.Out2
public import proofs.«01_k».proof.Proof.FirstVal.Read2
public import proofs.«01_k».proof.Proof.FirstVal.ValRun

/-! The first call's run over the extended reals: its queries, keys and values, array by array. -/

@[expose] public section

set_option maxRecDepth 65536
set_option maxHeartbeats 4000000

noncomputable section

namespace Cert.FirstIdeal.Val

open Idealize.ShloMosaic Idealize.ShloMosaic.TcCoe Idealize.ShloMosaic.Tactic
open Cert.FirstIdeal Cert.FirstIdeal.Gen
open Idealize.SL.Sem
open Cert
open Cert.Rows (hn)

section Block

variable (x0 : Vec Ideal S1x512x1024 .f32) (x1 : Vec Ideal S1x1024 .f32) (x2 x3 : Vec Ideal S1024x2816 .bf16) (x4 : Vec Ideal S2816x1024 .bf16) (x5 : Vec Ideal S1x1024 .f32)
  (x6 : Vec Ideal S1792x1024 .bf16) (h : FVec Ideal S512x1024 .bf16)

/-- The normed rows, one by one. -/
theorem h2B_at (i : Fin 512) (k : Fin 1024) : h2B x0 x1 x2 x3 x4 x5 (ix2 i k) = Rows.norm (ffnB x0 x1 x2 x3 x4 i) (fun k => x5 (ix2 0 k)) k := by
  pointwise [h2B, k0_pay27, pay25_at, Rows.norm, Rows.fac, Rows.len, Rows.eps]

/-- The queries' products, one by one. -/
theorem qF_at (f i : Fin 512) : qF x6 h (ix2 f i) = ∑ k : Fin 1024, h (ix2 i k) * x6 (ix2 ⟨0 + f.val, by omega⟩ k) := by
  rw [qF, pay34_at]
  refine Finset.sum_congr rfl fun k _ => (mul_comm _ _).trans (congrArg (fun z => h (ix2 i k) * z) ?_)
  pointwise []

/-- The values' products, one by one. -/
theorem vF_at (f i : Fin 512) : vF x6 h (ix2 f i) = ∑ k : Fin 1024, h (ix2 i k) * x6 (ix2 ⟨512 + f.val, by omega⟩ k) := by
  rw [vF, pay35_at]
  refine Finset.sum_congr rfl fun k _ => (mul_comm _ _).trans (congrArg (fun z => h (ix2 i k) * z) ?_)
  pointwise []

/-- The keys' products, one by one. -/
theorem kF_at (f i : Fin 512) : kF x6 h (ix2 f i) = ∑ k : Fin 1024, h (ix2 i k) * x6 (ix2 ⟨1024 + f.val, by omega⟩ k) := by
  rw [kF, pay32_at]
  refine Finset.sum_congr rfl fun k _ => (mul_comm _ _).trans (congrArg (fun z => h (ix2 i k) * z) ?_)
  pointwise []

/-- The latent's columns, one by one. -/
theorem lat_at (x7 : Vec Ideal S1024x256 .bf16) (i : Fin 512) (l : Fin 128) : k0_pay29 (k0_pay2 x0) (innerB x0 x1 x2 x3) x4 x5 x7 (ix2 i l)
    = ∑ k : Fin 1024, h2B x0 x1 x2 x3 x4 x5 (ix2 i k) * x7 (ix2 k ⟨l.val, by omega⟩) := by
  pointwise [k0_pay29, k0_pay28, h2B]

/-- The second attention's values' products, one by one. -/
theorem bE_at (x7 : Vec Ideal S1024x256 .bf16) (x15 : Vec Ideal S1x128 .f32) (x16 : Vec Ideal S1024x128 .bf16) (r : Fin 1024) (i : Fin 512) :
    bE x0 x1 x2 x3 x4 x5 x7 x15 x16 (ix2 r i) = ∑ l : Fin 128, Rows.lat (fun l => ∑ k : Fin 1024, h2B x0 x1 x2 x3 x4 x5 (ix2 i k) * x7 (ix2 k ⟨l.val, by omega⟩))
      (fun l => x15 (ix2 0 l)) l * x16 (ix2 r l) := by
  have e : bE x0 x1 x2 x3 x4 x5 x7 x15 x16 (ix2 r i) = ∑ l : Fin 128, x16 (ix2 r l) * Rows.lat (fun l => ∑ k : Fin 1024, h2B x0 x1 x2 x3 x4 x5 (ix2 i k) * x7 (ix2 k ⟨l.val, by omega⟩))
      (fun l => x15 (ix2 0 l)) l := by
    pointwise [bE, k0_pay30, lat_at, Rows.lat, Rows.eps]
  rw [e]
  exact Finset.sum_congr rfl fun _ _ => mul_comm _ _

end Block

variable (m : (ℓ : Loc nD τ sig) → Buf (Elt Ideal) ℓ)

/-- The arguments' normed rows after the feed-forward's half step. -/
def gN (c : Dev nD) (b : Fin 4) (s : Fin 8192) : Fin 1024 → EReal :=
  Rows.norm (fun d => gF m c (ix3 b s d)) fun k => m ((c : Thread nD τ).loc main_arg5) (ix2 0 k)

/-- The projection's weights. -/
def gW (c : Dev nD) (k : Fin 1024) (j : Fin 1952) : EReal := m ((c : Thread nD τ).loc main_arg6) (ix3 0 k j)

/-- The first attention's queries of the arguments. -/
def gQ (c : Dev nD) : Vec Ideal S4x32x512x256 .bf16 := fun y =>
  Rows.qh (gN m c) (gW m c) (fun e => m ((c : Thread nD τ).loc main_arg7) (ix2 0 e)) (y 0) (y 1) (y 2) (y 3)

/-- The first attention's keys of the arguments. -/
def gK (c : Dev nD) : Vec Ideal S4x8192x512 .bf16 := fun y =>
  Rows.kh (gN m c) (gW m c) (fun e => m ((c : Thread nD τ).loc main_arg8) (ix2 0 e)) (y 0) (y 1) (y 2)

/-- The first attention's values of the arguments. -/
def gV (c : Dev nD) : Vec Ideal S4x8x32x64x256 .bf16 := fun y => Rows.vh (gN m c) (gW m c) (y 0) (y 1) (y 2) (y 3) (y 4)

/-- The second attention's values of the arguments. -/
def gB (c : Dev nD) : Vec Ideal S4x8x16x64x512 .bf16 := fun y =>
  Rows.bh (gN m c) (gW m c) (fun l => m ((c : Thread nD τ).loc main_arg11) (ix2 0 l)) (fun l j => m ((c : Thread nD τ).loc main_arg12) (ix3 0 l j))
    (y 0) (y 1) (y 2) (y 3) (y 4)

/-- The normed rows of a point. -/
def h2 (c : Dev nD) (t : Fin cfg0.N) : FVec Ideal S512x1024 .bf16 :=
  h2B (iblk m c 0 t) (iblk m c 1 t) (iblk m c 2 t) (iblk m c 3 t) (iblk m c 4 t) (iblk m c 5 t)

/-- A point's normed rows are the arguments'. -/
theorem h2_at (c : Dev nD) (t : Fin cfg0.N) (i : Fin 512) (k : Fin 1024) :
    h2 m c t (ix2 i k) = gN m c ⟨t.val / 16, seq_lt t⟩ ⟨512 * (t.val % 16) + i.val, pos_lt t i⟩ k := by
  rw [h2, h2B_at, ffnB]
  simp only [iblk0_at, iblk1_at, iblk2_at, iblk3_at, iblk4_at, iblk5_at]
  rfl

/-- A point's queries' products. -/
theorem q_at (c : Dev nD) (t : Fin cfg0.N) (f i : Fin 512) : qF (iblk m c 6 t) (h2 m c t) (ix2 f i)
    = Rows.col (gN m c) (gW m c) ⟨t.val / 16, seq_lt t⟩ ⟨512 * (t.val % 16) + i.val, pos_lt t i⟩ ⟨f.val, by omega⟩ := by
  rw [qF_at]
  simp only [h2_at, iblk6a_at]
  simp only [Nat.zero_add]
  rfl

/-- A point's values' products. -/
theorem v_at (c : Dev nD) (t : Fin cfg0.N) (f i : Fin 512) : vF (iblk m c 6 t) (h2 m c t) (ix2 f i)
    = Rows.col (gN m c) (gW m c) ⟨t.val / 16, seq_lt t⟩ ⟨512 * (t.val % 16) + i.val, pos_lt t i⟩ ⟨1024 + f.val, by omega⟩ := by
  rw [vF_at]
  simp only [h2_at, iblk6b_at]
  rfl

/-- A point's keys' products. -/
theorem k_at (c : Dev nD) (t : Fin cfg0.N) (f i : Fin 512) : kF (iblk m c 6 t) (h2 m c t) (ix2 f i)
    = Rows.col (gN m c) (gW m c) ⟨t.val / 16, seq_lt t⟩ ⟨512 * (t.val % 16) + i.val, pos_lt t i⟩ ⟨512 + f.val, by omega⟩ := by
  rw [kF_at]
  simp only [h2_at, iblk6c_at]
  rfl

/-- A point's block of queries is its block of the arguments' queries. -/
theorem out2_at (c : Dev nD) (t : Fin cfg0.N) (j : Fin 2) (f : Fin 512) (r : Fin 256) : (outsAt0 m c t).2.1 (ix4 0 j f r)
    = gQ m c (ix4 ⟨t.val / 16, seq_lt t⟩ ⟨2 * (t.val % 16) + j.val, by omega⟩ f r) := by
  rw [body_out2]
  have e : 512 * (t.val % 16) + (256 * j.val + r.val) = 256 * (2 * (t.val % 16) + j.val) + r.val := by omega
  show hn (fun e => qF (iblk m c 6 t) (h2 m c t) (ix2 ⟨64 * (f.val / 64) + e.val, _⟩ ⟨256 * j.val + r.val, _⟩)) (fun e => iblk m c 8 t (ix2 e ⟨256 * j.val + r.val, _⟩)) ⟨f.val % 64, _⟩ = _
  simp only [q_at, iblk8_at, e]
  rfl

/-- A point's block of keys is its block of the arguments' keys. -/
theorem out3_at (c : Dev nD) (t : Fin cfg0.N) (i f : Fin 512) : (outsAt0 m c t).2.2.1 (ix3 0 i f)
    = gK m c (ix3 ⟨t.val / 16, seq_lt t⟩ ⟨512 * (t.val % 16) + i.val, pos_lt t i⟩ f) := by
  rw [body_out3]
  have e9 : ∀ e : Fin 64, k0_pay37 (iblk m c 9 t) (ix2 e i) = m ((c : Thread nD τ).loc main_arg8) (ix2 0 e) := fun e => by
    rw [← iblk9_at m c t e i]
    pointwise [k0_pay37]
  show hn (fun e => kF (iblk m c 6 t) (h2 m c t) (ix2 ⟨64 * (f.val / 64) + e.val, _⟩ i)) (fun e => k0_pay37 (iblk m c 9 t) (ix2 e i)) ⟨f.val % 64, _⟩ = _
  simp only [k_at, e9]
  rfl

/-- A point's block of values is its block of the arguments' values. -/
theorem out4_at (c : Dev nD) (t : Fin cfg0.N) (h : Fin 8) (j : Fin 2) (e : Fin 64) (r : Fin 256) : (outsAt0 m c t).2.2.2.1 (ix5 0 h j e r)
    = gV m c (ix5 ⟨t.val / 16, seq_lt t⟩ h ⟨2 * (t.val % 16) + j.val, by omega⟩ e r) := by
  rw [body_out4]
  have q : 512 * (t.val % 16) + (256 * j.val + r.val) = 256 * (2 * (t.val % 16) + j.val) + r.val := by omega
  show vF (iblk m c 6 t) (h2 m c t) (ix2 ⟨64 * h.val + e.val, _⟩ ⟨256 * j.val + r.val, _⟩) = _
  simp only [v_at, q]
  rfl

/-- A point's block of the second attention's values is its block of the arguments'. -/
theorem out7_at (c : Dev nD) (t : Fin cfg0.N) (h : Fin 8) (e : Fin 64) (r : Fin 512) : (outsAt0 m c t).2.2.2.2.2.2 (ix5 0 h 0 e r)
    = gB m c (ix5 ⟨t.val / 16, seq_lt t⟩ h ⟨t.val % 16, by omega⟩ e r) := by
  rw [body_out7]
  show bE _ _ _ _ _ _ _ _ _ (ix2 ⟨64 * h.val + e.val, _⟩ r) = _
  rw [bE_at]
  show (∑ l : Fin 128, Rows.lat (fun l => ∑ k : Fin 1024, h2 m c t (ix2 r k) * iblk m c 7 t (ix2 k ⟨l.val, _⟩)) (fun l => iblk m c 15 t (ix2 0 l)) l
    * iblk m c 16 t (ix2 ⟨64 * h.val + e.val, _⟩ l)) = _
  simp only [h2_at, iblk7_at, iblk15_at, iblk16_at]
  rfl

/-- The blocks written back make up the queries. -/
theorem arr23 (c : Dev nD) : (dats m 0 c).arrAt 23 cfg0.N = gQ m c := by
  refine (dats m 0 c).arrAt_eq_of_covers 23 _ (by decide +kernel) fun t hf y => ?_
  blk_simp
  rw [after0_23]
  obtain ⟨z, j, f, r, rfl⟩ : ∃ (z : Fin 1) (j : Fin 2) (f : Fin 512) (r : Fin 256), y = ix4 z j f r := ⟨y 0, y 1, y 2, y 3, by
    funext a; fin_cases a
    exacts [rfl, rfl, rfl, rfl]⟩
  obtain rfl : z = 0 := Subsingleton.elim _ _
  rw [out2_at]
  symm
  blk_ext [idx t]

/-- The blocks written back make up the keys. -/
theorem arr24 (c : Dev nD) : (dats m 0 c).arrAt 24 cfg0.N = gK m c := by
  refine (dats m 0 c).arrAt_eq_of_covers 24 _ (by decide +kernel) fun t hf y => ?_
  blk_simp
  rw [after0_24]
  obtain ⟨z, i, f, rfl⟩ : ∃ (z : Fin 1) (i f : Fin 512), y = ix3 z i f := ⟨y 0, y 1, y 2, by
    funext a; fin_cases a
    exacts [rfl, rfl, rfl]⟩
  obtain rfl : z = 0 := Subsingleton.elim _ _
  rw [out3_at]
  symm
  blk_ext [idx t]

/-- The blocks written back make up the values. -/
theorem arr25 (c : Dev nD) : (dats m 0 c).arrAt 25 cfg0.N = gV m c := by
  refine (dats m 0 c).arrAt_eq_of_covers 25 _ (by decide +kernel) fun t hf y => ?_
  blk_simp
  rw [after0_25]
  obtain ⟨z, h, j, e, r, rfl⟩ : ∃ (z : Fin 1) (h : Fin 8) (j : Fin 2) (e : Fin 64) (r : Fin 256), y = ix5 z h j e r := ⟨y 0, y 1, y 2, y 3, y 4, by
    funext a; fin_cases a
    exacts [rfl, rfl, rfl, rfl, rfl]⟩
  obtain rfl : z = 0 := Subsingleton.elim _ _
  rw [out4_at]
  symm
  blk_ext [idx t]

/-- The blocks written back make up the second attention's values. -/
theorem arr28 (c : Dev nD) : (dats m 0 c).arrAt 28 cfg0.N = gB m c := by
  refine (dats m 0 c).arrAt_eq_of_covers 28 _ (by decide +kernel) fun t hf y => ?_
  blk_simp
  rw [after0_28]
  obtain ⟨z, h, j, e, r, rfl⟩ : ∃ (z : Fin 1) (h : Fin 8) (j : Fin 1) (e : Fin 64) (r : Fin 512), y = ix5 z h j e r := ⟨y 0, y 1, y 2, y 3, y 4, by
    funext a; fin_cases a
    exacts [rfl, rfl, rfl, rfl, rfl]⟩
  obtain rfl : z = 0 := Subsingleton.elim _ _
  obtain rfl : j = 0 := Subsingleton.elim _ _
  rw [out7_at]
  symm
  blk_ext [idx t]

/-- The run: the five result arrays, and the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v106_0) = gF m c
      ∧ r.2.mem ((c.tc : Thread nD τ).loc main_v106_1) = gQ m c
      ∧ r.2.mem ((c.tc : Thread nD τ).loc main_v106_2) = gK m c
      ∧ r.2.mem ((c.tc : Thread nD τ).loc main_v106_3) = gV m c
      ∧ r.2.mem ((c.tc : Thread nD τ).loc main_v106_6) = gB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c).1.trans (arr22 m c), (h c).2.1.trans (arr23 m c), (h c).2.2.1.trans (arr24 m c),
    (h c).2.2.2.1.trans (arr25 m c), (h c).2.2.2.2.2.2.1.trans (arr28 m c), (h c).2.2.2.2.2.2.2⟩) (Cert.FirstIdeal.Value.run_blocks (F := Ideal) m ρ)

end Cert.FirstIdeal.Val

end
-- ==== Proof.FirstVal.Ref2.lean ====
module

public import proofs.«01_k».proof.Proof.PostVal.Ref
public import proofs.«01_k».proof.Proof.FirstVal.Spec
public import proofs.«01_k».proof.Proof.Gen.FirstRefIdeal.Run

/-! The first call's reference over the extended reals: the heads' queries, keys and values, stage by stage. -/

@[expose] public section

set_option maxRecDepth 65536
set_option maxHeartbeats 4000000

noncomputable section

namespace Cert.FirstRefIdeal.Rows

open Idealize.ShloMosaic Idealize.ShloMosaic.TcCoe Idealize.ShloMosaic.Tactic
open Cert.FirstRefIdeal Cert.FirstRefIdeal.Gen
open Cert.Rows (hn lat col qh kh vh bh eps)
open Cert.PostRefIdeal.Rows (ff nr nr_at ff_at)

/-- The normed rows' projection. -/
def pr (X : FVec Ideal S4x8192x1024 .f32) (gm : FVec Ideal S1x1024 .f32) (W : FVec Ideal S1x1024x1952 .f32) : FVec Ideal S4x8192x1952 .f32 :=
  Host.dotGeneral dot_S4x8192x1024_S1024x1952_S4x8192x1952_2_0_01_1_n_n none (nr X gm) (shapeCast _ W shapeCasts_S1x1024x1952_S1024x1952)

/-- The heads' factors. -/
def hf (Q : FVec Ideal S4x8192x8x64 .f32) : FVec Ideal S4x8192x8x1 .f32 :=
  Host.rsqrt (addf (Host.divf (broadcastInDim S4x8192x8x1 ![0, 1, 2] bcast_S4x8192x8_S4x8192x8x1_0_1_2 (Host.reduceAdd (mulf Q Q) (constant S_ .f32 0x00000000#32) reducesTo_S4x8192x8x64_S4x8192x8_d3 h_S_)) (broadcastInDim S4x8192x8x1 ![] bcast_S_S4x8192x8x1 (constant S_ .f32 0x42800000#32))) (broadcastInDim S4x8192x8x1 ![] bcast_S_S4x8192x8x1 (constant S_ .f32 0x358637BD#32)))

/-- The heads' norm. -/
def hr (Q : FVec Ideal S4x8192x8x64 .f32) (g : FVec Ideal S1x64 .f32) : FVec Ideal S4x8192x8x64 .f32 :=
  mulf (mulf Q (broadcastInDim S4x8192x8x64 ![0, 1, 2, 3] bcast_S4x8192x8x1_S4x8192x8x64_0_1_2_3 (hf Q))) (broadcastInDim S4x8192x8x64 ![0, 1, 2, 3] bcast_S1x1x1x64_S4x8192x8x64_0_1_2_3 (broadcastInDim S1x1x1x64 ![3] bcast_S64_S1x1x1x64_3 (shapeCast _ g shapeCasts_S1x64_S64)))

/-- The queries' columns. -/
def cq (P : FVec Ideal S4x8192x1952 .f32) : FVec Ideal S4x8192x8x64 .f32 :=
  shapeCast _ (extractStridedSlice S4x8192x512 ![0, 0, 0] P slices_S4x8192x1952_S4x8192x512_0_0_0) shapeCasts_S4x8192x512_S4x8192x8x64

/-- The keys' columns. -/
def ck (P : FVec Ideal S4x8192x1952 .f32) : FVec Ideal S4x8192x8x64 .f32 :=
  shapeCast _ (extractStridedSlice S4x8192x512 ![0, 0, 512] P slices_S4x8192x1952_S4x8192x512_0_0_512) shapeCasts_S4x8192x512_S4x8192x8x64

/-- The values' columns. -/
def cv (P : FVec Ideal S4x8192x1952 .f32) : FVec Ideal S4x8192x8x64 .f32 :=
  shapeCast _ (extractStridedSlice S4x8192x512 ![0, 0, 1024] P slices_S4x8192x1952_S4x8192x512_0_0_1024) shapeCasts_S4x8192x512_S4x8192x8x64

/-- The latent's columns. -/
def cl (P : FVec Ideal S4x8192x1952 .f32) : FVec Ideal S4x8192x128 .f32 :=
  extractStridedSlice S4x8192x128 ![0, 0, 1792] P slices_S4x8192x1952_S4x8192x128_0_0_1792

/-- The queries' result. -/
def oq (P : FVec Ideal S4x8192x1952 .f32) (g : FVec Ideal S1x64 .f32) : FVec Ideal S4x32x512x256 .bf16 :=
  truncf .bf16 (transpose S4x32x512x256 [0, 1, 3, 2] (shapeCast _ (mulf (hr (cq P) g) (broadcastInDim S4x8192x8x64 ![] bcast_S_S4x8192x8x64 (constant S_ .f32 0x3E38AA3B#32))) shapeCasts_S4x8192x8x64_S4x32x256x512) transposes_S4x32x256x512_S4x32x512x256_0_1_3_2) bitsLt_bf16_f32

/-- The keys' result. -/
def ok (P : FVec Ideal S4x8192x1952 .f32) (g : FVec Ideal S1x64 .f32) : FVec Ideal S4x8192x512 .bf16 :=
  truncf .bf16 (shapeCast _ (hr (ck P) g) shapeCasts_S4x8192x8x64_S4x8192x512) bitsLt_bf16_f32

/-- The values' result. -/
def ov (P : FVec Ideal S4x8192x1952 .f32) : FVec Ideal S4x8x32x64x256 .bf16 :=
  truncf .bf16 (transpose S4x8x32x64x256 [0, 3, 1, 4, 2] (shapeCast _ (cv P) shapeCasts_S4x8192x8x64_S4x32x256x8x64) transposes_S4x32x256x8x64_S4x8x32x64x256_0_3_1_4_2) bitsLt_bf16_f32

/-- The latent's norm. -/
def ln (L : FVec Ideal S4x8192x128 .f32) (g : FVec Ideal S1x128 .f32) : FVec Ideal S4x8192x128 .f32 :=
  mulf (mulf L (broadcastInDim S4x8192x128 ![0, 1, 2] bcast_S4x8192x1_S4x8192x128_0_1_2 (Host.rsqrt (addf (Host.divf (broadcastInDim S4x8192x1 ![0, 1] bcast_S4x8192_S4x8192x1_0_1 (Host.reduceAdd (mulf L L) (constant S_ .f32 0x00000000#32) reducesTo_S4x8192x128_S4x8192_d2 h_S_)) (broadcastInDim S4x8192x1 ![] bcast_S_S4x8192x1 (constant S_ .f32 0x43000000#32))) (broadcastInDim S4x8192x1 ![] bcast_S_S4x8192x1 (constant S_ .f32 0x358637BD#32)))))) (broadcastInDim S4x8192x128 ![0, 1, 2] bcast_S1x1x128_S4x8192x128_0_1_2 (broadcastInDim S1x1x128 ![2] bcast_S128_S1x1x128_2 (shapeCast _ g shapeCasts_S1x128_S128)))

/-- The second attention's values' result. -/
def ob (P : FVec Ideal S4x8192x1952 .f32) (g : FVec Ideal S1x128 .f32) (V : FVec Ideal S1x128x1024 .f32) : FVec Ideal S4x8x16x64x512 .bf16 :=
  truncf .bf16 (transpose S4x8x16x64x512 [0, 3, 1, 4, 2] (shapeCast _ (extractStridedSlice S4x8192x8x64 ![0, 0, 0, 64] (shapeCast _ (Host.dotGeneral dot_S4x8192x128_S128x1024_S4x8192x1024_2_0_01_1_n_n none (ln (cl P) g) (shapeCast _ V shapeCasts_S1x128x1024_S128x1024)) shapeCasts_S4x8192x1024_S4x8192x8x128) slices_S4x8192x8x128_S4x8192x8x64_0_0_0_64) shapeCasts_S4x8192x8x64_S4x16x512x8x64) transposes_S4x16x512x8x64_S4x8x16x64x512_0_3_1_4_2) bitsLt_bf16_f32

section Points

variable (P : FVec Ideal S4x8192x1952 .f32) (b : Fin 4)

/-- The queries' columns, one by one. -/
theorem cq_at (s : Fin 8192) (h : Fin 8) (e : Fin 64) : cq P (ix4 b s h e) = P (ix3 b s ⟨64 * h.val + e.val, by omega⟩) := by
  have q : h.val * 64 = 64 * h.val := Nat.mul_comm _ _
  pointwise [cq]
  simp only [q]

/-- The keys' columns, one by one. -/
theorem ck_at (s : Fin 8192) (h : Fin 8) (e : Fin 64) : ck P (ix4 b s h e) = P (ix3 b s ⟨512 + (64 * h.val + e.val), by omega⟩) := by
  have q : h.val * 64 = 64 * h.val := Nat.mul_comm _ _
  pointwise [ck]
  simp only [q]

/-- The values' columns, one by one. -/
theorem cv_at (s : Fin 8192) (h : Fin 8) (e : Fin 64) : cv P (ix4 b s h e) = P (ix3 b s ⟨1024 + (64 * h.val + e.val), by omega⟩) := by
  have q : h.val * 64 = 64 * h.val := Nat.mul_comm _ _
  pointwise [cv]
  simp only [q]

/-- The latent's columns, one by one. -/
theorem cl_at (s : Fin 8192) (l : Fin 128) : cl P (ix3 b s l) = P (ix3 b s ⟨1792 + l.val, by omega⟩) := by
  pointwise [cl]

/-- The heads' norm, one by one. -/
theorem hr_at (Q : FVec Ideal S4x8192x8x64 .f32) (g : FVec Ideal S1x64 .f32) (s : Fin 8192) (h : Fin 8) (e : Fin 64) :
    hr Q g (ix4 b s h e) = hn (fun e => Q (ix4 b s h e)) (fun e => g (ix2 0 e)) e := by
  pointwise [hr, hf, hn, eps]

/-- The latent's norm, one by one. -/
theorem ln_at (L : FVec Ideal S4x8192x128 .f32) (g : FVec Ideal S1x128 .f32) (s : Fin 8192) (l : Fin 128) :
    ln L g (ix3 b s l) = lat (fun l => L (ix3 b s l)) (fun l => g (ix2 0 l)) l := by
  pointwise [ln, lat, eps]

/-- The queries' result, one by one. -/
theorem oq_at (g : FVec Ideal S1x64 .f32) (a : Fin 32) (f : Fin 512) (r : Fin 256) : oq P g (ix4 b a f r)
    = hn (fun e => P (ix3 b ⟨256 * a.val + r.val, by omega⟩ ⟨64 * (f.val / 64) + e.val, by omega⟩)) (fun e => g (ix2 0 e)) ⟨f.val % 64, by omega⟩
      * Ideal.ofBits .f32 0x3E38AA3B#32 := by
  have q : a.val * 256 = 256 * a.val := Nat.mul_comm _ _
  pointwise [oq, hr_at, cq_at]
  simp only [q]

/-- The keys' result, one by one. -/
theorem ok_at (g : FVec Ideal S1x64 .f32) (s : Fin 8192) (f : Fin 512) : ok P g (ix3 b s f)
    = hn (fun e => P (ix3 b s ⟨512 + (64 * (f.val / 64) + e.val), by omega⟩)) (fun e => g (ix2 0 e)) ⟨f.val % 64, by omega⟩ := by
  pointwise [ok, hr_at, ck_at]

/-- The values' result, one by one. -/
theorem ov_at (h : Fin 8) (a : Fin 32) (e : Fin 64) (r : Fin 256) : ov P (ix5 b h a e r)
    = P (ix3 b ⟨256 * a.val + r.val, by omega⟩ ⟨1024 + (64 * h.val + e.val), by omega⟩) := by
  have q : a.val * 256 = 256 * a.val := Nat.mul_comm _ _
  pointwise [ov, cv_at]
  simp only [q]

/-- The second attention's values' result, one by one. -/
theorem ob_at (g : FVec Ideal S1x128 .f32) (V : FVec Ideal S1x128x1024 .f32) (h : Fin 8) (a : Fin 16) (e : Fin 64) (r : Fin 512) : ob P g V (ix5 b h a e r)
    = ∑ l : Fin 128, lat (fun l => P (ix3 b ⟨512 * a.val + r.val, by omega⟩ ⟨1792 + l.val, by omega⟩)) (fun l => g (ix2 0 l)) l * V (ix3 0 l ⟨128 * h.val + 64 + e.val, by omega⟩) := by
  have q : a.val * 512 = 512 * a.val := Nat.mul_comm _ _
  have q' : h.val * 128 = 128 * h.val := Nat.mul_comm _ _
  pointwise [ob, ln_at, cl_at]
  simp only [q, q', Nat.add_assoc]

/-- The projection, one by one. -/
theorem pr_at (X : FVec Ideal S4x8192x1024 .f32) (gm : FVec Ideal S1x1024 .f32) (W : FVec Ideal S1x1024x1952 .f32) (s : Fin 8192) (j : Fin 1952) :
    pr X gm W (ix3 b s j) = col (fun b s => Cert.Rows.norm (fun d => X (ix3 b s d)) fun k => gm (ix2 0 k)) (fun k j => W (ix3 0 k j)) b s j := by
  pointwise [pr, nr_at, col]

/-- The queries' result of the stream after the half step, one by one: the scale may go into the gains. -/
theorem q_eq (X : FVec Ideal S4x8192x1024 .f32) (gm : FVec Ideal S1x1024 .f32) (W : FVec Ideal S1x1024x1952 .f32) (g : FVec Ideal S1x64 .f32) (a : Fin 32) (f : Fin 512) (r : Fin 256) :
    oq (pr X gm W) g (ix4 b a f r) = qh (fun b s => Cert.Rows.norm (fun d => X (ix3 b s d)) fun k => gm (ix2 0 k)) (fun k j => W (ix3 0 k j)) (fun e => g (ix2 0 e)) b a f r := by
  rw [oq_at]
  simp only [pr_at, qh, hn, mul_assoc]

/-- The keys' result of the stream after the half step, one by one. -/
theorem k_eq (X : FVec Ideal S4x8192x1024 .f32) (gm : FVec Ideal S1x1024 .f32) (W : FVec Ideal S1x1024x1952 .f32) (g : FVec Ideal S1x64 .f32) (s : Fin 8192) (f : Fin 512) :
    ok (pr X gm W) g (ix3 b s f) = kh (fun b s => Cert.Rows.norm (fun d => X (ix3 b s d)) fun k => gm (ix2 0 k)) (fun k j => W (ix3 0 k j)) (fun e => g (ix2 0 e)) b s f := by
  rw [ok_at]
  simp only [pr_at, kh]

/-- The values' result of the stream after the half step, one by one. -/
theorem v_eq (X : FVec Ideal S4x8192x1024 .f32) (gm : FVec Ideal S1x1024 .f32) (W : FVec Ideal S1x1024x1952 .f32) (h : Fin 8) (a : Fin 32) (e : Fin 64) (r : Fin 256) :
    ov (pr X gm W) (ix5 b h a e r) = vh (fun b s => Cert.Rows.norm (fun d => X (ix3 b s d)) fun k => gm (ix2 0 k)) (fun k j => W (ix3 0 k j)) b h a e r := by
  rw [ov_at]
  simp only [pr_at, vh]

/-- The second attention's values' result of the stream after the half step, one by one. -/
theorem b_eq (X : FVec Ideal S4x8192x1024 .f32) (gm : FVec Ideal S1x1024 .f32) (W : FVec Ideal S1x1024x1952 .f32) (g : FVec Ideal S1x128 .f32) (V : FVec Ideal S1x128x1024 .f32)
    (h : Fin 8) (a : Fin 16) (e : Fin 64) (r : Fin 512) : ob (pr X gm W) g V (ix5 b h a e r)
    = bh (fun b s => Cert.Rows.norm (fun d => X (ix3 b s d)) fun k => gm (ix2 0 k)) (fun k j => W (ix3 0 k j)) (fun l => g (ix2 0 l)) (fun l j => V (ix3 0 l j)) b h a e r := by
  rw [ob_at]
  simp only [pr_at, bh]

end Points

section Results

variable (m : (ℓ : Loc nD τ sig) → Buf (Elt Ideal) ℓ) (c : Dev nD)

/-- The generated term of the queries is the last stage. -/
theorem res_q : Cert.FirstRefIdeal.Value.res_out1 m c = oq (pr (ff (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7)) := rfl

/-- The generated term of the keys is the last stage. -/
theorem res_k : Cert.FirstRefIdeal.Value.res_out2 m c = ok (pr (ff (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg8)) := rfl

/-- The generated term of the values is the last stage. -/
theorem res_v : Cert.FirstRefIdeal.Value.res_out3 m c = ov (pr (ff (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6))) := rfl

/-- The generated term of the second attention's values is the last stage. -/
theorem res_b : Cert.FirstRefIdeal.Value.res_out4 m c = ob (pr (ff (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg11)) (m ((c.tc : Thread nD τ).loc main_arg12)) := rfl

end Results

end Cert.FirstRefIdeal.Rows

end
-- ==== Proof.FirstVal.Ref.lean ====
module

public import proofs.«01_k».proof.Proof.PostVal.Ref
public import proofs.«01_k».proof.Proof.FirstVal.Ref2
public import proofs.«01_k».proof.Proof.Gen.FirstRefIdeal.Run

/-! The first call's reference over the extended reals: its first result is the feed-forward's half step, the same stages as in the last call's reference. -/

@[expose] public section

set_option maxRecDepth 65536
set_option maxHeartbeats 4000000

noncomputable section

namespace Cert.FirstRefIdeal.Rows

open Idealize.ShloMosaic Idealize.ShloMosaic.TcCoe Idealize.ShloMosaic.Tactic
open Idealize.SL.Sem
open Cert.FirstRefIdeal Cert.FirstRefIdeal.Gen

/-- The reference's run: its results are the feed-forward's half step of the arguments and, from it, the heads' queries, keys and values; the arguments stay as they were. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v24) = Cert.PostRefIdeal.Rows.ff (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v98) = oq (pr (Cert.PostRefIdeal.Rows.ff (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7))
      ∧ r.2.mem ((c.tc : Thread nD τ).loc main_v106) = ok (pr (Cert.PostRefIdeal.Rows.ff (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg8))
      ∧ r.2.mem ((c.tc : Thread nD τ).loc main_v101) = ov (pr (Cert.PostRefIdeal.Rows.ff (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)))
      ∧ r.2.mem ((c.tc : Thread nD τ).loc main_v104) = ob (pr (Cert.PostRefIdeal.Rows.ff (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c).1, (h c).2.1.trans (res_q m c), (h c).2.2.1.trans (res_k m c), (h c).2.2.2.1.trans (res_v m c),
    (h c).2.2.2.2.1.trans (res_b m c), (h c).2.2.2.2.2⟩) (Cert.FirstRefIdeal.Value.run (F := Ideal) m ρ)

end Cert.FirstRefIdeal.Rows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.PostIdeal.Value
public import proofs.«01_k».proof.Proof.Gen.PostRefIdeal.Run
public import proofs.«01_k».proof.Proof.Gen.ReferenceIdeal.Run
public import proofs.«01_k».proof.Proof.Gen.First
public import proofs.«01_k».proof.Proof.Gen.First.Skeleton
public import proofs.«01_k».proof.Proof.Gen.First.Launch
public import proofs.«01_k».proof.Proof.Gen.First.Points
public import proofs.«01_k».proof.Proof.Gen.First.Frame
public import proofs.«01_k».proof.Proof.Gen.FirstIdeal
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstIdeal.Frame
public import proofs.«01_k».proof.Proof.Gen.FirstRefIdeal
public import proofs.«01_k».proof.Proof.Gen.FirstIdeal.Value
public import proofs.«01_k».proof.Proof.Gen.FirstRefIdeal.Run
public import proofs.«01_k».proof.Proof.Gen.Pre_finite
public import proofs.«01_k».proof.Proof.AttnBits.AFrame
public import proofs.«01_k».proof.Proof.AttnIdeal.ValRun
public import proofs.«01_k».proof.Proof.AttnIdeal.Ref
public import proofs.«01_k».proof.Proof.AttnIdeal.Pre
public import proofs.«01_k».proof.Proof.PostVal.ValRun
public import proofs.«01_k».proof.Proof.PostVal.Ref
public import proofs.«01_k».proof.Proof.FirstVal.Val2
public import proofs.«01_k».proof.Proof.FirstVal.Ref
public import Idealize.ShloMosaic.Adequacy
public import Idealize.ShloMosaic.Init

@[expose] public section

noncomputable section

namespace Cert.Proof

open Idealize.ShloMosaic Idealize.SL.Sem Cert.Kernel

/-- The attention's reference ends with its arguments as they were and no counter set. -/
theorem frame_ref : Cert.quiescent_ReferenceIdeal (hReferenceIdeal := Cert.ReferenceIdeal.Gen.facts) := fun m g _ =>
  (θ_run Cert.ReferenceIdeal.defs _ _).mono (fun r h => And.intro (fun c => (h c).2)
    (Idealize.ShloMosaic.sem_eq_zero_of_no_sems (by decide) r.2)) (Cert.ReferenceIdeal.Value.run (F := Ideal) m g)

/-- The last call's reference ends with its arguments as they were and no counter set. -/
theorem frame_post_ref : Cert.quiescent_PostRefIdeal (hPostRefIdeal := Cert.PostRefIdeal.Gen.facts) := fun m g _ =>
  (θ_run Cert.PostRefIdeal.defs _ _).mono (fun r h => And.intro (fun c => (h c).2)
    (Idealize.ShloMosaic.sem_eq_zero_of_no_sems (by decide) r.2)) (Cert.PostRefIdeal.Value.run (F := Ideal) m g)

/-- The attention equals its reference on finite queries and keys: both end at `outG` of the arguments. -/
theorem attn : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m g m' g' hp ha => by
  have hf := Cert.KernelIdeal.Attn.fin2 m hp
  refine ⟨fun c => Cert.KernelIdeal.Attn.gM m c, Cert.KernelIdeal.AttnVal.run m g hf,
    (θ_run Cert.ReferenceIdeal.defs _ _).mono (fun r h c => ⟨(h c).1.trans ?_, (h c).2⟩) (Cert.ReferenceIdeal.Value.run (F := Ideal) m' g')⟩
  rw [Cert.ReferenceIdeal.Attn.res_eq, (ha c).1, (ha c).2.1, (ha c).2.2]
  exact Cert.ReferenceIdeal.Attn.ot_eq _ _ _ (hf c).1 (hf c).2

/-- The last call equals its reference, with no precondition: both end at `gP` of the arguments. -/
theorem post : Cert.algebraic_PostIdeal_PostRefIdeal (hPostIdeal := Cert.PostIdeal.Gen.facts) (hPostRefIdeal := Cert.PostRefIdeal.Gen.facts) := fun m g m' g' _ ha => by
  refine ⟨fun c => Cert.PostIdeal.Val.gP m c, Cert.PostIdeal.Val.run m g,
    (θ_run Cert.PostRefIdeal.defs _ _).mono (fun r h c => ⟨(h c).1.trans ?_, (h c).2⟩) (Cert.PostRefIdeal.Value.run (F := Ideal) m' g')⟩
  rw [Cert.PostRefIdeal.Rows.res_eq, (ha c).1, (ha c).2.1, (ha c).2.2.1, (ha c).2.2.2.1, (ha c).2.2.2.2.1, (ha c).2.2.2.2.2.1, (ha c).2.2.2.2.2.2.1,
    (ha c).2.2.2.2.2.2.2.1, (ha c).2.2.2.2.2.2.2.2]
  funext y
  obtain ⟨n, d, rfl⟩ : ∃ (n : Fin 32768) (d : Fin 1024), y = ix2 n d := ⟨y 0, y 1, by
    funext a; fin_cases a
    exacts [rfl, rfl]⟩
  exact Cert.PostRefIdeal.Rows.ot_at _ _ _ _ _ _ _ _ _ n d

/-- The first call's reference ends with its arguments as they were and no counter set. -/
theorem frame_first_ref : Cert.quiescent_FirstRefIdeal (hFirstRefIdeal := Cert.FirstRefIdeal.Gen.facts) := fun m g _ =>
  (θ_run Cert.FirstRefIdeal.defs _ _).mono (fun r h => And.intro (fun c => (h c).2.2.2.2.2)
    (Idealize.ShloMosaic.sem_eq_zero_of_no_sems (by decide) r.2)) (Cert.FirstRefIdeal.Value.run (F := Ideal) m g)

/-- The reference's first result of the kernel's arguments is the kernel's. -/
theorem first_x (m : (ℓ : Loc Cert.FirstIdeal.nD Cert.FirstIdeal.τ Cert.FirstIdeal.sig) → Buf (Elt Ideal) ℓ) (c : Dev Cert.FirstIdeal.nD) :
    Cert.PostRefIdeal.Rows.ff (m ((c.tc : Thread Cert.FirstIdeal.nD Cert.FirstIdeal.τ).loc Cert.FirstIdeal.main_arg0)) (m ((c.tc : Thread Cert.FirstIdeal.nD Cert.FirstIdeal.τ).loc Cert.FirstIdeal.main_arg1))
      (m ((c.tc : Thread Cert.FirstIdeal.nD Cert.FirstIdeal.τ).loc Cert.FirstIdeal.main_arg2)) (m ((c.tc : Thread Cert.FirstIdeal.nD Cert.FirstIdeal.τ).loc Cert.FirstIdeal.main_arg3))
      (m ((c.tc : Thread Cert.FirstIdeal.nD Cert.FirstIdeal.τ).loc Cert.FirstIdeal.main_arg4)) = Cert.FirstIdeal.Val.gF m c := by
  funext y
  obtain ⟨b, s, d, rfl⟩ : ∃ (b : Fin 4) (s : Fin 8192) (d : Fin 1024), y = ix3 b s d := ⟨y 0, y 1, y 2, by
    funext a; fin_cases a
    exacts [rfl, rfl, rfl]⟩
  exact Cert.PostRefIdeal.Rows.ff_at _ _ _ _ _ b s d

/-- Five of the first call's results equal the reference's, with no precondition: the stream, the first attention's queries, keys and values, and
the second attention's values, each of the arguments. -/
theorem first : Cert.algebraic_FirstIdeal_FirstRefIdeal (hFirstIdeal := Cert.FirstIdeal.Gen.facts) (hFirstRefIdeal := Cert.FirstRefIdeal.Gen.facts) := fun m g m' g' _ ha => by
  refine ⟨fun c => Cert.FirstIdeal.Val.gF m c, fun c => Cert.FirstIdeal.Val.gQ m c, fun c => Cert.FirstIdeal.Val.gK m c, fun c => Cert.FirstIdeal.Val.gV m c,
    fun c => Cert.FirstIdeal.Val.gB m c, Cert.FirstIdeal.Val.run m g,
    (θ_run Cert.FirstRefIdeal.defs _ _).mono (fun r h c => ⟨(h c).1.trans ?_, (h c).2.1.trans ?_, (h c).2.2.1.trans ?_, (h c).2.2.2.1.trans ?_,
      (h c).2.2.2.2.1.trans ?_, (h c).2.2.2.2.2⟩) (Cert.FirstRefIdeal.Rows.run m' g')⟩
  · rw [(ha c).1, (ha c).2.1, (ha c).2.2.1, (ha c).2.2.2.1, (ha c).2.2.2.2.1]
    exact first_x m c
  · rw [(ha c).1, (ha c).2.1, (ha c).2.2.1, (ha c).2.2.2.1, (ha c).2.2.2.2.1, (ha c).2.2.2.2.2.1, (ha c).2.2.2.2.2.2.1, (ha c).2.2.2.2.2.2.2.1, first_x]
    funext y
    obtain ⟨b, a, f, r, rfl⟩ : ∃ (b : Fin 4) (a : Fin 32) (f : Fin 512) (r : Fin 256), y = ix4 b a f r := ⟨y 0, y 1, y 2, y 3, by
      funext a; fin_cases a
      exacts [rfl, rfl, rfl, rfl]⟩
    exact Cert.FirstRefIdeal.Rows.q_eq b _ _ _ _ a f r
  · rw [(ha c).1, (ha c).2.1, (ha c).2.2.1, (ha c).2.2.2.1, (ha c).2.2.2.2.1, (ha c).2.2.2.2.2.1, (ha c).2.2.2.2.2.2.1, (ha c).2.2.2.2.2.2.2.2.1, first_x]
    funext y
    obtain ⟨b, s, f, rfl⟩ : ∃ (b : Fin 4) (s : Fin 8192) (f : Fin 512), y = ix3 b s f := ⟨y 0, y 1, y 2, by
      funext a; fin_cases a
      exacts [rfl, rfl, rfl]⟩
    exact Cert.FirstRefIdeal.Rows.k_eq b _ _ _ _ s f
  · rw [(ha c).1, (ha c).2.1, (ha c).2.2.1, (ha c).2.2.2.1, (ha c).2.2.2.2.1, (ha c).2.2.2.2.2.1, (ha c).2.2.2.2.2.2.1, first_x]
    funext y
    obtain ⟨b, h, a, e, r, rfl⟩ : ∃ (b : Fin 4) (h : Fin 8) (a : Fin 32) (e : Fin 64) (r : Fin 256), y = ix5 b h a e r := ⟨y 0, y 1, y 2, y 3, y 4, by
      funext a; fin_cases a
      exacts [rfl, rfl, rfl, rfl, rfl]⟩
    exact Cert.FirstRefIdeal.Rows.v_eq b _ _ _ h a e r
  · rw [(ha c).1, (ha c).2.1, (ha c).2.2.1, (ha c).2.2.2.1, (ha c).2.2.2.2.1, (ha c).2.2.2.2.2.1, (ha c).2.2.2.2.2.2.1, (ha c).2.2.2.2.2.2.2.2.2.2.2.1,
      (ha c).2.2.2.2.2.2.2.2.2.2.2.2.1, first_x]
    funext y
    obtain ⟨b, h, a, e, r, rfl⟩ : ∃ (b : Fin 4) (h : Fin 8) (a : Fin 16) (e : Fin 64) (r : Fin 512), y = ix5 b h a e r := ⟨y 0, y 1, y 2, y 3, y 4, by
      funext a; fin_cases a
      exacts [rfl, rfl, rfl, rfl, rfl]⟩
    exact Cert.FirstRefIdeal.Rows.b_eq b _ _ _ _ _ h a e r

/-- Every claim of the certificate. -/
theorem claim : Cert.Claim := ⟨Cert.Kernel.Gen.facts, Cert.KernelIdeal.Gen.facts, Cert.ReferenceIdeal.Gen.facts, Cert.Post.Gen.facts, Cert.PostIdeal.Gen.facts, Cert.PostRefIdeal.Gen.facts, Cert.First.Gen.facts, Cert.FirstIdeal.Gen.facts, Cert.FirstRefIdeal.Gen.facts, Cert.Pre_finite.Gen.facts,
  fun m g _ => Cert.Kernel.Attn.frame m g,
  fun m g _ => Cert.KernelIdeal.Attn.frame m g,
  fun m g _ => Cert.KernelIdeal.Attn.frame m g,
  fun m g _ => frame_ref m g trivial,
  fun m g _ => frame_ref m g trivial,
  fun m g _ => Cert.Post.Gen.frame m g,
  fun m g _ => Cert.PostIdeal.Gen.frame m g,
  frame_post_ref,
  fun m g _ => Cert.First.Gen.frame m g,
  fun m g _ => Cert.FirstIdeal.Gen.frame m g,
  frame_first_ref,
  IdealRules.named_const.statement Cert.KernelIdeal.κ "mask" .f32 0xF149F2CA#32 ⊥ rfl,
  attn,
  trivial,
  post,
  trivial,
  first⟩

end Cert.Proof

end
